-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_qkm [hPre_finite_qkm : Cert.Pre_finite_qkm.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_qkm.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_qkm [hPre_finite_qkm : Cert.Pre_finite_qkm.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_qkm.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite_qkm [hKernel5Ideal : Cert.Kernel5Ideal.Facts] [hPre_finite_qkm : Cert.Pre_finite_qkm.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_qkm m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite_qkm [hReference5Ideal : Cert.Reference5Ideal.Facts] [hPre_finite_qkm : Cert.Pre_finite_qkm.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_qkm m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v80_0)) (v1 : (c : Dev Cert.Kernel4Ideal.nD) → Buf (Elt Ideal) ((c.tc : Thread Cert.Kernel4Ideal.nD Cert.Kernel4Ideal.τ).loc Cert.Kernel4Ideal.main_v80_1)) (v2 : (c : Dev Cert.Kernel4Ideal.nD) → Buf (Elt Ideal) ((c.tc : Thread Cert.Kernel4Ideal.nD Cert.Kernel4Ideal.τ).loc Cert.Kernel4Ideal.main_v80_2)) (v3 : (c : Dev Cert.Kernel4Ideal.nD) → Buf (Elt Ideal) ((c.tc : Thread Cert.Kernel4Ideal.nD Cert.Kernel4Ideal.τ).loc Cert.Kernel4Ideal.main_v80_3)) (v4 : (c : Dev Cert.Kernel4Ideal.nD) → Buf (Elt Ideal) ((c.tc : Thread Cert.Kernel4Ideal.nD Cert.Kernel4Ideal.τ).loc Cert.Kernel4Ideal.main_v80_4)) (v5 : (c : Dev Cert.Kernel4Ideal.nD) → Buf (Elt Ideal) ((c.tc : Thread Cert.Kernel4Ideal.nD Cert.Kernel4Ideal.τ).loc Cert.Kernel4Ideal.main_v80_5)) (v6 : (c : Dev Cert.Kernel4Ideal.nD) → Buf (Elt Ideal) ((c.tc : Thread Cert.Kernel4Ideal.nD Cert.Kernel4Ideal.τ).loc Cert.Kernel4Ideal.main_v80_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v80_0) = v0 c
          ∧ r.2.mem ((c.tc : Thread Cert.Kernel4Ideal.nD Cert.Kernel4Ideal.τ).loc Cert.Kernel4Ideal.main_v80_1) = v1 c
          ∧ r.2.mem ((c.tc : Thread Cert.Kernel4Ideal.nD Cert.Kernel4Ideal.τ).loc Cert.Kernel4Ideal.main_v80_2) = v2 c
          ∧ r.2.mem ((c.tc : Thread Cert.Kernel4Ideal.nD Cert.Kernel4Ideal.τ).loc Cert.Kernel4Ideal.main_v80_3) = v3 c
          ∧ r.2.mem ((c.tc : Thread Cert.Kernel4Ideal.nD Cert.Kernel4Ideal.τ).loc Cert.Kernel4Ideal.main_v80_4) = v4 c
          ∧ r.2.mem ((c.tc : Thread Cert.Kernel4Ideal.nD Cert.Kernel4Ideal.τ).loc Cert.Kernel4Ideal.main_v80_5) = v5 c
          ∧ r.2.mem ((c.tc : Thread Cert.Kernel4Ideal.nD Cert.Kernel4Ideal.τ).loc Cert.Kernel4Ideal.main_v80_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v174) = v0 c
          ∧ r.2.mem ((c.tc : Thread Cert.Reference4Ideal.nD Cert.Reference4Ideal.τ).loc Cert.Reference4Ideal.main_v176) = v1 c
          ∧ r.2.mem ((c.tc : Thread Cert.Reference4Ideal.nD Cert.Reference4Ideal.τ).loc Cert.Reference4Ideal.main_v178) = v2 c
          ∧ r.2.mem ((c.tc : Thread Cert.Reference4Ideal.nD Cert.Reference4Ideal.τ).loc Cert.Reference4Ideal.main_v180) = v3 c
          ∧ r.2.mem ((c.tc : Thread Cert.Reference4Ideal.nD Cert.Reference4Ideal.τ).loc Cert.Reference4Ideal.main_v182) = v4 c
          ∧ r.2.mem ((c.tc : Thread Cert.Reference4Ideal.nD Cert.Reference4Ideal.τ).loc Cert.Reference4Ideal.main_v183) = v5 c
          ∧ r.2.mem ((c.tc : Thread Cert.Reference4Ideal.nD Cert.Reference4Ideal.τ).loc Cert.Reference4Ideal.main_v184) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  IdealRules.named_const.Statement Cert.Kernel5Ideal.κ "mask" .f32 0xF149F2CA#32 ⊥

def algebraic_Kernel5Ideal_Reference5Ideal_pre_finite_qkm [hKernel5Ideal : Cert.Kernel5Ideal.Facts] [hReference5Ideal : Cert.Reference5Ideal.Facts] [hPre_finite_qkm : Cert.Pre_finite_qkm.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_qkm m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v80) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_qk : Cert.Pre_finite_qk.Facts) (hPre_finite_qkm : Cert.Pre_finite_qkm.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_qkm (hKernel5Ideal := hKernel5Ideal) (hPre_finite_qkm := hPre_finite_qkm)
    ∧ quiescent_Reference5Ideal (hReference5Ideal := hReference5Ideal)
    ∧ quiescent_Reference5Ideal_pre_finite_qkm (hReference5Ideal := hReference5Ideal) (hPre_finite_qkm := hPre_finite_qkm)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_qkm (hKernel5Ideal := hKernel5Ideal) (hReference5Ideal := hReference5Ideal) (hPre_finite_qkm := hPre_finite_qkm)
-- ==== Pre_finite_qk.lean ====
abbrev S2x4096x2048 : Shape := ⟨3, ![2, 4096, 2048]⟩
abbrev S2x4096x1024 : Shape := ⟨3, ![2, 4096, 1024]⟩
abbrev S_ : Shape := ⟨0, ![]⟩

class Facts : Prop where
  bitsLt_bf16_f32 : FTy.bits .bf16 < FTy.bits .f32
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel

variable [Facts]

def fn {F : FTy → Type} [FloatOps F] (main_arg0 : FVec F S2x4096x2048 .bf16) (main_arg1 : FVec F S2x4096x2048 .bf16) (main_arg2 : FVec F S2x4096x1024 .bf16) : IVec S_ 1 :=
  let main_v0 : FVec F S2x4096x2048 .f32 := (extf .f32 · bitsLt_bf16_f32) main_arg0
  let main_v1 : FVec F S2x4096x2048 .f32 := Host.absf main_v0
  let main_cst : FVec F S_ .f32 := constant S_ .f32 0x7F800000#32
  let main_v2 : FVec F S2x4096x2048 .f32 := broadcastInDim S2x4096x2048 ![] bcast_S_S2x4096x2048 main_cst
  let main_v3 : IVec S2x4096x2048 1 := cmpf .olt main_v1 main_v2
  let main_c : IVec S_ 1 := constantI S_ 1 1#1
  let main_v4 : IVec S_ 1 := (fun x v => Host.reduce IntOp.andi x v reducesTo_S2x4096x2048_S_d0_1_2 h_S_) main_v3 main_c
  let main_v5 : FVec F S2x4096x2048 .f32 := (extf .f32 · bitsLt_bf16_f32) main_arg1
  let main_v6 : FVec F S2x4096x2048 .f32 := Host.absf main_v5
  let main_cst_0 : FVec F S_ .f32 := constant S_ .f32 0x7F800000#32
  let main_v7 : FVec F S2x4096x2048 .f32 := broadcastInDim S2x4096x2048 ![] bcast_S_S2x4096x2048 main_cst_0
  let main_v8 : IVec S2x4096x2048 1 := cmpf .olt main_v6 main_v7
  let main_c_1 : IVec S_ 1 := constantI S_ 1 1#1
  let main_v9 : IVec S_ 1 := (fun x v => Host.reduce IntOp.andi x v reducesTo_S2x4096x2048_S_d0_1_2 h_S_) main_v8 main_c_1
  let main_v10 : IVec S_ 1 := andi main_v4 main_v9
  main_v10
-- ==== Pre_finite_qkm.lean ====
abbrev S2x4096x1024 : Shape := ⟨3, ![2, 4096, 1024]⟩
abbrev S32x1x1024 : Shape := ⟨3, ![32, 1, 1024]⟩
abbrev S_ : Shape := ⟨0, ![]⟩

class Facts : Prop where
  bitsLt_bf16_f32 : FTy.bits .bf16 < FTy.bits .f32
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S32x1x1024 : S_.BroadcastsInDim S32x1x1024 (![] : Fin 0 → Fin S32x1x1024.rank)
  reducesTo_S32x1x1024_S_d0_1_2 : S32x1x1024.ReducesTo [0, 1, 2] S_

variable [Facts]

def fn {F : FTy → Type} [FloatOps F] (main_arg0 : FVec F S2x4096x1024 .bf16) (main_arg1 : FVec F S2x4096x1024 .bf16) (main_arg2 : FVec F S2x4096x1024 .bf16) (main_arg3 : FVec F S32x1x1024 .f32) : IVec S_ 1 :=
  let main_v0 : FVec F S2x4096x1024 .f32 := (extf .f32 · bitsLt_bf16_f32) main_arg0
  let main_v1 : FVec F S2x4096x1024 .f32 := Host.absf main_v0
  let main_cst : FVec F S_ .f32 := constant S_ .f32 0x7F800000#32
  let main_v2 : FVec F S2x4096x1024 .f32 := broadcastInDim S2x4096x1024 ![] bcast_S_S2x4096x1024 main_cst
  let main_v3 : IVec S2x4096x1024 1 := cmpf .olt main_v1 main_v2
  let main_c : IVec S_ 1 := constantI S_ 1 1#1
  let main_v4 : IVec S_ 1 := (fun x v => Host.reduce IntOp.andi x v reducesTo_S2x4096x1024_S_d0_1_2 h_S_) main_v3 main_c
  let main_v5 : FVec F S2x4096x1024 .f32 := (extf .f32 · bitsLt_bf16_f32) main_arg1
  let main_v6 : FVec F S2x4096x1024 .f32 := Host.absf main_v5
  let main_cst_0 : FVec F S_ .f32 := constant S_ .f32 0x7F800000#32
  let main_v7 : FVec F S2x4096x1024 .f32 := broadcastInDim S2x4096x1024 ![] bcast_S_S2x4096x1024 main_cst_0
  let main_v8 : IVec S2x4096x1024 1 := cmpf .olt main_v6 main_v7
  let main_c_1 : IVec S_ 1 := constantI S_ 1 1#1
  let main_v9 : IVec S_ 1 := (fun x v => Host.reduce IntOp.andi x v reducesTo_S2x4096x1024_S_d0_1_2 h_S_) main_v8 main_c_1
  let main_v10 : IVec S_ 1 := andi main_v4 main_v9
  let main_v11 : FVec F S32x1x1024 .f32 := Host.absf main_arg3
  let main_cst_2 : FVec F S_ .f32 := constant S_ .f32 0x7F800000#32
  let main_v12 : FVec F S32x1x1024 .f32 := broadcastInDim S32x1x1024 ![] bcast_S_S32x1x1024 main_cst_2
  let main_v13 : IVec S32x1x1024 1 := cmpf .olt main_v11 main_v12
  let main_c_3 : IVec S_ 1 := constantI S_ 1 1#1
  let main_v14 : IVec S_ 1 := (fun x v => Host.reduce IntOp.andi x v reducesTo_S32x1x1024_S_d0_1_2 h_S_) main_v13 main_c_3
  let main_v15 : IVec S_ 1 := andi main_v10 main_v14
  main_v15
-- ==== Kernel.lean ====
abbrev S2x4096x2048 : Shape := ⟨3, ![2, 4096, 2048]⟩
abbrev S2x4096x1024 : Shape := ⟨3, ![2, 4096, 1024]⟩
abbrev S1x256x256 : Shape := ⟨3, ![1, 256, 256]⟩
abbrev S1x4096x256 : Shape := ⟨3, ![1, 4096, 256]⟩
abbrev S1x4096x128 : Shape := ⟨3, ![1, 4096, 128]⟩
abbrev S1x256x128 : Shape := ⟨3, ![1, 256, 128]⟩
abbrev S256x1 : Shape := ⟨2, ![256, 1]⟩
abbrev S256x128 : Shape := ⟨2, ![256, 128]⟩
abbrev S256x256 : Shape := ⟨2, ![256, 256]⟩
abbrev S256 : Shape := ⟨1, ![256]⟩

abbrev nBuf : Space → Nat
  | .hbm => 4
  | .vmem => 11
  | .smem => 0
  | _ => 0

abbrev bufTy : (tb : Table) → Fin (tcTables nBuf tb) → BufTy
  | .hbm, ⟨0, _⟩ => ⟨S2x4096x2048, .bf16⟩
  | .hbm, ⟨1, _⟩ => ⟨S2x4096x2048, .bf16⟩
  | .hbm, ⟨2, _⟩ => ⟨S2x4096x1024, .bf16⟩
  | .hbm, ⟨3, _⟩ => ⟨S2x4096x1024, .f32⟩
  | .local _ .vmem, ⟨0, _⟩ => ⟨S1x256x256, .bf16⟩
  | .local _ .vmem, ⟨1, _⟩ => ⟨S1x256x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x128, .f32⟩
  | .local _ .vmem, ⟨7, _⟩ => ⟨S1x256x128, .f32⟩
  | .local _ .vmem, ⟨8, _⟩ => ⟨S256x1, .f32⟩
  | .local _ .vmem, ⟨9, _⟩ => ⟨S256x1, .f32⟩
  | .local _ .vmem, ⟨10, _⟩ => ⟨S256x128, .f32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 16], ![false, false, false]⟩

def k0_mult1 (i : grid0.Coords) : BitVec 32 :=
  let arg2 : BitVec 32 := BitVec.ofNat 32 (i 2).val
  let c256_i32 : BitVec 32 := 256#32
  let v2 : BitVec 32 := Scalar.muli arg2 c256_i32
  v2
def k0_off1 (i : grid0.Coords) : Fin 3 → Nat :=
  let c0_2 : Index := 0#32
  let arg2 : BitVec 32 := BitVec.ofNat 32 (i 2).val
  let c256_i32 : BitVec 32 := 256#32
  let v2 : BitVec 32 := Scalar.muli arg2 c256_i32
  let v3 : BitVec 32 := v2
  let v4 : Index := Scalar.indexCast v3
  let c0_3 : Index := 0#32
  ![0, v4.toNat, 0]
def k0_off2 (i : grid0.Coords) : Fin 3 → Nat :=
  let c0_4 : Index := 0#32
  let arg2 : BitVec 32 := BitVec.ofNat 32 (i 2).val
  let c256_i32 : BitVec 32 := 256#32
  let v2 : BitVec 32 := Scalar.muli arg2 c256_i32
  let v3 : BitVec 32 := v2
  let v7 : Index := Scalar.indexCast v3
  let c0_5 : Index := 0#32
  ![0, v7.toNat, 0]
@[reducible] def k0_t1_loop (i : grid0.Coords) : Scf.Loop 32 :=
  let c0_i32_17 : BitVec 32 := 0#32
  let arg2 : BitVec 32 := BitVec.ofNat 32 (i 2).val
  let v36 : BitVec 32 := Scalar.subi arg2 c0_i32_17
  let c1_i32 : BitVec 32 := 1#32
  let v38 : BitVec 32 := Scalar.divsi v36 c1_i32
  let v39 : BitVec 32 := Scalar.muli v38 c1_i32
  let v40 : BitVec 32 := Scalar.addi c0_i32_17 v39
  let c1_i32_18 : BitVec 32 := 1#32
  ⟨c0_i32_17, v40, c1_i32_18⟩
def k0_mult2 (i : grid0.Coords) (k0_t1 : Fin (k0_t1_loop i).trips) : BitVec 32 :=
  let c0_i32_17 : BitVec 32 := 0#32
  let c1_i32_18 : BitVec 32 := 1#32
  let arg10 : BitVec 32 := Scf.iv c0_i32_17 c1_i32_18 k0_t1
  let c256_i32_27 : BitVec 32 := 256#32
  let v48 : BitVec 32 := Scalar.muli arg10 c256_i32_27
  v48
def k0_off3 (i : grid0.Coords) (k0_t1 : Fin (k0_t1_loop i).trips) : Fin 3 → Nat :=
  let c0_28 : Index := 0#32
  let c0_i32_17 : BitVec 32 := 0#32
  let c1_i32_18 : BitVec 32 := 1#32
  let arg10 : BitVec 32 := Scf.iv c0_i32_17 c1_i32_18 k0_t1
  let c256_i32_27 : BitVec 32 := 256#32
  let v48 : BitVec 32 := Scalar.muli arg10 c256_i32_27
  let v49 : BitVec 32 := v48
  let v50 : Index := Scalar.indexCast v49
  let c0_29 : Index := 0#32
  ![0, v50.toNat, 0]
def k0_off4 (i : grid0.Coords) (k0_t1 : Fin (k0_t1_loop i).trips) : Fin 3 → Nat :=
  let c0_30 : Index := 0#32
  let c0_i32_17 : BitVec 32 := 0#32
  let c1_i32_18 : BitVec 32 := 1#32
  let arg10 : BitVec 32 := Scf.iv c0_i32_17 c1_i32_18 k0_t1
  let c256_i32_27 : BitVec 32 := 256#32
  let v48 : BitVec 32 := Scalar.muli arg10 c256_i32_27
  let v49 : BitVec 32 := v48
  let v53 : Index := Scalar.indexCast v49
  let c0_31 : Index := 0#32
  ![0, v53.toNat, 0]
@[reducible] def k0_t2_loop (i : grid0.Coords) : Scf.Loop 32 :=
  let c0_i32_17 : BitVec 32 := 0#32
  let arg2 : BitVec 32 := BitVec.ofNat 32 (i 2).val
  let v36 : BitVec 32 := Scalar.subi arg2 c0_i32_17
  let c1_i32 : BitVec 32 := 1#32
  let v38 : BitVec 32 := Scalar.divsi v36 c1_i32
  let v39 : BitVec 32 := Scalar.muli v38 c1_i32
  let v40 : BitVec 32 := Scalar.addi c0_i32_17 v39
  let v37 : BitVec 32 := Scalar.addi c0_i32_17 v36
  let c1_i32_19 : BitVec 32 := 1#32
  ⟨v40, v37, c1_i32_19⟩
def k0_mult3 (i : grid0.Coords) (k0_t2 : Fin (k0_t2_loop i).trips) : BitVec 32 :=
  let c0_i32_17 : BitVec 32 := 0#32
  let arg2 : BitVec 32 := BitVec.ofNat 32 (i 2).val
  let v36 : BitVec 32 := Scalar.subi arg2 c0_i32_17
  let c1_i32 : BitVec 32 := 1#32
  let v38 : BitVec 32 := Scalar.divsi v36 c1_i32
  let v39 : BitVec 32 := Scalar.muli v38 c1_i32
  let v40 : BitVec 32 := Scalar.addi c0_i32_17 v39
  let c1_i32_19 : BitVec 32 := 1#32
  let arg10 : BitVec 32 := Scf.iv v40 c1_i32_19 k0_t2
  let c256_i32_27 : BitVec 32 := 256#32
  let v48 : BitVec 32 := Scalar.muli arg10 c256_i32_27
  v48
def k0_off5 (i : grid0.Coords) (k0_t2 : Fin (k0_t2_loop i).trips) : Fin 3 → Nat :=
  let c0_28 : Index := 0#32
  let c0_i32_17 : BitVec 32 := 0#32
  let arg2 : BitVec 32 := BitVec.ofNat 32 (i 2).val
  let v36 : BitVec 32 := Scalar.subi arg2 c0_i32_17
  let c1_i32 : BitVec 32 := 1#32
  let v38 : BitVec 32 := Scalar.divsi v36 c1_i32
  let v39 : BitVec 32 := Scalar.muli v38 c1_i32
  let v40 : BitVec 32 := Scalar.addi c0_i32_17 v39
  let c1_i32_19 : BitVec 32 := 1#32
  let arg10 : BitVec 32 := Scf.iv v40 c1_i32_19 k0_t2
  let c256_i32_27 : BitVec 32 := 256#32
  let v48 : BitVec 32 := Scalar.muli arg10 c256_i32_27
  let v49 : BitVec 32 := v48
  let v50 : Index := Scalar.indexCast v49
  let c0_29 : Index := 0#32
  ![0, v50.toNat, 0]
def k0_off6 (i : grid0.Coords) (k0_t2 : Fin (k0_t2_loop i).trips) : Fin 3 → Nat :=
  let c0_30 : Index := 0#32
  let c0_i32_17 : BitVec 32 := 0#32
  let arg2 : BitVec 32 := BitVec.ofNat 32 (i 2).val
  let v36 : BitVec 32 := Scalar.subi arg2 c0_i32_17
  let c1_i32 : BitVec 32 := 1#32
  let v38 : BitVec 32 := Scalar.divsi v36 c1_i32
  let v39 : BitVec 32 := Scalar.muli v38 c1_i32
  let v40 : BitVec 32 := Scalar.addi c0_i32_17 v39
  let c1_i32_19 : BitVec 32 := 1#32
  let arg10 : BitVec 32 := Scf.iv v40 c1_i32_19 k0_t2
  let c256_i32_27 : BitVec 32 := 256#32
  let v48 : BitVec 32 := Scalar.muli arg10 c256_i32_27
  let v49 : BitVec 32 := v48
  let v53 : Index := Scalar.indexCast v49
  let c0_31 : Index := 0#32
  ![0, v53.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x4096x2048 : Shape := ⟨3, ![2, 4096, 2048]⟩
abbrev S2x4096x1024 : Shape := ⟨3, ![2, 4096, 1024]⟩
abbrev S2x4096x8x256 : Shape := ⟨4, ![2, 4096, 8, 256]⟩
abbrev S2x8x4096x256 : Shape := ⟨4, ![2, 8, 4096, 256]⟩
abbrev S2x4096x8x128 : Shape := ⟨4, ![2, 4096, 8, 128]⟩
abbrev S2x8x4096x128 : Shape := ⟨4, ![2, 8, 4096, 128]⟩
abbrev S4096 : Shape := ⟨1, ![4096]⟩
abbrev S2x8x4096x4096 : Shape := ⟨4, ![2, 8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S2x8x4096 : Shape := ⟨3, ![2, 8, 4096]⟩
abbrev S2x8x4096x1 : Shape := ⟨4, ![2, 8, 4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2x4096x2048, .bf16⟩
  | .hbm, ⟨2, _⟩ => ⟨S2x4096x1024, .bf16⟩
  | .hbm, ⟨3, _⟩ => ⟨S2x4096x2048, .f32⟩
  | .hbm, ⟨4, _⟩ => ⟨S2x4096x8x256, .f32⟩
  | .hbm, ⟨5, _⟩ => ⟨S2x8x4096x256, .f32⟩
  | .hbm, ⟨6, _⟩ => ⟨S2x4096x2048, .f32⟩
  | .hbm, ⟨7, _⟩ => ⟨S2x4096x8x256, .f32⟩
  | .hbm, ⟨8, _⟩ => ⟨S2x8x4096x256, .f32⟩
  | .hbm, ⟨9, _⟩ => ⟨S2x4096x1024, .f32⟩
  | .hbm, ⟨10, _⟩ => ⟨S2x4096x8x128, .f32⟩
  | .hbm, ⟨11, _⟩ => ⟨S2x8x4096x128, .f32⟩
  | .hbm, ⟨12, _⟩ => ⟨S4096, .i32⟩
  | .hbm, ⟨13, _⟩ => ⟨S2x8x4096x4096, .f32⟩
  | .hbm, ⟨14, _⟩ => ⟨S_, .f32⟩
  | .hbm, ⟨15, _⟩ => ⟨S2x8x4096x4096, .f32⟩
  | .hbm, ⟨16, _⟩ => ⟨S2x8x4096x4096, .f32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S_, .f32⟩
  | .hbm, ⟨23, _⟩ => ⟨S_, .f32⟩
  | .hbm, ⟨24, _⟩ => ⟨S2x8x4096x4096, .i1⟩
  | .hbm, ⟨25, _⟩ => ⟨S2x8x4096x4096, .f32⟩
  | .hbm, ⟨26, _⟩ => ⟨S2x8x4096x4096, .f32⟩
  | .hbm, ⟨27, _⟩ => ⟨S_, .f32⟩
  | .hbm, ⟨28, _⟩ => ⟨S2x8x4096, .f32⟩
  | .hbm, ⟨29, _⟩ => ⟨S_, .f32⟩
  | .hbm, ⟨30, _⟩ => ⟨S2x8x4096, .f32⟩
  | .hbm, ⟨31, _⟩ => ⟨S2x8x4096, .f32⟩
  | .hbm, ⟨32, _⟩ => ⟨S2x8x4096x1, .f32⟩
  | .hbm, ⟨33, _⟩ => ⟨S2x8x4096x4096, .f32⟩
  | .hbm, ⟨34, _⟩ => ⟨S2x8x4096x4096, .f32⟩
  | .hbm, ⟨35, _⟩ => ⟨S2x8x4096x4096, .f32⟩
  | .hbm, ⟨36, _⟩ => ⟨S_, .f32⟩
  | .hbm, ⟨37, _⟩ => ⟨S2x8x4096, .f32⟩
  | .hbm, ⟨38, _⟩ => ⟨S2x8x4096x1, .f32⟩
  | .hbm, ⟨39, _⟩ => ⟨S2x8x4096x4096, .f32⟩
  | .hbm, ⟨40, _⟩ => ⟨S2x8x4096x4096, .f32⟩
  | .hbm, ⟨41, _⟩ => ⟨S2x8x4096x128, .f32⟩
  | .hbm, ⟨42, _⟩ => ⟨S2x4096x8x128, .f32⟩
  | .hbm, ⟨43, _⟩ => ⟨S2x4096x1024, .f32⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel2.lean ====
abbrev S8192x2048 : Shape := ⟨2, ![8192, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 17
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S2048x5632, .f32⟩
  | .hbm, ⟨9, _⟩ => ⟨S2048x5632, .bf16⟩
  | .hbm, ⟨10, _⟩ => ⟨S2048x5632, .f32⟩
  | .hbm, ⟨11, _⟩ => ⟨S2048x5632, .bf16⟩
  | .hbm, ⟨12, _⟩ => ⟨S5632x2048, .f32⟩
  | .hbm, ⟨13, _⟩ => ⟨S5632x2048, .bf16⟩
  | .hbm, ⟨14, _⟩ => ⟨S2048, .f32⟩
  | .hbm, ⟨15, _⟩ => ⟨S1x2048, .f32⟩
  | .hbm, ⟨16, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S8192x2048 : Shape := ⟨2, ![8192, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x5632 : Shape := ⟨2, ![2048, 5632]⟩
abbrev S8192x5632 : Shape := ⟨2, ![8192, 5632]⟩
abbrev S5632x2048 : Shape := ⟨2, ![5632, 2048]⟩

abbrev nBuf : Space → Nat
  | .hbm => 60
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S2048x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S_, .f32⟩
  | .hbm, ⟨28, _⟩ => ⟨S8192x5632, .f32⟩
  | .hbm, ⟨29, _⟩ => ⟨S8192x5632, .f32⟩
  | .hbm, ⟨30, _⟩ => ⟨S_, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S2048x5632, .f32⟩
  | .hbm, ⟨35, _⟩ => ⟨S8192x5632, .f32⟩
  | .hbm, ⟨36, _⟩ => ⟨S8192x5632, .f32⟩
  | .hbm, ⟨37, _⟩ => ⟨S5632x2048, .f32⟩
  | .hbm, ⟨38, _⟩ => ⟨S8192x2048, .f32⟩
  | .hbm, ⟨39, _⟩ => ⟨S2048, .f32⟩
  | .hbm, ⟨40, _⟩ => ⟨S8192x2048, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x2048, .f32⟩
  | .hbm, ⟨52, _⟩ => ⟨S8192x2048, .f32⟩
  | .hbm, ⟨53, _⟩ => ⟨S1x2048, .f32⟩
  | .hbm, ⟨54, _⟩ => ⟨S8192x2048, .f32⟩
  | .hbm, ⟨55, _⟩ => ⟨S8192x2048, .f32⟩
  | .hbm, ⟨56, _⟩ => ⟨S_, .f32⟩
  | .hbm, ⟨57, _⟩ => ⟨S8192x2048, .f32⟩
  | .hbm, ⟨58, _⟩ => ⟨S8192x2048, .f32⟩
  | .hbm, ⟨59, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Kernel3.lean ====
abbrev S8192x2048 : Shape := ⟨2, ![8192, 2048]⟩
abbrev S8192x1024 : Shape := ⟨2, ![8192, 1024]⟩
abbrev S1x1024 : Shape := ⟨2, ![1, 1024]⟩
abbrev S1x2048x2048 : Shape := ⟨3, ![1, 2048, 2048]⟩
abbrev S1x2048 : Shape := ⟨2, ![1, 2048]⟩
abbrev S1024 : Shape := ⟨1, ![1024]⟩
abbrev S2048x2048 : Shape := ⟨2, ![2048, 2048]⟩
abbrev S2048 : Shape := ⟨1, ![2048]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024x2048 : Shape := ⟨2, ![1024, 2048]⟩

abbrev nBuf : Space → Nat
  | .hbm => 16
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x2048x2048, .f32⟩
  | .hbm, ⟨6, _⟩ => ⟨S1x2048, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S2048x2048, .f32⟩
  | .hbm, ⟨12, _⟩ => ⟨S2048x2048, .bf16⟩
  | .hbm, ⟨13, _⟩ => ⟨S2048, .f32⟩
  | .hbm, ⟨14, _⟩ => ⟨S1x2048, .f32⟩
  | .hbm, ⟨15, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S2048x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S8192x2048 : Shape := ⟨2, ![8192, 2048]⟩
abbrev S8192x1024 : Shape := ⟨2, ![8192, 1024]⟩
abbrev S1x1024 : Shape := ⟨2, ![1, 1024]⟩
abbrev S1x2048x2048 : Shape := ⟨3, ![1, 2048, 2048]⟩
abbrev S1x2048 : Shape := ⟨2, ![1, 2048]⟩
abbrev S1024 : Shape := ⟨1, ![1024]⟩
abbrev S_ : Shape := ⟨0, ![]⟩
abbrev S8192 : Shape := ⟨1, ![8192]⟩
abbrev S8192x1 : Shape := ⟨2, ![8192, 1]⟩
abbrev S2048x2048 : Shape := ⟨2, ![2048, 2048]⟩
abbrev S2048 : Shape := ⟨1, ![2048]⟩

abbrev nBuf : Space → Nat
  | .hbm => 62
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x2048x2048, .f32⟩
  | .hbm, ⟨6, _⟩ => ⟨S1x2048, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x2048, .f32⟩
  | .hbm, ⟨42, _⟩ => ⟨S2048x2048, .f32⟩
  | .hbm, ⟨43, _⟩ => ⟨S8192x2048, .f32⟩
  | .hbm, ⟨44, _⟩ => ⟨S2048, .f32⟩
  | .hbm, ⟨45, _⟩ => ⟨S8192x2048, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S8192x2048, .f32⟩
  | .hbm, ⟨57, _⟩ => ⟨S8192x2048, .f32⟩
  | .hbm, ⟨58, _⟩ => ⟨S1x2048, .f32⟩
  | .hbm, ⟨59, _⟩ => ⟨S8192x2048, .f32⟩
  | .hbm, ⟨60, _⟩ => ⟨S8192x2048, .f32⟩
  | .hbm, ⟨61, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Kernel4.lean ====
abbrev S8192x2048 : Shape := ⟨2, ![8192, 2048]⟩
abbrev S1x2048 : Shape := ⟨2, ![1, 2048]⟩
abbrev S1x2048x3904 : Shape := ⟨3, ![1, 2048, 3904]⟩
abbrev S1x512 : Shape := ⟨2, ![1, 512]⟩
abbrev S1x256 : Shape := ⟨2, ![1, 256]⟩
abbrev S1x512x1536 : Shape := ⟨3, ![1, 512, 1536]⟩
abbrev S1x256x2048 : Shape := ⟨3, ![1, 256, 2048]⟩
abbrev S4096 : Shape := ⟨1, ![4096]⟩
abbrev S4096x1 : Shape := ⟨2, ![4096, 1]⟩
abbrev S64 : Shape := ⟨1, ![64]⟩
abbrev S_ : Shape := ⟨0, ![]⟩
abbrev S1x64 : Shape := ⟨2, ![1, 64]⟩
abbrev S4096x64 : Shape := ⟨2, ![4096, 64]⟩
abbrev S4096x128 : Shape := ⟨2, ![4096, 128]⟩
abbrev S32 : Shape := ⟨1, ![32]⟩
abbrev S1x32 : Shape := ⟨2, ![1, 32]⟩
abbrev S4096x32 : Shape := ⟨2, ![4096, 32]⟩
abbrev S2048x3904 : Shape := ⟨2, ![2048, 3904]⟩
abbrev S2048x768 : Shape := ⟨2, ![2048, 768]⟩
abbrev S2048x64 : Shape := ⟨2, ![2048, 64]⟩
abbrev S2048x32 : Shape := ⟨2, ![2048, 32]⟩
abbrev S2048x128 : Shape := ⟨2, ![2048, 128]⟩
abbrev S2048x3072 : Shape := ⟨2, ![2048, 3072]⟩
abbrev S2048x3968 : Shape := ⟨2, ![2048, 3968]⟩
abbrev S512x1536 : Shape := ⟨2, ![512, 1536]⟩
abbrev S512x8x192 : Shape := ⟨3, ![512, 8, 192]⟩
abbrev S512x8x128 : Shape := ⟨3, ![512, 8, 128]⟩
abbrev S512x8x64 : Shape := ⟨3, ![512, 8, 64]⟩
abbrev S512x8x32 : Shape := ⟨3, ![512, 8, 32]⟩
abbrev S512x8x256 : Shape := ⟨3, ![512, 8, 256]⟩
abbrev S512x2048 : Shape := ⟨2, ![512, 2048]⟩
abbrev S256x2048 : Shape := ⟨2, ![256, 2048]⟩
abbrev S256x8x256 : Shape := ⟨3, ![256, 8, 256]⟩
abbrev S256x8x128 : Shape := ⟨3, ![256, 8, 128]⟩
abbrev S256x1024 : Shape := ⟨2, ![256, 1024]⟩
abbrev S2048 : Shape := ⟨1, ![2048]⟩
abbrev S512 : Shape := ⟨1, ![512]⟩
abbrev S256 : Shape := ⟨1, ![256]⟩
abbrev S8192x1024 : Shape := ⟨2, ![8192, 1024]⟩
abbrev S32x1x1024 : Shape := ⟨3, ![32, 1, 1024]⟩
abbrev S256x128 : Shape := ⟨2, ![256, 128]⟩
abbrev S1x1x1024 : Shape := ⟨3, ![1, 1, 1024]⟩
abbrev S256x1 : Shape := ⟨2, ![256, 1]⟩
abbrev S2048x512 : Shape := ⟨2, ![2048, 512]⟩
abbrev S256x512 : Shape := ⟨2, ![256, 512]⟩
abbrev S2048x256 : Shape := ⟨2, ![2048, 256]⟩
abbrev S256x256 : Shape := ⟨2, ![256, 256]⟩
abbrev S2048x1024 : Shape := ⟨2, ![2048, 1024]⟩
abbrev S128 : Shape := ⟨1, ![128]⟩
abbrev S1x128 : Shape := ⟨2, ![1, 128]⟩
abbrev S1x1x128 : Shape := ⟨3, ![1, 1, 128]⟩

abbrev nBuf : Space → Nat
  | .hbm => 107
  | .vmem => 31
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x3904, .f32⟩
  | .hbm, ⟨3, _⟩ => ⟨S1x512, .f32⟩
  | .hbm, ⟨4, _⟩ => ⟨S1x256, .f32⟩
  | .hbm, ⟨5, _⟩ => ⟨S1x512x1536, .f32⟩
  | .hbm, ⟨6, _⟩ => ⟨S1x256x2048, .f32⟩
  | .hbm, ⟨7, _⟩ => ⟨S4096, .f32⟩
  | .hbm, ⟨8, _⟩ => ⟨S4096x1, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S1x64, .f32⟩
  | .hbm, ⟨26, _⟩ => ⟨S4096x64, .f32⟩
  | .hbm, ⟨27, _⟩ => ⟨S4096x64, .f32⟩
  | .hbm, ⟨28, _⟩ => ⟨S4096x64, .f32⟩
  | .hbm, ⟨29, _⟩ => ⟨S4096x64, .f32⟩
  | .hbm, ⟨30, _⟩ => ⟨S4096x64, .f32⟩
  | .hbm, ⟨31, _⟩ => ⟨S4096x128, .f32⟩
  | .hbm, ⟨32, _⟩ => ⟨S4096x64, .f32⟩
  | .hbm, ⟨33, _⟩ => ⟨S4096x128, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S1x32, .f32⟩
  | .hbm, ⟨51, _⟩ => ⟨S4096x32, .f32⟩
  | .hbm, ⟨52, _⟩ => ⟨S4096x32, .f32⟩
  | .hbm, ⟨53, _⟩ => ⟨S4096x32, .f32⟩
  | .hbm, ⟨54, _⟩ => ⟨S4096x32, .f32⟩
  | .hbm, ⟨55, _⟩ => ⟨S4096x32, .f32⟩
  | .hbm, ⟨56, _⟩ => ⟨S_, .f32⟩
  | .hbm, ⟨57, _⟩ => ⟨S4096x32, .f32⟩
  | .hbm, ⟨58, _⟩ => ⟨S4096x128, .f32⟩
  | .hbm, ⟨59, _⟩ => ⟨S4096x32, .f32⟩
  | .hbm, ⟨60, _⟩ => ⟨S4096x128, .f32⟩
  | .hbm, ⟨61, _⟩ => ⟨S2048x3904, .f32⟩
  | .hbm, ⟨62, _⟩ => ⟨S2048x768, .f32⟩
  | .hbm, ⟨63, _⟩ => ⟨S2048x3904, .f32⟩
  | .hbm, ⟨64, _⟩ => ⟨S2048x64, .f32⟩
  | .hbm, ⟨65, _⟩ => ⟨S_, .f32⟩
  | .hbm, ⟨66, _⟩ => ⟨S2048x32, .f32⟩
  | .hbm, ⟨67, _⟩ => ⟨S2048x32, .f32⟩
  | .hbm, ⟨68, _⟩ => ⟨S2048x32, .f32⟩
  | .hbm, ⟨69, _⟩ => ⟨S2048x128, .f32⟩
  | .hbm, ⟨70, _⟩ => ⟨S2048x3904, .f32⟩
  | .hbm, ⟨71, _⟩ => ⟨S2048x3072, .f32⟩
  | .hbm, ⟨72, _⟩ => ⟨S2048x3968, .f32⟩
  | .hbm, ⟨73, _⟩ => ⟨S2048x3968, .bf16⟩
  | .hbm, ⟨74, _⟩ => ⟨S512x1536, .f32⟩
  | .hbm, ⟨75, _⟩ => ⟨S512x8x192, .f32⟩
  | .hbm, ⟨76, _⟩ => ⟨S512x8x128, .f32⟩
  | .hbm, ⟨77, _⟩ => ⟨S512x8x64, .f32⟩
  | .hbm, ⟨78, _⟩ => ⟨S_, .f32⟩
  | .hbm, ⟨79, _⟩ => ⟨S512x8x32, .f32⟩
  | .hbm, ⟨80, _⟩ => ⟨S512x8x32, .f32⟩
  | .hbm, ⟨81, _⟩ => ⟨S512x8x32, .f32⟩
  | .hbm, ⟨82, _⟩ => ⟨S512x8x128, .f32⟩
  | .hbm, ⟨83, _⟩ => ⟨S512x8x256, .f32⟩
  | .hbm, ⟨84, _⟩ => ⟨S512x2048, .f32⟩
  | .hbm, ⟨85, _⟩ => ⟨S512x2048, .bf16⟩
  | .hbm, ⟨86, _⟩ => ⟨S256x2048, .f32⟩
  | .hbm, ⟨87, _⟩ => ⟨S256x8x256, .f32⟩
  | .hbm, ⟨88, _⟩ => ⟨S256x8x128, .f32⟩
  | .hbm, ⟨89, _⟩ => ⟨S256x1024, .f32⟩
  | .hbm, ⟨90, _⟩ => ⟨S256x1024, .bf16⟩
  | .hbm, ⟨91, _⟩ => ⟨S256x8x128, .f32⟩
  | .hbm, ⟨92, _⟩ => ⟨S256x1024, .f32⟩
  | .hbm, ⟨93, _⟩ => ⟨S256x1024, .bf16⟩
  | .hbm, ⟨94, _⟩ => ⟨S2048, .f32⟩
  | .hbm, ⟨95, _⟩ => ⟨S1x2048, .f32⟩
  | .hbm, ⟨96, _⟩ => ⟨S512, .f32⟩
  | .hbm, ⟨97, _⟩ => ⟨S1x512, .f32⟩
  | .hbm, ⟨98, _⟩ => ⟨S256, .f32⟩
  | .hbm, ⟨99, _⟩ => ⟨S1x256, .f32⟩
  | .hbm, ⟨100, _⟩ => ⟨S8192x2048, .bf16⟩
  | .hbm, ⟨101, _⟩ => ⟨S8192x2048, .bf16⟩
  | .hbm, ⟨102, _⟩ => ⟨S8192x1024, .bf16⟩
  | .hbm, ⟨103, _⟩ => ⟨S8192x1024, .bf16⟩
  | .hbm, ⟨104, _⟩ => ⟨S8192x1024, .bf16⟩
  | .hbm, ⟨105, _⟩ => ⟨S8192x1024, .bf16⟩
  | .hbm, ⟨106, _⟩ => ⟨S32x1x1024, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x3968, .bf16⟩
  | .local _ .vmem, ⟨4, _⟩ => ⟨S1x512, .f32⟩
  | .local _ .vmem, ⟨5, _⟩ => ⟨S1x256, .f32⟩
  | .local _ .vmem, ⟨6, _⟩ => ⟨S512x2048, .bf16⟩
  | .local _ .vmem, ⟨7, _⟩ => ⟨S256x1024, .bf16⟩
  | .local _ .vmem, ⟨8, _⟩ => ⟨S256x1024, .bf16⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S1x1x1024, .f32⟩
  | .local _ .vmem, ⟨30, _⟩ => ⟨S1x1x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80_0 : Ref sig .tc := ⟨.hbm, 100, rfl⟩
abbrev main_v80_1 : Ref sig .tc := ⟨.hbm, 101, rfl⟩
abbrev main_v80_2 : Ref sig .tc := ⟨.hbm, 102, rfl⟩
abbrev main_v80_3 : Ref sig .tc := ⟨.hbm, 103, rfl⟩
abbrev main_v80_4 : Ref sig .tc := ⟨.hbm, 104, rfl⟩
abbrev main_v80_5 : Ref sig .tc := ⟨.hbm, 105, rfl⟩
abbrev main_v80_6 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3968 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference4Ideal.lean ====
abbrev S8192x2048 : Shape := ⟨2, ![8192, 2048]⟩
abbrev S1x2048 : Shape := ⟨2, ![1, 2048]⟩
abbrev S1x2048x3904 : Shape := ⟨3, ![1, 2048, 3904]⟩
abbrev S1x512 : Shape := ⟨2, ![1, 512]⟩
abbrev S1x256 : Shape := ⟨2, ![1, 256]⟩
abbrev S1x512x1536 : Shape := ⟨3, ![1, 512, 1536]⟩
abbrev S1x256x2048 : Shape := ⟨3, ![1, 256, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x3904 : Shape := ⟨2, ![2048, 3904]⟩
abbrev S8192x3904 : Shape := ⟨2, ![8192, 3904]⟩
abbrev S8192x512 : Shape := ⟨2, ![8192, 512]⟩
abbrev S8192x256 : Shape := ⟨2, ![8192, 256]⟩
abbrev S8192x64 : Shape := ⟨2, ![8192, 64]⟩
abbrev S8192x1024 : Shape := ⟨2, ![8192, 1024]⟩
abbrev S512 : Shape := ⟨1, ![512]⟩
abbrev S512x1536 : Shape := ⟨2, ![512, 1536]⟩
abbrev S8192x1536 : Shape := ⟨2, ![8192, 1536]⟩
abbrev S2x4096x8x192 : Shape := ⟨4, ![2, 4096, 8, 192]⟩
abbrev S256 : Shape := ⟨1, ![256]⟩
abbrev S256x2048 : Shape := ⟨2, ![256, 2048]⟩
abbrev S2x4096x8x256 : Shape := ⟨4, ![2, 4096, 8, 256]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S2x4096x8x64 : Shape := ⟨4, ![2, 4096, 8, 64]⟩
abbrev S1x4096x1x32 : Shape := ⟨4, ![1, 4096, 1, 32]⟩
abbrev S2x4096x8x32 : Shape := ⟨4, ![2, 4096, 8, 32]⟩
abbrev S2x4096x1x64 : Shape := ⟨4, ![2, 4096, 1, 64]⟩
abbrev S2x4096x1x32 : Shape := ⟨4, ![2, 4096, 1, 32]⟩
abbrev S2x4096x8x128 : Shape := ⟨4, ![2, 4096, 8, 128]⟩
abbrev S64 : Shape := ⟨1, ![64]⟩
abbrev S1x64 : Shape := ⟨2, ![1, 64]⟩
abbrev S4096x64 : Shape := ⟨2, ![4096, 64]⟩
abbrev S1x4096x1x64 : Shape := ⟨4, ![1, 4096, 1, 64]⟩
abbrev S2x16x256x8x128 : Shape := ⟨5, ![2, 16, 256, 8, 128]⟩
abbrev S2x16x8x128 : Shape := ⟨4, ![2, 16, 8, 128]⟩
abbrev S32x1x1024 : Shape := ⟨3, ![32, 1, 1024]⟩

abbrev nBuf : Space → Nat
  | .hbm => 214
  | .vmem => 0
  | .smem => 0
  | _ => 0

abbrev hbmTy0_0 (i : Nat) : BufTy := match i % 128 with
  | 0 => ⟨S8192x2048, .f32⟩
  | 1 => ⟨S1x2048, .f32⟩
  | 2 => ⟨S1x2048x3904, .f32⟩
  | 3 => ⟨S1x512, .f32⟩
  | 4 => ⟨S1x256, .f32⟩
  | 5 => ⟨S1x512x1536, .f32⟩
  | 6 => ⟨S1x256x2048, .f32⟩
  | 7 => ⟨S2048, .f32⟩
  | 8 => ⟨S8192x2048, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x2048, .f32⟩
  | 20 => ⟨S8192x2048, .f32⟩
  | 21 => ⟨S1x2048, .f32⟩
  | 22 => ⟨S8192x2048, .f32⟩
  | 23 => ⟨S8192x2048, .f32⟩
  | 24 => ⟨S2048x3904, .f32⟩
  | 25 => ⟨S8192x3904, .f32⟩
  | 26 => ⟨S8192x512, .f32⟩
  | 27 => ⟨S8192x256, .f32⟩
  | 28 => ⟨S8192x64, .f32⟩
  | 29 => ⟨S8192x1024, .f32⟩
  | 30 => ⟨S8192x1024, .f32⟩
  | 31 => ⟨S8192x1024, .f32⟩
  | 32 => ⟨S512, .f32⟩
  | 33 => ⟨S8192x512, .f32⟩
  | 34 => ⟨S_, .f32⟩
  | 35 => ⟨S8192, .f32⟩
  | 36 => ⟨S8192x1, .f32⟩
  | 37 => ⟨S_, .f32⟩
  | 38 => ⟨S8192x1, .f32⟩
  | 39 => ⟨S8192x1, .f32⟩
  | 40 => ⟨S_, .f32⟩
  | 41 => ⟨S8192x1, .f32⟩
  | 42 => ⟨S8192x1, .f32⟩
  | 43 => ⟨S8192x1, .f32⟩
  | 44 => ⟨S8192x512, .f32⟩
  | 45 => ⟨S8192x512, .f32⟩
  | 46 => ⟨S1x512, .f32⟩
  | 47 => ⟨S8192x512, .f32⟩
  | 48 => ⟨S8192x512, .f32⟩
  | 49 => ⟨S512x1536, .f32⟩
  | 50 => ⟨S8192x1536, .f32⟩
  | 51 => ⟨S2x4096x8x192, .f32⟩
  | 52 => ⟨S256, .f32⟩
  | 53 => ⟨S8192x256, .f32⟩
  | 54 => ⟨S_, .f32⟩
  | 55 => ⟨S8192, .f32⟩
  | 56 => ⟨S8192x1, .f32⟩
  | 57 => ⟨S_, .f32⟩
  | 58 => ⟨S8192x1, .f32⟩
  | 59 => ⟨S8192x1, .f32⟩
  | 60 => ⟨S_, .f32⟩
  | 61 => ⟨S8192x1, .f32⟩
  | 62 => ⟨S8192x1, .f32⟩
  | 63 => ⟨S8192x1, .f32⟩
  | 64 => ⟨S8192x256, .f32⟩
  | 65 => ⟨S8192x256, .f32⟩
  | 66 => ⟨S1x256, .f32⟩
  | 67 => ⟨S8192x256, .f32⟩
  | 68 => ⟨S8192x256, .f32⟩
  | 69 => ⟨S256x2048, .f32⟩
  | 70 => ⟨S8192x2048, .f32⟩
  | 71 => ⟨S2x4096x8x256, .f32⟩
  | 72 => ⟨S32, .f32⟩
  | 73 => ⟨S_, .f32⟩
  | 74 => ⟨S32, .f32⟩
  | 75 => ⟨S32, .f32⟩
  | 76 => ⟨S_, .f32⟩
  | 77 => ⟨S32, .f32⟩
  | 78 => ⟨S32, .f32⟩
  | 79 => ⟨S_, .f32⟩
  | 80 => ⟨S32, .f32⟩
  | 81 => ⟨S32, .f32⟩
  | 82 => ⟨S_, .f32⟩
  | 83 => ⟨S32, .f32⟩
  | 84 => ⟨S32, .f32⟩
  | 85 => ⟨S_, .f32⟩
  | 86 => ⟨S32, .f32⟩
  | 87 => ⟨S32, .f32⟩
  | 88 => ⟨S4096, .f32⟩
  | 89 => ⟨S4096x1, .f32⟩
  | 90 => ⟨S1x32, .f32⟩
  | 91 => ⟨S4096x32, .f32⟩
  | 92 => ⟨S4096x32, .f32⟩
  | 93 => ⟨S4096x32, .f32⟩
  | 94 => ⟨S4096x32, .f32⟩
  | 95 => ⟨S4096x32, .f32⟩
  | 96 => ⟨S2x4096x8x64, .f32⟩
  | 97 => ⟨S1x4096x1x32, .f32⟩
  | 98 => ⟨S1x4096x1x32, .f32⟩
  | 99 => ⟨S2x4096x8x32, .f32⟩
  | 100 => ⟨S2x4096x8x32, .f32⟩
  | 101 => ⟨S2x4096x8x32, .f32⟩
  | 102 => ⟨S2x4096x8x32, .f32⟩
  | 103 => ⟨S2x4096x8x32, .f32⟩
  | 104 => ⟨S2x4096x8x32, .f32⟩
  | 105 => ⟨S2x4096x8x32, .f32⟩
  | 106 => ⟨S2x4096x8x32, .f32⟩
  | 107 => ⟨S2x4096x8x32, .f32⟩
  | 108 => ⟨S2x4096x8x32, .f32⟩
  | 109 => ⟨S2x4096x8x32, .f32⟩
  | 110 => ⟨S2x4096x8x32, .f32⟩
  | 111 => ⟨S2x4096x8x64, .f32⟩
  | 112 => ⟨S2x4096x1x64, .f32⟩
  | 113 => ⟨S1x4096x1x32, .f32⟩
  | 114 => ⟨S1x4096x1x32, .f32⟩
  | 115 => ⟨S2x4096x1x32, .f32⟩
  | 116 => ⟨S2x4096x1x32, .f32⟩
  | 117 => ⟨S2x4096x1x32, .f32⟩
  | 118 => ⟨S2x4096x1x32, .f32⟩
  | 119 => ⟨S2x4096x1x32, .f32⟩
  | 120 => ⟨S2x4096x1x32, .f32⟩
  | 121 => ⟨S2x4096x1x32, .f32⟩
  | 122 => ⟨S2x4096x1x32, .f32⟩
  | 123 => ⟨S2x4096x1x32, .f32⟩
  | 124 => ⟨S2x4096x1x32, .f32⟩
  | 125 => ⟨S2x4096x1x32, .f32⟩
  | 126 => ⟨S2x4096x1x32, .f32⟩
  | 127 => ⟨S2x4096x1x64, .f32⟩
  | _ => ⟨S8192x2048, .f32⟩

abbrev hbmTy0_1 (i : Nat) : BufTy := match i % 128 with
  | 0 => ⟨S2x4096x8x64, .f32⟩
  | 1 => ⟨S_, .f32⟩
  | 2 => ⟨S2x4096x8x32, .f32⟩
  | 3 => ⟨S2x4096x8x128, .f32⟩
  | 4 => ⟨S2x4096x8x32, .f32⟩
  | 5 => ⟨S2x4096x8x32, .f32⟩
  | 6 => ⟨S2x4096x8x256, .f32⟩
  | 7 => ⟨S2x4096x8x128, .f32⟩
  | 8 => ⟨S2x4096x8x32, .f32⟩
  | 9 => ⟨S2x4096x8x32, .f32⟩
  | 10 => ⟨S2x4096x8x256, .f32⟩
  | 11 => ⟨S2x4096x8x128, .f32⟩
  | 12 => ⟨S64, .f32⟩
  | 13 => ⟨S_, .f32⟩
  | 14 => ⟨S64, .f32⟩
  | 15 => ⟨S64, .f32⟩
  | 16 => ⟨S_, .f32⟩
  | 17 => ⟨S64, .f32⟩
  | 18 => ⟨S64, .f32⟩
  | 19 => ⟨S_, .f32⟩
  | 20 => ⟨S64, .f32⟩
  | 21 => ⟨S64, .f32⟩
  | 22 => ⟨S_, .f32⟩
  | 23 => ⟨S64, .f32⟩
  | 24 => ⟨S64, .f32⟩
  | 25 => ⟨S_, .f32⟩
  | 26 => ⟨S64, .f32⟩
  | 27 => ⟨S64, .f32⟩
  | 28 => ⟨S4096, .f32⟩
  | 29 => ⟨S4096x1, .f32⟩
  | 30 => ⟨S1x64, .f32⟩
  | 31 => ⟨S4096x64, .f32⟩
  | 32 => ⟨S4096x64, .f32⟩
  | 33 => ⟨S4096x64, .f32⟩
  | 34 => ⟨S4096x64, .f32⟩
  | 35 => ⟨S4096x64, .f32⟩
  | 36 => ⟨S2x4096x8x128, .f32⟩
  | 37 => ⟨S1x4096x1x64, .f32⟩
  | 38 => ⟨S1x4096x1x64, .f32⟩
  | 39 => ⟨S2x4096x8x64, .f32⟩
  | 40 => ⟨S2x4096x8x64, .f32⟩
  | 41 => ⟨S2x4096x8x64, .f32⟩
  | 42 => ⟨S2x4096x8x64, .f32⟩
  | 43 => ⟨S2x4096x8x64, .f32⟩
  | 44 => ⟨S2x4096x8x64, .f32⟩
  | 45 => ⟨S2x4096x8x64, .f32⟩
  | 46 => ⟨S2x4096x8x64, .f32⟩
  | 47 => ⟨S2x4096x8x64, .f32⟩
  | 48 => ⟨S2x4096x8x64, .f32⟩
  | 49 => ⟨S2x4096x8x64, .f32⟩
  | 50 => ⟨S2x4096x8x64, .f32⟩
  | 51 => ⟨S2x4096x8x128, .f32⟩
  | 52 => ⟨S2x4096x8x128, .f32⟩
  | 53 => ⟨S1x4096x1x64, .f32⟩
  | 54 => ⟨S1x4096x1x64, .f32⟩
  | 55 => ⟨S2x4096x8x64, .f32⟩
  | 56 => ⟨S2x4096x8x64, .f32⟩
  | 57 => ⟨S2x4096x8x64, .f32⟩
  | 58 => ⟨S2x4096x8x64, .f32⟩
  | 59 => ⟨S2x4096x8x64, .f32⟩
  | 60 => ⟨S2x4096x8x64, .f32⟩
  | 61 => ⟨S2x4096x8x64, .f32⟩
  | 62 => ⟨S2x4096x8x64, .f32⟩
  | 63 => ⟨S2x4096x8x64, .f32⟩
  | 64 => ⟨S2x4096x8x64, .f32⟩
  | 65 => ⟨S2x4096x8x64, .f32⟩
  | 66 => ⟨S2x4096x8x64, .f32⟩
  | 67 => ⟨S2x4096x8x128, .f32⟩
  | 68 => ⟨S2x16x256x8x128, .f32⟩
  | 69 => ⟨S_, .f32⟩
  | 70 => ⟨S2x16x8x128, .f32⟩
  | 71 => ⟨S_, .f32⟩
  | 72 => ⟨S2x16x8x128, .f32⟩
  | 73 => ⟨S2x16x8x128, .f32⟩
  | 74 => ⟨S8192x2048, .f32⟩
  | 75 => ⟨S8192x2048, .bf16⟩
  | 76 => ⟨S8192x2048, .f32⟩
  | 77 => ⟨S8192x2048, .bf16⟩
  | 78 => ⟨S8192x1024, .f32⟩
  | 79 => ⟨S8192x1024, .bf16⟩
  | 80 => ⟨S8192x1024, .f32⟩
  | 81 => ⟨S8192x1024, .bf16⟩
  | 82 => ⟨S8192x1024, .f32⟩
  | 83 => ⟨S8192x1024, .bf16⟩
  | 84 => ⟨S8192x1024, .bf16⟩
  | 85 => ⟨S32x1x1024, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_8 : Ref sig .tc := ⟨.hbm, 73, rfl⟩
abbrev main_v57 : Ref sig .tc := ⟨.hbm, 74, rfl⟩
abbrev main_v58 : Ref sig .tc := ⟨.hbm, 75, rfl⟩
abbrev main_cst_9 : Ref sig .tc := ⟨.hbm, 76, rfl⟩
abbrev main_v59 : Ref sig .tc := ⟨.hbm, 77, rfl⟩
abbrev main_v60 : Ref sig .tc := ⟨.hbm, 78, rfl⟩
abbrev main_cst_10 : Ref sig .tc := ⟨.hbm, 79, rfl⟩
abbrev main_v61 : Ref sig .tc := ⟨.hbm, 80, rfl⟩
abbrev main_v62 : Ref sig .tc := ⟨.hbm, 81, rfl⟩
abbrev main_cst_11 : Ref sig .tc := ⟨.hbm, 82, rfl⟩
abbrev main_v63 : Ref sig .tc := ⟨.hbm, 83, rfl⟩
abbrev main_v64 : Ref sig .tc := ⟨.hbm, 84, rfl⟩
abbrev main_cst_12 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_cst_13 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_cst_14 : Ref sig .tc := ⟨.hbm, 141, rfl⟩
abbrev main_v119 : Ref sig .tc := ⟨.hbm, 142, rfl⟩
abbrev main_v120 : Ref sig .tc := ⟨.hbm, 143, rfl⟩
abbrev main_cst_15 : Ref sig .tc := ⟨.hbm, 144, rfl⟩
abbrev main_v121 : Ref sig .tc := ⟨.hbm, 145, rfl⟩
abbrev main_v122 : Ref sig .tc := ⟨.hbm, 146, rfl⟩
abbrev main_cst_16 : Ref sig .tc := ⟨.hbm, 147, rfl⟩
abbrev main_v123 : Ref sig .tc := ⟨.hbm, 148, rfl⟩
abbrev main_v124 : Ref sig .tc := ⟨.hbm, 149, rfl⟩
abbrev main_cst_17 : Ref sig .tc := ⟨.hbm, 150, rfl⟩
abbrev main_v125 : Ref sig .tc := ⟨.hbm, 151, rfl⟩
abbrev main_v126 : Ref sig .tc := ⟨.hbm, 152, rfl⟩
abbrev main_cst_18 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_cst_19 : Ref sig .tc := ⟨.hbm, 197, rfl⟩
abbrev main_v170 : Ref sig .tc := ⟨.hbm, 198, rfl⟩
abbrev main_cst_20 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩

abbrev nD : Nat := 1
abbrev τ : Topo := Topo.v7x

variable {F : FTy → Type} [FloatOps F]
-- ==== Kernel5.lean ====
abbrev S2x4096x1024 : Shape := ⟨3, ![2, 4096, 1024]⟩
abbrev S32x1x1024 : Shape := ⟨3, ![32, 1, 1024]⟩
abbrev S2x16x1024 : Shape := ⟨3, ![2, 16, 1024]⟩
abbrev S_ : Shape := ⟨0, ![]⟩
abbrev S2x128x1024 : Shape := ⟨3, ![2, 128, 1024]⟩
abbrev S1x256x128 : Shape := ⟨3, ![1, 256, 128]⟩
abbrev S1x4096x128 : Shape := ⟨3, ![1, 4096, 128]⟩
abbrev S1x128x128 : Shape := ⟨3, ![1, 128, 128]⟩
abbrev S256x128 : Shape := ⟨2, ![256, 128]⟩
abbrev S256x1 : Shape := ⟨2, ![256, 1]⟩
abbrev S128x128 : Shape := ⟨2, ![128, 128]⟩
abbrev S256 : Shape := ⟨1, ![256]⟩
abbrev S256x256 : Shape := ⟨2, ![256, 256]⟩

abbrev nBuf : Space → Nat
  | .hbm => 9
  | .vmem => 14
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x1024, .bf16⟩
  | .hbm, ⟨2, _⟩ => ⟨S2x4096x1024, .bf16⟩
  | .hbm, ⟨3, _⟩ => ⟨S32x1x1024, .f32⟩
  | .hbm, ⟨4, _⟩ => ⟨S2x16x1024, .f32⟩
  | .hbm, ⟨5, _⟩ => ⟨S_, .i32⟩
  | .hbm, ⟨6, _⟩ => ⟨S_, .f32⟩
  | .hbm, ⟨7, _⟩ => ⟨S2x128x1024, .f32⟩
  | .hbm, ⟨8, _⟩ => ⟨S2x4096x1024, .f32⟩
  | .local _ .vmem, ⟨0, _⟩ => ⟨S1x256x128, .bf16⟩
  | .local _ .vmem, ⟨1, _⟩ => ⟨S1x256x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x128x128, .f32⟩
  | .local _ .vmem, ⟨7, _⟩ => ⟨S1x128x128, .f32⟩
  | .local _ .vmem, ⟨8, _⟩ => ⟨S1x256x128, .f32⟩
  | .local _ .vmem, ⟨9, _⟩ => ⟨S1x256x128, .f32⟩
  | .local _ .vmem, ⟨10, _⟩ => ⟨S256x128, .f32⟩
  | .local _ .vmem, ⟨11, _⟩ => ⟨S256x1, .f32⟩
  | .local _ .vmem, ⟨12, _⟩ => ⟨S256x1, .f32⟩
  | .local _ .vmem, ⟨13, _⟩ => ⟨S256x128, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 16], ![false, false, false]⟩

def k0_off1 (i : grid0.Coords) : Fin 3 → Nat :=
  let c0_25 : Index := 0#32
  let arg2 : BitVec 32 := BitVec.ofNat 32 (i 2).val
  let c256_i32 : BitVec 32 := 256#32
  let v67 : BitVec 32 := Scalar.muli arg2 c256_i32
  let v68 : Index := Scalar.indexCast v67
  let c0_26 : Index := 0#32
  ![0, v68.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel5Ideal.lean ====
variable {F : FTy → Type} [FloatOps F] [Named F]
def κ : String → Option EReal := fun
  | "mask" => some ⊥
  | _ => none
-- ==== Reference5Ideal.lean ====
abbrev S2x4096x1024 : Shape := ⟨3, ![2, 4096, 1024]⟩
abbrev S32x1x1024 : Shape := ⟨3, ![32, 1, 1024]⟩
abbrev S2x4096x8x128 : Shape := ⟨4, ![2, 4096, 8, 128]⟩
abbrev S2x8x4096x128 : Shape := ⟨4, ![2, 8, 4096, 128]⟩
abbrev S2x16x256x8x128 : Shape := ⟨5, ![2, 16, 256, 8, 128]⟩
abbrev S2x8x16x256x128 : Shape := ⟨5, ![2, 8, 16, 256, 128]⟩
abbrev S2x16x8x128 : Shape := ⟨4, ![2, 16, 8, 128]⟩
abbrev S2x8x16x128 : Shape := ⟨4, ![2, 8, 16, 128]⟩
abbrev S2x8x4096x16 : Shape := ⟨4, ![2, 8, 4096, 16]⟩
abbrev S4096 : Shape := ⟨1, ![4096]⟩
abbrev S_ : Shape := ⟨0, ![]⟩
abbrev S16 : Shape := ⟨1, ![16]⟩
abbrev S1x16 : Shape := ⟨2, ![1, 16]⟩
abbrev S4096x1 : Shape := ⟨2, ![4096, 1]⟩
abbrev S4096x16 : Shape := ⟨2, ![4096, 16]⟩
abbrev S2x8x4096x3 : Shape := ⟨4, ![2, 8, 4096, 3]⟩
abbrev S3 : Shape := ⟨1, ![3]⟩
abbrev S1x3 : Shape := ⟨2, ![1, 3]⟩
abbrev S4096x3 : Shape := ⟨2, ![4096, 3]⟩
abbrev S2x8x4096x3x1 : Shape := ⟨5, ![2, 8, 4096, 3, 1]⟩
abbrev S2x8x4096x3x256x128 : Shape := ⟨6, ![2, 8, 4096, 3, 256, 128]⟩
abbrev S2x8x4096x3x256 : Shape := ⟨5, ![2, 8, 4096, 3, 256]⟩
abbrev S1x1x4096x3x1 : Shape := ⟨5, ![1, 1, 4096, 3, 1]⟩
abbrev S2x8x4096x768 : Shape := ⟨4, ![2, 8, 4096, 768]⟩
abbrev S2x8x16x256x256 : Shape := ⟨5, ![2, 8, 16, 256, 256]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S2x8x4096x256 : Shape := ⟨4, ![2, 8, 4096, 256]⟩
abbrev S2x8x4096x1024 : Shape := ⟨4, ![2, 8, 4096, 1024]⟩
abbrev S2x8x4096 : Shape := ⟨3, ![2, 8, 4096]⟩
abbrev S2x8x4096x1 : Shape := ⟨4, ![2, 8, 4096, 1]⟩

abbrev nBuf : Space → Nat
  | .hbm => 125
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x1024, .bf16⟩
  | .hbm, ⟨2, _⟩ => ⟨S2x4096x1024, .bf16⟩
  | .hbm, ⟨3, _⟩ => ⟨S32x1x1024, .f32⟩
  | .hbm, ⟨4, _⟩ => ⟨S2x4096x1024, .f32⟩
  | .hbm, ⟨5, _⟩ => ⟨S2x4096x8x128, .f32⟩
  | .hbm, ⟨6, _⟩ => ⟨S2x8x4096x128, .f32⟩
  | .hbm, ⟨7, _⟩ => ⟨S2x4096x1024, .f32⟩
  | .hbm, ⟨8, _⟩ => ⟨S2x16x256x8x128, .f32⟩
  | .hbm, ⟨9, _⟩ => ⟨S2x8x16x256x128, .f32⟩
  | .hbm, ⟨10, _⟩ => ⟨S2x4096x1024, .f32⟩
  | .hbm, ⟨11, _⟩ => ⟨S2x16x256x8x128, .f32⟩
  | .hbm, ⟨12, _⟩ => ⟨S2x8x16x256x128, .f32⟩
  | .hbm, ⟨13, _⟩ => ⟨S2x16x8x128, .f32⟩
  | .hbm, ⟨14, _⟩ => ⟨S2x8x16x128, .f32⟩
  | .hbm, ⟨15, _⟩ => ⟨S2x8x4096x16, .f32⟩
  | .hbm, ⟨16, _⟩ => ⟨S4096, .i32⟩
  | .hbm, ⟨17, _⟩ => ⟨S_, .i32⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S4096, .i1⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .i32⟩
  | .hbm, ⟨35, _⟩ => ⟨S16, .i32⟩
  | .hbm, ⟨36, _⟩ => ⟨S1x16, .i32⟩
  | .hbm, ⟨37, _⟩ => ⟨S4096x1, .i32⟩
  | .hbm, ⟨38, _⟩ => ⟨S4096x16, .i32⟩
  | .hbm, ⟨39, _⟩ => ⟨S4096x16, .i32⟩
  | .hbm, ⟨40, _⟩ => ⟨S4096x16, .i1⟩
  | .hbm, ⟨41, _⟩ => ⟨S_, .f32⟩
  | .hbm, ⟨42, _⟩ => ⟨S_, .f32⟩
  | .hbm, ⟨43, _⟩ => ⟨S2x8x4096x16, .i1⟩
  | .hbm, ⟨44, _⟩ => ⟨S2x8x4096x16, .f32⟩
  | .hbm, ⟨45, _⟩ => ⟨S2x8x4096x16, .f32⟩
  | .hbm, ⟨46, _⟩ => ⟨S2x8x4096x3, .f32⟩
  | .hbm, ⟨47, _⟩ => ⟨S2x8x4096x3, .i32⟩
  | .hbm, ⟨48, _⟩ => ⟨S3, .i32⟩
  | .hbm, ⟨49, _⟩ => ⟨S1x3, .i32⟩
  | .hbm, ⟨50, _⟩ => ⟨S4096x1, .i32⟩
  | .hbm, ⟨51, _⟩ => ⟨S4096x3, .i32⟩
  | .hbm, ⟨52, _⟩ => ⟨S4096x3, .i32⟩
  | .hbm, ⟨53, _⟩ => ⟨S4096x3, .i1⟩
  | .hbm, ⟨54, _⟩ => ⟨S_, .i32⟩
  | .hbm, ⟨55, _⟩ => ⟨S2x8x4096x3, .i32⟩
  | .hbm, ⟨56, _⟩ => ⟨S2x8x4096x3, .i1⟩
  | .hbm, ⟨57, _⟩ => ⟨S_, .i32⟩
  | .hbm, ⟨58, _⟩ => ⟨S2x8x4096x3, .i32⟩
  | .hbm, ⟨59, _⟩ => ⟨S2x8x4096x3, .i32⟩
  | .hbm, ⟨60, _⟩ => ⟨S2x8x4096x3, .i32⟩
  | .hbm, ⟨61, _⟩ => ⟨S2x8x4096x3x1, .i32⟩
  | .hbm, ⟨62, _⟩ => ⟨S2x8x4096x3x256x128, .f32⟩
  | .hbm, ⟨63, _⟩ => ⟨S_, .i32⟩
  | .hbm, ⟨64, _⟩ => ⟨S2x8x4096x3, .i32⟩
  | .hbm, ⟨65, _⟩ => ⟨S2x8x4096x3, .i1⟩
  | .hbm, ⟨66, _⟩ => ⟨S_, .i32⟩
  | .hbm, ⟨67, _⟩ => ⟨S2x8x4096x3, .i32⟩
  | .hbm, ⟨68, _⟩ => ⟨S2x8x4096x3, .i32⟩
  | .hbm, ⟨69, _⟩ => ⟨S2x8x4096x3, .i32⟩
  | .hbm, ⟨70, _⟩ => ⟨S2x8x4096x3x1, .i32⟩
  | .hbm, ⟨71, _⟩ => ⟨S2x8x4096x3x256x128, .f32⟩
  | .hbm, ⟨72, _⟩ => ⟨S2x8x4096x3x256, .f32⟩
  | .hbm, ⟨73, _⟩ => ⟨S_, .f32⟩
  | .hbm, ⟨74, _⟩ => ⟨S2x8x4096x3x256, .f32⟩
  | .hbm, ⟨75, _⟩ => ⟨S2x8x4096x3x256, .f32⟩
  | .hbm, ⟨76, _⟩ => ⟨S1x1x4096x3x1, .i1⟩
  | .hbm, ⟨77, _⟩ => ⟨S_, .f32⟩
  | .hbm, ⟨78, _⟩ => ⟨S_, .f32⟩
  | .hbm, ⟨79, _⟩ => ⟨S2x8x4096x3x256, .i1⟩
  | .hbm, ⟨80, _⟩ => ⟨S2x8x4096x3x256, .f32⟩
  | .hbm, ⟨81, _⟩ => ⟨S2x8x4096x3x256, .f32⟩
  | .hbm, ⟨82, _⟩ => ⟨S2x8x4096x768, .f32⟩
  | .hbm, ⟨83, _⟩ => ⟨S2x8x16x256x128, .f32⟩
  | .hbm, ⟨84, _⟩ => ⟨S2x8x16x256x256, .f32⟩
  | .hbm, ⟨85, _⟩ => ⟨S_, .f32⟩
  | .hbm, ⟨86, _⟩ => ⟨S2x8x16x256x256, .f32⟩
  | .hbm, ⟨87, _⟩ => ⟨S2x8x16x256x256, .f32⟩
  | .hbm, ⟨88, _⟩ => ⟨S256, .i32⟩
  | .hbm, ⟨89, _⟩ => ⟨S1x256, .i32⟩
  | .hbm, ⟨90, _⟩ => ⟨S256x1, .i32⟩
  | .hbm, ⟨91, _⟩ => ⟨S256x256, .i32⟩
  | .hbm, ⟨92, _⟩ => ⟨S256x256, .i32⟩
  | .hbm, ⟨93, _⟩ => ⟨S256x256, .i1⟩
  | .hbm, ⟨94, _⟩ => ⟨S_, .f32⟩
  | .hbm, ⟨95, _⟩ => ⟨S_, .f32⟩
  | .hbm, ⟨96, _⟩ => ⟨S2x8x16x256x256, .i1⟩
  | .hbm, ⟨97, _⟩ => ⟨S2x8x16x256x256, .f32⟩
  | .hbm, ⟨98, _⟩ => ⟨S2x8x16x256x256, .f32⟩
  | .hbm, ⟨99, _⟩ => ⟨S2x8x4096x256, .f32⟩
  | .hbm, ⟨100, _⟩ => ⟨S2x8x4096x1024, .f32⟩
  | .hbm, ⟨101, _⟩ => ⟨S_, .f32⟩
  | .hbm, ⟨102, _⟩ => ⟨S2x8x4096, .f32⟩
  | .hbm, ⟨103, _⟩ => ⟨S_, .f32⟩
  | .hbm, ⟨104, _⟩ => ⟨S2x8x4096, .f32⟩
  | .hbm, ⟨105, _⟩ => ⟨S2x8x4096, .f32⟩
  | .hbm, ⟨106, _⟩ => ⟨S2x8x4096x1, .f32⟩
  | .hbm, ⟨107, _⟩ => ⟨S2x8x4096x1024, .f32⟩
  | .hbm, ⟨108, _⟩ => ⟨S2x8x4096x1024, .f32⟩
  | .hbm, ⟨109, _⟩ => ⟨S2x8x4096x1024, .f32⟩
  | .hbm, ⟨110, _⟩ => ⟨S_, .f32⟩
  | .hbm, ⟨111, _⟩ => ⟨S2x8x4096, .f32⟩
  | .hbm, ⟨112, _⟩ => ⟨S2x8x4096x1, .f32⟩
  | .hbm, ⟨113, _⟩ => ⟨S2x8x4096x1024, .f32⟩
  | .hbm, ⟨114, _⟩ => ⟨S2x8x4096x1024, .f32⟩
  | .hbm, ⟨115, _⟩ => ⟨S2x8x4096x768, .f32⟩
  | .hbm, ⟨116, _⟩ => ⟨S2x8x4096x3x256, .f32⟩
  | .hbm, ⟨117, _⟩ => ⟨S2x8x4096x256, .f32⟩
  | .hbm, ⟨118, _⟩ => ⟨S2x8x16x256x256, .f32⟩
  | .hbm, ⟨119, _⟩ => ⟨S2x8x16x256x128, .f32⟩
  | .hbm, ⟨120, _⟩ => ⟨S2x8x4096x128, .f32⟩
  | .hbm, ⟨121, _⟩ => ⟨S2x8x4096x128, .f32⟩
  | .hbm, ⟨122, _⟩ => ⟨S2x8x4096x128, .f32⟩
  | .hbm, ⟨123, _⟩ => ⟨S2x4096x8x128, .f32⟩
  | .hbm, ⟨124, _⟩ => ⟨S2x4096x1024, .f32⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v20 : Ref sig .tc := ⟨.hbm, 45, rfl⟩
abbrev main_values : Ref sig .tc := ⟨.hbm, 46, rfl⟩
abbrev main_indices : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_0 : Ref sig .tc := ⟨.hbm, 54, rfl⟩
abbrev main_v27 : Ref sig .tc := ⟨.hbm, 55, rfl⟩
abbrev main_v28 : Ref sig .tc := ⟨.hbm, 56, rfl⟩
abbrev main_c_1 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_2 : Ref sig .tc := ⟨.hbm, 63, rfl⟩
abbrev main_v34 : Ref sig .tc := ⟨.hbm, 64, rfl⟩
abbrev main_v35 : Ref sig .tc := ⟨.hbm, 65, rfl⟩
abbrev main_c_3 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_4 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_5 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_6 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_7 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_8 : Ref sig .tc := ⟨.hbm, 101, rfl⟩
abbrev main_v60 : Ref sig .tc := ⟨.hbm, 102, rfl⟩
abbrev main_cst_9 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_10 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩

abbrev nD : Nat := 1
abbrev τ : Topo := Topo.v7x

variable {F : FTy → Type} [FloatOps F]
-- ==== Proof.FfnSpec.lean ====
/- The feed-forward half-step as functions of real (extended) numbers: what the kernel and the reference both compute. -/
module

public import Idealize.ShloMosaic.PureOps.Ideal
public import Idealize.ShloMosaic.PureOps.Ideal.Laws

@[expose] public section

noncomputable section

namespace Cert.FfnSpec

open Idealize.ShloMosaic

/-- A row divided by its root mean square, times its gains. -/
def normed (x g : Fin 2048 → EReal) (c : Fin 2048) : EReal :=
  x c * Ideal.rsqrt (Ideal.div (∑ k : Fin 2048, x k * x k) (Ideal.ofBits .f32 0x45000000#32)
    + Ideal.ofBits .f32 0x358637BD#32) * g c

/-- One hidden unit: the gate column through `z ↦ z · logistic z`, times the up column. -/
def hid (u wg wu : Fin 2048 → EReal) : EReal :=
  (∑ k : Fin 2048, u k * wg k) * Ideal.logistic (∑ k : Fin 2048, u k * wg k) * ∑ k : Fin 2048, u k * wu k

/-- The half-step at a row `x` whose feed-forward result is `h`, with gains `g`. -/
def closed (x h g : Fin 2048 → EReal) (c : Fin 2048) : EReal :=
  x c + Ideal.ofBits .f32 0x3F000000#32 * normed h g c

end Cert.FfnSpec

end
-- ==== Proof.FfnPay.lean ====
/- What the feed-forward kernel's stored vectors are, element by element. -/
module

public import proofs.«01_k».proof.Proof.Gen.Kernel2Ideal.Skeleton
public import proofs.«01_k».proof.Proof.FfnSpec
public import Idealize.ShloMosaic.Lib.Pointwise

@[expose] public section

set_option maxRecDepth 16384

noncomputable section

namespace Cert.Kernel2Ideal.Ffn

open Cert.Kernel2Ideal Cert.Kernel2Ideal.Gen Idealize.ShloMosaic

/-- The normed row. -/
theorem pay1_at (x : Vec Ideal S512x2048 .f32) (g : Vec Ideal S1x2048 .f32) (r : Fin 512) (c : Fin 2048) :
    k0_pay1 (F := Ideal) x g (ix2 r c) = FfnSpec.normed (fun k => x (ix2 r k)) (fun k => g (ix2 0 k)) c := by
  pointwise [k0_pay1, FfnSpec.normed]

/-- The zero fill. -/
theorem pay2_at (r : Fin 512) (c : Fin 2048) : k0_pay2 (F := Ideal) (ix2 r c) = (0 : EReal) := by
  pointwise [k0_pay2]

/-- The accumulation: the sum so far plus this block's hidden units through the down projection. -/
theorem pay3_at (u : Vec Ideal S512x2048 .bf16) (wg wu : Vec Ideal S2048x512 .bf16) (acc : Vec Ideal S512x2048 .f32)
    (wd : Vec Ideal S512x2048 .bf16) (r : Fin 512) (c : Fin 2048) :
    k0_pay3 (F := Ideal) u wg wu acc wd (ix2 r c)
      = acc (ix2 r c) + ∑ f : Fin 512, FfnSpec.hid (fun k => u (ix2 r k)) (fun k => wg (ix2 k f)) (fun k => wu (ix2 k f))
          * wd (ix2 f c) := by
  pointwise [k0_pay3, FfnSpec.hid]

/-- The last point's store. -/
theorem pay4_at (x : Vec Ideal S512x2048 .f32) (h : Vec Ideal S512x2048 .f32) (g : Vec Ideal S1x2048 .f32)
    (r : Fin 512) (c : Fin 2048) :
    k0_pay4 (F := Ideal) x h g (ix2 r c)
      = FfnSpec.closed (fun k => x (ix2 r k)) (fun k => h (ix2 r k)) (fun k => g (ix2 0 k)) c := by
  pointwise [k0_pay4, FfnSpec.closed, FfnSpec.normed]

end Cert.Kernel2Ideal.Ffn

end
-- ==== Proof.FfnValue.lean ====
/- The feed-forward kernel's array after the run, at an index: the normed row the run's first point leaves, the sum over
   the eleven blocks of hidden units, and the last point's store. -/
module

public import proofs.«01_k».proof.Proof.Gen.Kernel2Ideal.Value
public import proofs.«01_k».proof.Proof.FfnPay
public import Idealize.ShloMosaic.Lib.Pipeline.ValueKit

@[expose] public section

set_option maxRecDepth 16384

noncomputable section

namespace Cert.Kernel2Ideal.Ffn

open Cert.Kernel2Ideal Cert.Kernel2Ideal.Gen Cert.Kernel2Ideal.Value Idealize.ShloMosaic Idealize.ShloMosaic.TcCoe

variable (m : (ℓ : Loc nD τ sig) → Buf (Elt Ideal) ℓ) (c : Dev nD)

/-- The printed index maps, at every point. -/
theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![0, 0] ∧ win0_6.index t = ![t.val / 11, 0] :=
  (by decide +kernel : ∀ t : Fin grid0.N, _)

/-- The input array. -/
abbrev X : FVec Ideal S8192x2048 .f32 := m ((c : Thread nD τ).loc main_arg0)
/-- The pre-norm scale. -/
abbrev PG : FVec Ideal S1x2048 .f32 := m ((c : Thread nD τ).loc main_arg1)
/-- The gate weights. -/
abbrev WG : FVec Ideal S1x2048x5632 .f32 := m ((c : Thread nD τ).loc main_arg2)
/-- The up weights. -/
abbrev WU : FVec Ideal S1x2048x5632 .f32 := m ((c : Thread nD τ).loc main_arg3)
/-- The down weights. -/
abbrev WD : FVec Ideal S1x5632x2048 .f32 := m ((c : Thread nD τ).loc main_arg4)
/-- The post-norm scale. -/
abbrev QG : FVec Ideal S1x2048 .f32 := m ((c : Thread nD τ).loc main_arg5)

/-- Row `r` of the block of rows point `n` works on. -/
def row (n : ℕ) (h : n < cfg0.N) (r : Fin 512) : Fin 8192 :=
  ⟨n / 11 * 512 + r.val, by have := lt_of_lt_of_eq h (show cfg0.N = 176 from N_0); omega⟩

/-- Hidden unit `f` of the block of hidden units numbered `j`. -/
def unit (j : Fin 11) (f : Fin 512) : Fin 5632 := ⟨j.val * 512 + f.val, by omega⟩

theorem x_at (t : Fin cfg0.N) (r : Fin 512) (k : Fin 2048) :
    (show FVec Ideal S512x2048 .f32 from iblk m c 0 t) (ix2 r k) = X m c (ix2 (row t.val t.isLt r) k) := by
  blk_point [iblk, V, idx t, row]

theorem pg_at (t : Fin cfg0.N) (k : Fin 2048) :
    (show FVec Ideal S1x2048 .f32 from iblk m c 1 t) (ix2 0 k) = PG m c (ix2 0 k) := by
  blk_point [iblk, V, idx t]

theorem qg_at (t : Fin cfg0.N) (k : Fin 2048) :
    (show FVec Ideal S1x2048 .f32 from iblk m c 5 t) (ix2 0 k) = QG m c (ix2 0 k) := by
  blk_point [iblk, V, idx t]

theorem wg_at (t : Fin cfg0.N) (k : Fin 2048) (f : Fin 512) :
    (show FVec Ideal S2048x512 .bf16 from iblk m c 2 t) (ix2 k f) = WG m c (ix3 0 k (unit ⟨t.val % 11, by omega⟩ f)) := by
  blk_point [iblk, V, idx t, unit]

theorem wu_at (t : Fin cfg0.N) (k : Fin 2048) (f : Fin 512) :
    (show FVec Ideal S2048x512 .bf16 from iblk m c 3 t) (ix2 k f) = WU m c (ix3 0 k (unit ⟨t.val % 11, by omega⟩ f)) := by
  blk_point [iblk, V, idx t, unit]

theorem wd_at (t : Fin cfg0.N) (f : Fin 512) (k : Fin 2048) :
    (show FVec Ideal S512x2048 .bf16 from iblk m c 4 t) (ix2 f k) = WD m c (ix3 0 (unit ⟨t.val % 11, by omega⟩ f) k) := by
  blk_point [iblk, V, idx t, unit]

end Cert.Kernel2Ideal.Ffn

end
-- ==== Proof.FfnFold.lean ====
/- The feed-forward kernel's carried buffers, point by point, and its array after the run. -/
module

public import proofs.«01_k».proof.Proof.FfnValue
public import Idealize.ShloMosaic.Lib.Pipeline.ReadBack

@[expose] public section

set_option maxRecDepth 16384

noncomputable section

namespace Cert.Kernel2Ideal.Ffn

open Cert.Kernel2Ideal Cert.Kernel2Ideal.Gen Cert.Kernel2Ideal.Value Idealize.ShloMosaic Idealize.ShloMosaic.TcCoe

variable (m : (ℓ : Loc nD τ sig) → Buf (Elt Ideal) ℓ) (c : Dev nD)

/-- The normed input row. -/
def U (R : Fin 8192) : Fin 2048 → EReal := FfnSpec.normed (fun k => X m c (ix2 R k)) (fun k => PG m c (ix2 0 k))

/-- One hidden unit's share of an output. -/
def term (R : Fin 8192) (k : Fin 2048) (f : Fin 5632) : EReal :=
  FfnSpec.hid (U m c R) (fun k => WG m c (ix3 0 k f)) (fun k => WU m c (ix3 0 k f)) * WD m c (ix3 0 f k)

/-- What one block of hidden units adds. -/
def part (R : Fin 8192) (k : Fin 2048) (j : ℕ) : EReal :=
  if h : j < 11 then ∑ f : Fin 512, term m c R k (unit ⟨j, h⟩ f) else 0

/-- The accumulation's store at a point, once the carried normed rows are known. -/
theorem step_at (t : Fin cfg0.N) (u : Vec Ideal S512x2048 .bf16) (acc : Vec Ideal S512x2048 .f32)
    (hu : ∀ r k, u (ix2 r k) = U m c (row t.val t.isLt r) k) (r : Fin 512) (k : Fin 2048) :
    k0_pay3 (F := Ideal) u (iblk m c 2 t) (iblk m c 3 t) acc (iblk m c 4 t) (ix2 r k)
      = acc (ix2 r k) + part m c (row t.val t.isLt r) k (t.val % 11) := by
  refine (pay3_at u _ _ acc _ r k).trans ?_
  have h11 : t.val % 11 < 11 := by omega
  rw [part, dif_pos h11]
  refine congrArg _ (Finset.sum_congr rfl fun f _ => ?_)
  rw [term]
  refine congrArg₂ (· * ·) ?_ (wd_at m c t f k)
  refine congr (congrArg₂ FfnSpec.hid (funext fun k => hu r k) (funext fun k => wg_at m c t k f)) (funext fun k => wu_at m c t k f)

/-- The normed rows a run's first point leaves. -/
theorem first_at (t : Fin cfg0.N) (r : Fin 512) (k : Fin 2048) :
    k0_pay1 (F := Ideal) (iblk m c 0 t) (iblk m c 1 t) (ix2 r k) = U m c (row t.val t.isLt r) k := by
  refine (pay1_at _ _ r k).trans ?_
  rw [U]
  exact congrFun (congrArg₂ FfnSpec.normed (funext fun k => x_at m c t r k) (funext fun k => pg_at m c t k)) k

/-- The first point of a run of eleven. -/
theorem caseA (t : Fin cfg0.N) (h0 : t.val % 11 = 0) :
    (outsAt0 m c t.val t.isLt).2.1 = k0_pay1 (F := Ideal) (iblk m c 0 t) (iblk m c 1 t)
    ∧ (outsAt0 m c t.val t.isLt).2.2 = k0_pay3 (F := Ideal) (k0_pay1 (F := Ideal) (iblk m c 0 t) (iblk m c 1 t)) (iblk m c 2 t)
        (iblk m c 3 t) (k0_pay2 (F := Ideal)) (iblk m c 4 t) := by
  constructor
  · rw [outsAt0_A m c t h0 (by omega)]; frame_out
  · rw [outsAt0_A m c t h0 (by omega)]; frame_out

/-- A middle point. -/
theorem caseB (t : Fin cfg0.N) (h0 : ¬ t.val % 11 = 0) (h1 : ¬ t.val % 11 = 10) (hp : t.val - 1 < cfg0.N) :
    (outsAt0 m c t.val t.isLt).2.1 = (outsAt0 m c (t.val - 1) hp).2.1
    ∧ (outsAt0 m c t.val t.isLt).2.2 = k0_pay3 (F := Ideal) (outsAt0 m c (t.val - 1) hp).2.1 (iblk m c 2 t)
        (iblk m c 3 t) (outsAt0 m c (t.val - 1) hp).2.2 (iblk m c 4 t) := by
  constructor
  · rw [outsAt0_B m c t h0 h1]; unfold sout0_B_0; rfl
  · rw [outsAt0_B m c t h0 h1]; frame_out; rw [read_unread_whole, read_unread_whole]

/-- The last point. -/
theorem caseC (t : Fin cfg0.N) (h1 : t.val % 11 = 10) (hp : t.val - 1 < cfg0.N) :
    (outsAt0 m c t.val t.isLt).2.1 = (outsAt0 m c (t.val - 1) hp).2.1
    ∧ (outsAt0 m c t.val t.isLt).2.2 = k0_pay3 (F := Ideal) (outsAt0 m c (t.val - 1) hp).2.1 (iblk m c 2 t)
        (iblk m c 3 t) (outsAt0 m c (t.val - 1) hp).2.2 (iblk m c 4 t)
    ∧ (outsAt0 m c t.val t.isLt).1 = k0_pay4 (F := Ideal) (iblk m c 0 t) (k0_pay3 (F := Ideal) (outsAt0 m c (t.val - 1) hp).2.1 (iblk m c 2 t)
        (iblk m c 3 t) (outsAt0 m c (t.val - 1) hp).2.2 (iblk m c 4 t)) (iblk m c 5 t) := by
  refine ⟨?_, ?_, ?_⟩
  · rw [outsAt0_C m c t (by omega) h1]; unfold sout0_C_0; rfl
  · rw [outsAt0_C m c t (by omega) h1]; frame_out; rw [read_unread_whole, read_unread_whole]
  · rw [outsAt0_C m c t (by omega) h1]; frame_out; rw [read_unread_whole, read_unread_whole]

/-- After point `n`: the carried normed rows, and the sum over the blocks of hidden units so far. -/
theorem carried (n : ℕ) : ∀ h : n < cfg0.N,
    (∀ r k, (outsAt0 m c n h).2.1 (ix2 r k) = U m c (row n h r) k)
    ∧ (∀ r k, (outsAt0 m c n h).2.2 (ix2 r k) = ∑ j ∈ Finset.range (n % 11 + 1), part m c (row n h r) k j) := by
  induction n using Nat.strong_induction_on with
  | _ n ih =>
    intro h
    by_cases h0 : n % 11 = 0
    · obtain ⟨e1, e2⟩ := caseA m c ⟨n, h⟩ h0
      have hfirst := first_at m c ⟨n, h⟩
      refine ⟨fun r k => (congrFun e1 _).trans (hfirst r k), fun r k => (congrFun e2 _).trans ?_⟩
      refine (step_at m c ⟨n, h⟩ _ _ hfirst r k).trans ?_
      show k0_pay2 (F := Ideal) (ix2 r k) + part m c (row n h r) k (n % 11) = _
      rw [pay2_at, zero_add, h0, Finset.sum_range_one]
    · have hp : n - 1 < cfg0.N := by omega
      obtain ⟨i1, i2⟩ := ih (n - 1) (by omega) hp
      have hrow : ∀ r, row (n - 1) hp r = row n h r := fun r => Fin.ext (by
        show (n - 1) / 11 * 512 + r.val = n / 11 * 512 + r.val
        have : (n - 1) / 11 = n / 11 := by omega
        rw [this])
      have hmod : (n - 1) % 11 + 1 = n % 11 := by omega
      have hu : ∀ r k, (outsAt0 m c (n - 1) hp).2.1 (ix2 r k) = U m c (row n h r) k := fun r k => by
        rw [i1, hrow]
      have hboth : (outsAt0 m c n h).2.1 = (outsAt0 m c (n - 1) hp).2.1
          ∧ (outsAt0 m c n h).2.2 = k0_pay3 (F := Ideal) (outsAt0 m c (n - 1) hp).2.1 (iblk m c 2 ⟨n, h⟩)
              (iblk m c 3 ⟨n, h⟩) (outsAt0 m c (n - 1) hp).2.2 (iblk m c 4 ⟨n, h⟩) := by
        by_cases h1 : n % 11 = 10
        · obtain ⟨e1, e2, _⟩ := caseC m c ⟨n, h⟩ h1 hp
          exact ⟨e1, e2⟩
        · exact caseB m c ⟨n, h⟩ h0 h1 hp
      refine ⟨fun r k => (congrFun hboth.1 _).trans (hu r k), fun r k => (congrFun hboth.2 _).trans ?_⟩
      refine (step_at m c ⟨n, h⟩ _ _ hu r k).trans ?_
      show (outsAt0 m c (n - 1) hp).2.2 (ix2 r k) + part m c (row n h r) k (n % 11) = _
      rw [i2, hrow, hmod, Finset.sum_range_succ]

/-- The eleven blocks of hidden units are all the hidden units. -/
theorem parts (R : Fin 8192) (k : Fin 2048) :
    ∑ j ∈ Finset.range 11, part m c R k j = ∑ f : Fin 5632, term m c R k f := by
  rw [← Fin.sum_univ_eq_sum_range (fun j => part m c R k j) 11, Fin.sum_univ_tiles 11 512 rfl (fun f => term m c R k f)]
  refine Finset.sum_congr rfl fun j _ => ?_
  rw [part, dif_pos j.isLt]
  rfl

/-- The result, as a function of the arguments. -/
def G : FVec Ideal S8192x2048 .f32 := fun i =>
  FfnSpec.closed (fun k => X m c (ix2 (i 0) k)) (fun k => ∑ f : Fin 5632, term m c (i 0) k f) (fun k => QG m c (ix2 0 k)) (i 1)

/-- The kernel's array after the run. -/
theorem final : (dats m 0 c).arrAt 6 cfg0.N = G m c := by
  refine (dats m 0 c).arrAt_eq_of_covers 6 _ (by decide +kernel) fun t hf y => ?_
  have hm : t.val % 11 = 10 := (flush0_6 t).mp hf
  have hp : t.val - 1 < cfg0.N := lt_of_le_of_lt (Nat.sub_le _ _) t.isLt
  obtain ⟨_, e2, e3⟩ := caseC m c t hm hp
  have hcar := (carried m c t.val t.isLt).2
  have key : ∀ r k, (outsAt0 m c t.val t.isLt).1 (ix2 r k) = G m c (ix2 (row t.val t.isLt r) k) := fun r k => by
    rw [e3, ← e2]
    refine (pay4_at _ _ _ r k).trans ?_
    show _ = FfnSpec.closed (fun k' => X m c (ix2 (row t.val t.isLt r) k')) (fun k' => ∑ f : Fin 5632, term m c (row t.val t.isLt r) k' f)
      (fun k' => QG m c (ix2 0 k')) k
    refine congrFun (congr (congrArg₂ FfnSpec.closed (funext fun k => x_at m c t r k) (funext fun k' => ?_)) (funext fun k => qg_at m c t k)) k
    rw [hcar, hm, parts]
  blk_simp [idx t]
  rw [after0_6]
  change S512x2048.Idx at y
  idx_vars y
  refine (key _ _).trans (congrArg (G m c) ?_)
  blk_ext [idx t, row]

end Cert.Kernel2Ideal.Ffn

end
-- ==== Proof.FfnRef.lean ====
/- The feed-forward reference's result, read at an index. -/
module

public import proofs.«01_k».proof.Proof.Gen.Reference2Ideal.Read
public import proofs.«01_k».proof.Proof.FfnSpec
public import Idealize.ShloMosaic.Lib.Pointwise

@[expose] public section

set_option maxRecDepth 16384

noncomputable section

namespace Cert.Reference2Ideal.Ffn

open Cert.Reference2Ideal Cert.Reference2Ideal.Gen Cert.Reference2Ideal.Read Idealize.ShloMosaic

variable (x : FVec Ideal S8192x2048 .f32) (g : FVec Ideal S1x2048 .f32) (wg wu : FVec Ideal S1x2048x5632 .f32)
  (wd : FVec Ideal S1x5632x2048 .f32) (pg : FVec Ideal S1x2048 .f32)

/-- The normed input. -/
theorem u_at (r : Fin 8192) (c : Fin 2048) :
    val_main_v13 (F := Ideal) x g (ix2 r c) = FfnSpec.normed (fun k => x (ix2 r k)) (fun k => g (ix2 0 k)) c := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, FfnSpec.normed]

/-- The hidden units. -/
theorem hid_at (r : Fin 8192) (f : Fin 5632) :
    val_main_v19 (F := Ideal) x g wg wu (ix2 r f)
      = FfnSpec.hid (FfnSpec.normed (fun k => x (ix2 r k)) (fun k => g (ix2 0 k))) (fun k => wg (ix3 0 k f)) (fun k => wu (ix3 0 k f)) := by
  pointwise [val_main_v19, val_main_v18, val_main_v17, val_main_v16, val_main_v15, val_main_v14, val_main_call0_v5, val_main_call0_v4,
    val_main_call0_v3, val_main_call0_v2, val_main_call0_v1, val_main_call0_v0, val_main_call0_cst, val_main_call0_cst_0, u_at, FfnSpec.hid,
    Ideal.logistic]

/-- The down projection. -/
theorem down_at (r : Fin 8192) (c : Fin 2048) :
    val_main_v21 (F := Ideal) x g wg wu wd (ix2 r c)
      = ∑ f : Fin 5632, FfnSpec.hid (FfnSpec.normed (fun k => x (ix2 r k)) (fun k => g (ix2 0 k))) (fun k => wg (ix3 0 k f))
          (fun k => wu (ix3 0 k f)) * wd (ix3 0 f c) := by
  pointwise [val_main_v21, val_main_v20, hid_at]

/-- The result. -/
theorem out_at (r : Fin 8192) (c : Fin 2048) :
    val_main_v38 (F := Ideal) x g wg wu wd pg (ix2 r c)
      = FfnSpec.closed (fun k => x (ix2 r k)) (fun c => ∑ f : Fin 5632, FfnSpec.hid (FfnSpec.normed (fun k => x (ix2 r k)) (fun k => g (ix2 0 k)))
          (fun k => wg (ix3 0 k f)) (fun k => wu (ix3 0 k f)) * wd (ix3 0 f c)) (fun k => pg (ix2 0 k)) c := by
  pointwise [val_main_v38, val_main_v37, val_main_v36, val_main_v35, val_main_v34, val_main_v33, val_main_v32, val_main_v31, val_main_v30,
    val_main_v29, val_main_v28, val_main_v27, val_main_v26, val_main_v25, val_main_v24, val_main_v23, val_main_v22,
    val_main_cst_2, val_main_cst_3, val_main_cst_4, val_main_cst_5, down_at, FfnSpec.closed, FfnSpec.normed]

end Cert.Reference2Ideal.Ffn

end
-- ==== Proof.FfnClaim.lean ====
/- The feed-forward pair's claims. -/
module

public import proofs.«01_k».proof.Defs
public import proofs.«01_k».proof.Proof.FfnFold
public import proofs.«01_k».proof.Proof.FfnRef
public import Idealize.ShloMosaic.Lib.Claim

@[expose] public section

set_option maxRecDepth 16384

noncomputable section

namespace Cert.FfnClaim

open Idealize.ShloMosaic Idealize.SL.Sem

instance : Cert.Kernel2Ideal.Facts := Cert.Kernel2Ideal.Gen.facts
instance : Cert.Reference2Ideal.Facts := Cert.Reference2Ideal.Gen.facts

/-- The reference runs and leaves its arguments alone. -/
theorem frame_ri : Cert.quiescent_Reference2Ideal := by
  intro m g _
  exact (θ_run Cert.Reference2Ideal.defs _ _).mono (fun r h => ⟨fun c => (h c).2, sem_eq_zero_of_no_sems (by decide) r.2⟩)
    (Cert.Reference2Ideal.Value.run (F := Ideal) m g)

/-- The reference's result is the kernel's. -/
theorem result (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v38 (F := Ideal) (Cert.Kernel2Ideal.Ffn.X m c) (Cert.Kernel2Ideal.Ffn.PG m c) (Cert.Kernel2Ideal.Ffn.WG m c)
      (Cert.Kernel2Ideal.Ffn.WU m c) (Cert.Kernel2Ideal.Ffn.WD m c) (Cert.Kernel2Ideal.Ffn.QG m c) = Cert.Kernel2Ideal.Ffn.G m c := by
  funext i
  idx_vars i
  exact Cert.Reference2Ideal.Ffn.out_at _ _ _ _ _ _ _ _

/-- The kernel and the reference end equal, every operation exact. -/
theorem algebraic : Cert.algebraic_Kernel2Ideal_Reference2Ideal := by
  intro m g m' g' _ hag
  refine ⟨fun c => Cert.Kernel2Ideal.Ffn.G m c, ?_, ?_⟩
  · refine (θ_run _ _ _).mono (fun r h c => ?_) (Cert.Kernel2Ideal.Value.run_blocks m g)
    exact ⟨(h c).1.trans (Cert.Kernel2Ideal.Ffn.final m c), (h c).2⟩
  · refine (θ_run _ _ _).mono (fun r h c => ?_) (Cert.Reference2Ideal.Value.run m' g')
    refine ⟨(h c).1.trans ?_, (h c).2⟩
    rw [Cert.Reference2Ideal.Read.val_main_v38_eq, (hag c).1, (hag c).2.1, (hag c).2.2.1, (hag c).2.2.2.1, (hag c).2.2.2.2.1, (hag c).2.2.2.2.2]
    exact result m c

end Cert.FfnClaim

end
-- ==== Proof.OutSpec.lean ====
/- The root-mean-square norm of a row, for rows of any width, and the output projection in those words. -/
module

public import Idealize.ShloMosaic.Lib.Pointwise

@[expose] public section

set_option maxRecDepth 16384

noncomputable section

namespace Cert.Norm

open Idealize.ShloMosaic

/-- A row divided by its root mean square (`w` is the row's width), times its gains. -/
def normed {n : ℕ} (w : EReal) (x g : Fin n → EReal) (c : Fin n) : EReal :=
  x c * Ideal.rsqrt (Ideal.div (∑ k : Fin n, x k * x k) w + Ideal.ofBits .f32 0x358637BD#32) * g c

end Cert.Norm

namespace Cert.OutSpec

open Idealize.ShloMosaic

/-- The two attentions' results, normed each by itself, through their halves of the projection. -/
def mix (a m ga gm : Fin 1024 → EReal) (wa wm : Fin 1024 → EReal) : EReal :=
  (∑ k : Fin 1024, Norm.normed (Ideal.ofBits .f32 0x44800000#32) a ga k * wa k)
    + ∑ k : Fin 1024, Norm.normed (Ideal.ofBits .f32 0x44800000#32) m gm k * wm k

/-- The layer's input plus the projected row `h`, normed. -/
def closed (x h g : Fin 2048 → EReal) (c : Fin 2048) : EReal :=
  x c + Norm.normed (Ideal.ofBits .f32 0x45000000#32) h g c

/-- Feature `k` of the first attention among the concatenated features. -/
def lo (k : Fin 1024) : Fin 2048 := ⟨k.val, by omega⟩
/-- Feature `k` of the second attention among the concatenated features. -/
def hi (k : Fin 1024) : Fin 2048 := ⟨1024 + k.val, by omega⟩

/-- A sum over the concatenated features is the sum over each attention's. -/
theorem sum_halves (f : Fin 2048 → EReal) : ∑ k : Fin 2048, f k = (∑ k : Fin 1024, f (lo k)) + ∑ k : Fin 1024, f (hi k) :=
  Fin.sum_univ_add (a := 1024) (b := 1024) f

end Cert.OutSpec

end
-- ==== Proof.OutPay.lean ====
/- What the output projection's kernel stores, element by element. -/
module

public import proofs.«01_k».proof.Proof.Gen.Kernel3Ideal.Skeleton
public import proofs.«01_k».proof.Proof.OutSpec

@[expose] public section

set_option maxRecDepth 16384

noncomputable section

namespace Cert.Kernel3Ideal.Out

open Cert.Kernel3Ideal Cert.Kernel3Ideal.Gen Idealize.ShloMosaic

/-- The two projected halves, summed. -/
theorem pay2_at (a : Vec Ideal S512x1024 .f32) (ga : Vec Ideal S1x1024 .f32) (b : Vec Ideal S512x1024 .f32) (gb : Vec Ideal S1x1024 .f32)
    (wa wb : Vec Ideal S1024x2048 .bf16) (r : Fin 512) (c : Fin 2048) :
    k0_pay2 (F := Ideal) a ga b gb wa wb (ix2 r c)
      = OutSpec.mix (fun k => a (ix2 r k)) (fun k => b (ix2 r k)) (fun k => ga (ix2 0 k)) (fun k => gb (ix2 0 k))
          (fun k => wa (ix2 k c)) (fun k => wb (ix2 k c)) := by
  pointwise [k0_pay2, OutSpec.mix, Norm.normed]

/-- The stored rows. -/
theorem pay1_at (h x : Vec Ideal S512x2048 .f32) (g : Vec Ideal S1x2048 .f32) (r : Fin 512) (c : Fin 2048) :
    k0_pay1 (F := Ideal) h x g (ix2 r c)
      = OutSpec.closed (fun k => x (ix2 r k)) (fun k => h (ix2 r k)) (fun k => g (ix2 0 k)) c := by
  pointwise [k0_pay1, OutSpec.closed, Norm.normed]

end Cert.Kernel3Ideal.Out

end
-- ==== Proof.OutValue.lean ====
/- The output projection's array after the run, at an index. -/
module

public import proofs.«01_k».proof.Proof.Gen.Kernel3Ideal.Value
public import proofs.«01_k».proof.Proof.OutPay
public import Idealize.ShloMosaic.Lib.Pipeline.ValueKit

@[expose] public section

set_option maxRecDepth 16384

noncomputable section

namespace Cert.Kernel3Ideal.Out

open Cert.Kernel3Ideal Cert.Kernel3Ideal.Gen Cert.Kernel3Ideal.Value Idealize.ShloMosaic Idealize.ShloMosaic.TcCoe

variable (m : (ℓ : Loc nD τ sig) → Buf (Elt Ideal) ℓ) (c : Dev nD)

/-- The printed index maps, at every point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, _)

/-- The layer's input. -/
abbrev X : FVec Ideal S8192x2048 .f32 := m ((c : Thread nD τ).loc main_arg0)
/-- The first attention's result. -/
abbrev A : FVec Ideal S8192x1024 .f32 := m ((c : Thread nD τ).loc main_arg1)
/-- The second attention's result. -/
abbrev B : FVec Ideal S8192x1024 .f32 := m ((c : Thread nD τ).loc main_arg2)
/-- The first attention's gains. -/
abbrev GA : FVec Ideal S1x1024 .f32 := m ((c : Thread nD τ).loc main_arg3)
/-- The second attention's gains. -/
abbrev GB : FVec Ideal S1x1024 .f32 := m ((c : Thread nD τ).loc main_arg4)
/-- The projection's weights. -/
abbrev W : FVec Ideal S1x2048x2048 .f32 := m ((c : Thread nD τ).loc main_arg5)
/-- The gains of the norm after the projection. -/
abbrev GP : FVec Ideal S1x2048 .f32 := m ((c : Thread nD τ).loc main_arg6)

/-- Row `r` of point `t`'s block of rows. -/
def row (t : Fin cfg0.N) (r : Fin 512) : Fin 8192 :=
  ⟨t.val * 512 + r.val, by have := lt_of_lt_of_eq t.isLt (show cfg0.N = 16 from N_0); omega⟩

theorem x_at (t : Fin cfg0.N) (r : Fin 512) (k : Fin 2048) :
    (show FVec Ideal S512x2048 .f32 from iblk m c 0 t) (ix2 r k) = X m c (ix2 (row t r) k) := by
  blk_point [iblk, V, idx t, row]

theorem a_at (t : Fin cfg0.N) (r : Fin 512) (k : Fin 1024) :
    (show FVec Ideal S512x1024 .f32 from iblk m c 1 t) (ix2 r k) = A m c (ix2 (row t r) k) := by
  blk_point [iblk, V, idx t, row]

theorem b_at (t : Fin cfg0.N) (r : Fin 512) (k : Fin 1024) :
    (show FVec Ideal S512x1024 .f32 from iblk m c 2 t) (ix2 r k) = B m c (ix2 (row t r) k) := by
  blk_point [iblk, V, idx t, row]

theorem ga_at (t : Fin cfg0.N) (k : Fin 1024) :
    (show FVec Ideal S1x1024 .f32 from iblk m c 3 t) (ix2 0 k) = GA m c (ix2 0 k) := by
  blk_point [iblk, V, idx t]

theorem gb_at (t : Fin cfg0.N) (k : Fin 1024) :
    (show FVec Ideal S1x1024 .f32 from iblk m c 4 t) (ix2 0 k) = GB m c (ix2 0 k) := by
  blk_point [iblk, V, idx t]

theorem w_at (t : Fin cfg0.N) (k : Fin 2048) (j : Fin 2048) :
    (show FVec Ideal S2048x2048 .bf16 from iblk m c 5 t) (ix2 k j) = W m c (ix3 0 k j) := by
  blk_point [iblk, V, idx t]

theorem gp_at (t : Fin cfg0.N) (k : Fin 2048) :
    (show FVec Ideal S1x2048 .f32 from iblk m c 6 t) (ix2 0 k) = GP m c (ix2 0 k) := by
  blk_point [iblk, V, idx t]

/-- The weights' upper half. -/
theorem lo_at (X : Vec Ideal S2048x2048 .bf16) (k : Fin 1024) (j : Fin 2048) :
    View.ld X r0_2 (ix2 k j) = X (ix2 (OutSpec.lo k) j) := by
  refine View.ld_unit_apply_of X _ _ _ _ _ fun a => ?_
  match a with
  | ⟨0, _⟩ => exact (Nat.zero_add _).symm
  | ⟨1, _⟩ => exact (Nat.zero_add _).symm

/-- The weights' lower half. -/
theorem hi_at (X : Vec Ideal S2048x2048 .bf16) (k : Fin 1024) (j : Fin 2048) :
    View.ld X r0_3 (ix2 k j) = X (ix2 (OutSpec.hi k) j) := by
  refine View.ld_unit_apply_of X _ _ _ _ _ fun a => ?_
  match a with
  | ⟨0, _⟩ => rfl
  | ⟨1, _⟩ => exact (Nat.zero_add _).symm

/-- The two projected attentions at a row. -/
def mixed (r : Fin 8192) (j : Fin 2048) : EReal :=
  OutSpec.mix (fun k => A m c (ix2 r k)) (fun k => B m c (ix2 r k)) (fun k => GA m c (ix2 0 k)) (fun k => GB m c (ix2 0 k))
    (fun k => W m c (ix3 0 (OutSpec.lo k) j)) (fun k => W m c (ix3 0 (OutSpec.hi k) j))

/-- The result, as a function of the arguments. -/
def G : FVec Ideal S8192x2048 .f32 := fun i =>
  OutSpec.closed (fun k => X m c (ix2 (i 0) k)) (mixed m c (i 0)) (fun k => GP m c (ix2 0 k)) (i 1)

theorem mixed_at (t : Fin cfg0.N) (r : Fin 512) (j : Fin 2048) :
    k0_pay2 (F := Ideal) (iblk m c 1 t) (iblk m c 3 t) (iblk m c 2 t) (iblk m c 4 t) (View.ld (iblk m c 5 t) r0_2) (View.ld (iblk m c 5 t) r0_3)
      (ix2 r j) = mixed m c (row t r) j := by
  refine (pay2_at _ _ _ _ _ _ r j).trans ?_
  exact congr (congr (congr (congr (congrArg₂ OutSpec.mix (funext fun k => a_at m c t r k) (funext fun k => b_at m c t r k))
    (funext fun k => ga_at m c t k)) (funext fun k => gb_at m c t k)) (funext fun k => (lo_at _ k j).trans (w_at m c t _ j)))
    (funext fun k => (hi_at _ k j).trans (w_at m c t _ j))

/-- What a point leaves in its block. -/
theorem out_at (t : Fin cfg0.N) (r : Fin 512) (j : Fin 2048) :
    out0_7 (F := Ideal) (iblk m c 0 t) (iblk m c 1 t) (iblk m c 2 t) (iblk m c 3 t) (iblk m c 4 t) (iblk m c 5 t) (iblk m c 6 t) (ix2 r j)
      = G m c (ix2 (row t r) j) := by
  have h2 : (![0, 0] : Fin 2 → ℕ) = fun _ => 0 := by decide
  have e : out0_7 (F := Ideal) (iblk m c 0 t) (iblk m c 1 t) (iblk m c 2 t) (iblk m c 3 t) (iblk m c 4 t) (iblk m c 5 t) (iblk m c 6 t)
      = k0_pay1 (F := Ideal) (k0_pay2 (F := Ideal) (iblk m c 1 t) (iblk m c 3 t) (iblk m c 2 t) (iblk m c 4 t) (View.ld (iblk m c 5 t) r0_2)
          (View.ld (iblk m c 5 t) r0_3)) (iblk m c 0 t) (iblk m c 6 t) := by
    rw [out0_7]
    exact (View.canon_unit_zero h2 _ _).trans (by
      rw [View.ld_unit_zero h2, View.ld_unit_zero h2, View.ld_unit_zero h2, View.ld_unit_zero h2, View.ld_unit_zero h2, View.ld_unit_zero h2]
      rfl)
  rw [e]
  refine (pay1_at _ _ _ r j).trans ?_
  exact congrFun (congr (congrArg₂ OutSpec.closed (funext fun k => x_at m c t r k) (funext fun k => mixed_at m c t r k))
    (funext fun k => gp_at m c t k)) j

/-- The kernel's array after the run. -/
theorem final : (dats m 0 c).arrAt 7 cfg0.N = G m c := by
  refine (dats m 0 c).arrAt_eq_of_covers 7 _ (by decide +kernel) fun t hf y => ?_
  blk_simp [idx t]
  rw [after0_7]
  change S512x2048.Idx at y
  idx_vars y
  refine (out_at m c t _ _).trans (congrArg (G m c) ?_)
  blk_ext [idx t, row]

end Cert.Kernel3Ideal.Out

end
-- ==== Proof.OutRef.lean ====
/- The output projection's reference, read at an index. -/
module

public import proofs.«01_k».proof.Proof.Gen.Reference3Ideal.Read
public import proofs.«01_k».proof.Proof.OutSpec

@[expose] public section

set_option maxRecDepth 16384

noncomputable section

namespace Cert.Reference3Ideal.Out

open Cert.Reference3Ideal Cert.Reference3Ideal.Gen Cert.Reference3Ideal.Read Idealize.ShloMosaic

variable (x : FVec Ideal S8192x2048 .f32) (a b : FVec Ideal S8192x1024 .f32) (ga gb : FVec Ideal S1x1024 .f32)
  (w : FVec Ideal S1x2048x2048 .f32) (gp : FVec Ideal S1x2048 .f32)

/-- The first attention's rows, normed. -/
theorem a_at (r : Fin 8192) (k : Fin 1024) :
    val_main_v13 (F := Ideal) a ga (ix2 r k)
      = Norm.normed (Ideal.ofBits .f32 0x44800000#32) (fun k => a (ix2 r k)) (fun k => ga (ix2 0 k)) k := by
  pointwise [val_main_v13, val_main_v12, val_main_v11, val_main_v10, val_main_v9, val_main_v8, val_main_v7, val_main_v6, val_main_v5, val_main_v4, val_main_v3, val_main_v2, val_main_v1, val_main_v0, val_main_cst, val_main_cst_0,
    val_main_cst_1, Norm.normed]

/-- The second attention's rows, normed. -/
theorem b_at (r : Fin 8192) (k : Fin 1024) :
    val_main_v27 (F := Ideal) b gb (ix2 r k)
      = Norm.normed (Ideal.ofBits .f32 0x44800000#32) (fun k => b (ix2 r k)) (fun k => gb (ix2 0 k)) k := by
  pointwise [val_main_v27, val_main_v26, val_main_v25, val_main_v24, val_main_v23, val_main_v22, val_main_v21, val_main_v20, val_main_v19, val_main_v18, val_main_v17, val_main_v16, val_main_v15, val_main_v14, val_main_cst_2, val_main_cst_3,
    val_main_cst_4, Norm.normed]

/-- The concatenated features: the first attention's … -/
theorem lo_at (r : Fin 8192) (k : Fin 1024) :
    val_main_v28 (F := Ideal) a b ga gb (ix2 r (OutSpec.lo k)) = val_main_v13 (F := Ideal) a ga (ix2 r k) := by
  have hk := k.isLt
  pointwise [val_main_v28, OutSpec.lo]

/-- … and the second's. -/
theorem hi_at (r : Fin 8192) (k : Fin 1024) :
    val_main_v28 (F := Ideal) a b ga gb (ix2 r (OutSpec.hi k)) = val_main_v27 (F := Ideal) b gb (ix2 r k) := by
  have hk := k.isLt
  pointwise [val_main_v28, OutSpec.hi]

/-- The projection. -/
theorem mix_at (r : Fin 8192) (c : Fin 2048) :
    val_main_v30 (F := Ideal) a b ga gb w (ix2 r c)
      = OutSpec.mix (fun k => a (ix2 r k)) (fun k => b (ix2 r k)) (fun k => ga (ix2 0 k)) (fun k => gb (ix2 0 k))
          (fun k => w (ix3 0 (OutSpec.lo k) c)) (fun k => w (ix3 0 (OutSpec.hi k) c)) := by
  have h : val_main_v30 (F := Ideal) a b ga gb w (ix2 r c)
      = ∑ k : Fin 2048, val_main_v28 (F := Ideal) a b ga gb (ix2 r k) * w (ix3 0 k c) := by
    pointwise [val_main_v30, val_main_v29]
  rw [h, OutSpec.sum_halves, OutSpec.mix]
  simp only [lo_at, hi_at, a_at, b_at]

/-- The result. -/
theorem out_at (r : Fin 8192) (c : Fin 2048) :
    val_main_v45 (F := Ideal) x a b ga gb w gp (ix2 r c)
      = OutSpec.closed (fun k => x (ix2 r k)) (fun c => OutSpec.mix (fun k => a (ix2 r k)) (fun k => b (ix2 r k)) (fun k => ga (ix2 0 k))
          (fun k => gb (ix2 0 k)) (fun k => w (ix3 0 (OutSpec.lo k) c)) (fun k => w (ix3 0 (OutSpec.hi k) c))) (fun k => gp (ix2 0 k)) c := by
  pointwise [val_main_v45, val_main_v44, val_main_v43, val_main_v42, val_main_v41, val_main_v40, val_main_v39, val_main_v38, val_main_v37, val_main_v36, val_main_v35, val_main_v34, val_main_v33, val_main_v32, val_main_v31, val_main_cst_5, val_main_cst_6,
    val_main_cst_7, mix_at, OutSpec.closed, Norm.normed]

end Cert.Reference3Ideal.Out

end
-- ==== Proof.OutClaim.lean ====
/- The output projection's claims. -/
module

public import proofs.«01_k».proof.Defs
public import proofs.«01_k».proof.Proof.OutValue
public import proofs.«01_k».proof.Proof.OutRef
public import Idealize.ShloMosaic.Lib.Claim

@[expose] public section

set_option maxRecDepth 16384

noncomputable section

namespace Cert.OutClaim

open Idealize.ShloMosaic Idealize.SL.Sem

instance : Cert.Kernel3Ideal.Facts := Cert.Kernel3Ideal.Gen.facts
instance : Cert.Reference3Ideal.Facts := Cert.Reference3Ideal.Gen.facts

/-- The reference runs and leaves its arguments alone. -/
theorem frame_ri : Cert.quiescent_Reference3Ideal := by
  intro m g _
  exact (θ_run Cert.Reference3Ideal.defs _ _).mono (fun r h => ⟨fun c => (h c).2, sem_eq_zero_of_no_sems (by decide) r.2⟩)
    (Cert.Reference3Ideal.Value.run (F := Ideal) m g)

/-- The reference's result is the kernel's. -/
theorem result (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v45 (F := Ideal) (Cert.Kernel3Ideal.Out.X m c) (Cert.Kernel3Ideal.Out.A m c) (Cert.Kernel3Ideal.Out.B m c)
      (Cert.Kernel3Ideal.Out.GA m c) (Cert.Kernel3Ideal.Out.GB m c) (Cert.Kernel3Ideal.Out.W m c) (Cert.Kernel3Ideal.Out.GP m c)
      = Cert.Kernel3Ideal.Out.G m c := by
  funext i
  idx_vars i
  exact Cert.Reference3Ideal.Out.out_at _ _ _ _ _ _ _ _ _

/-- The kernel and the reference end equal, every operation exact. -/
theorem algebraic : Cert.algebraic_Kernel3Ideal_Reference3Ideal := by
  intro m g m' g' _ hag
  refine ⟨fun c => Cert.Kernel3Ideal.Out.G m c, ?_, ?_⟩
  · refine (θ_run _ _ _).mono (fun r h c => ?_) (Cert.Kernel3Ideal.Value.run_blocks m g)
    exact ⟨(h c).1.trans (Cert.Kernel3Ideal.Out.final m c), (h c).2⟩
  · refine (θ_run _ _ _).mono (fun r h c => ?_) (Cert.Reference3Ideal.Value.run m' g')
    refine ⟨(h c).1.trans ?_, (h c).2⟩
    rw [Cert.Reference3Ideal.Read.val_main_v45_eq, (hag c).1, (hag c).2.1, (hag c).2.2.1, (hag c).2.2.2.1, (hag c).2.2.2.2.1,
      (hag c).2.2.2.2.2.1, (hag c).2.2.2.2.2.2]
    exact result m c

end Cert.OutClaim

end
-- ==== Proof.ProjSpec.lean ====
/- The first projections of the layer, one row at a time: norms, products, rotated pairs and the layout of the results. -/
module

public import proofs.«01_k».proof.Proof.OutSpec

@[expose] public section

set_option maxRecDepth 16384

noncomputable section

namespace Cert.ProjSpec

open Idealize.ShloMosaic

/-- Column `o + i`. -/
def col {n : ℕ} (N o : ℕ) (h : o + n ≤ N) (i : Fin n) : Fin N := ⟨o + i.val, by have := i.isLt; omega⟩

/-- A row times a column. -/
def dot {n : ℕ} (u w : Fin n → EReal) : EReal := ∑ k : Fin n, u k * w k

/-- The angle at position `p` of pair `i`, for rotated vectors of width `d`. -/
def angle (d : EReal) (p i : ℕ) : EReal :=
  (FloatOps.sitofp .f32 (BitVec.ofNat 32 p) : Ideal .f32) * Ideal.div 1
    (Ideal.pow (Ideal.ofBits .f32 0x461C4000#32)
      (Ideal.div (Ideal.ofBits .f32 0x40000000#32 * (FloatOps.sitofp .f32 (BitVec.ofNat 32 i) : Ideal .f32)) d))

/-- The cosines and sines at a position, for width 64 … -/
def cos64 (p : ℕ) (i : Fin 32) : EReal := Ideal.cos (angle (Ideal.ofBits .f32 0x42800000#32) p i.val)
def sin64 (p : ℕ) (i : Fin 32) : EReal := Ideal.sin (angle (Ideal.ofBits .f32 0x42800000#32) p i.val)
/-- … and for width 128. -/
def cos128 (p : ℕ) (i : Fin 64) : EReal := Ideal.cos (angle (Ideal.ofBits .f32 0x43000000#32) p i.val)
def sin128 (p : ℕ) (i : Fin 64) : EReal := Ideal.sin (angle (Ideal.ofBits .f32 0x43000000#32) p i.val)

/-- Two halves of 32 lanes spread over 128, zeros after each. -/
def spread (a b : Fin 32 → EReal) (l : Fin 128) : EReal :=
  if h : l.val < 32 then a ⟨l.val, h⟩
  else if h1 : l.val < 64 then 0
  else if h2 : l.val < 96 then b ⟨l.val - 64, by omega⟩
  else 0

/-- Two halves of 64 lanes side by side. -/
def halves (a b : Fin 64 → EReal) (l : Fin 128) : EReal :=
  if h : l.val < 64 then a ⟨l.val, h⟩ else b ⟨l.val - 64, by have := l.isLt; omega⟩

/-- The lane 64 further round. -/
def across (l : Fin 128) : Fin 128 := ⟨(l.val + 128 - 64) % 128, Nat.mod_lt _ (by omega)⟩

/-- A row of 128 lanes times `c`, plus the row turned by 64 lanes times `s`. -/
def turn (f c s : Fin 128 → EReal) (l : Fin 128) : EReal := f l * c l + f (across l) * s l

/-- Pairs rotated: the first halves … -/
def rot1 {n : ℕ} (x1 x2 c s : Fin n → EReal) (i : Fin n) : EReal := x1 i * c i - x2 i * s i
/-- … and the second. -/
def rot2 {n : ℕ} (x1 x2 c s : Fin n → EReal) (i : Fin n) : EReal := x2 i * c i + x1 i * s i

theorem turn_spread (x1 x2 c s : Fin 32 → EReal) (l : Fin 128) :
    turn (spread x1 x2) (spread c c) (spread (fun i => -s i) s) l = spread (rot1 x1 x2 c s) (rot2 x1 x2 c s) l := by
  have hl := l.isLt
  rcases Nat.lt_or_ge l.val 32 with h | h
  · have e : (across l).val = l.val + 64 := by
      show (l.val + 128 - 64) % 128 = l.val + 64
      omega
    simp only [turn, spread, e, rot1, h, dif_pos, show ¬ l.val + 64 < 32 by omega, show ¬ l.val + 64 < 64 by omega,
      show l.val + 64 < 96 by omega, dif_neg, not_false_eq_true, Nat.add_sub_cancel, mul_neg, sub_eq_add_neg]
  rcases Nat.lt_or_ge l.val 64 with h1 | h1
  · have e : (across l).val = l.val + 64 := by
      show (l.val + 128 - 64) % 128 = l.val + 64
      omega
    simp only [turn, spread, e, show ¬ l.val < 32 by omega, h1, dif_pos, dif_neg, not_false_eq_true, mul_zero, add_zero]
  have e : (across l).val = l.val - 64 := by
    show (l.val + 128 - 64) % 128 = l.val - 64
    omega
  rcases Nat.lt_or_ge l.val 96 with h2 | h2
  · simp only [turn, spread, e, rot2, show ¬ l.val < 32 by omega, show ¬ l.val < 64 by omega, h2, show l.val - 64 < 32 by omega,
      dif_pos, dif_neg, not_false_eq_true]
  · simp only [turn, spread, e, show ¬ l.val < 32 by omega, show ¬ l.val < 64 by omega, show ¬ l.val < 96 by omega,
      dif_neg, not_false_eq_true, mul_zero, add_zero]

theorem turn_halves (x1 x2 c s : Fin 64 → EReal) (l : Fin 128) :
    turn (halves x1 x2) (halves c c) (halves (fun i => -s i) s) l = halves (rot1 x1 x2 c s) (rot2 x1 x2 c s) l := by
  have hl := l.isLt
  rcases Nat.lt_or_ge l.val 64 with h | h
  · have e : (across l).val = l.val + 64 := by
      show (l.val + 128 - 64) % 128 = l.val + 64
      omega
    simp only [turn, halves, e, rot1, h, dif_pos, show ¬ l.val + 64 < 64 by omega, dif_neg, not_false_eq_true, Nat.add_sub_cancel,
      mul_neg, sub_eq_add_neg]
  · have e : (across l).val = l.val - 64 := by
      show (l.val + 128 - 64) % 128 = l.val - 64
      omega
    simp only [turn, halves, e, rot2, show ¬ l.val < 64 by omega, show l.val - 64 < 64 by omega, dif_pos, dif_neg, not_false_eq_true]

/-- Any row of 128 lanes is its two halves side by side. -/
theorem halves_self (f : Fin 128 → EReal) (l : Fin 128) :
    halves (fun i => f (col 128 0 (by omega) i)) (fun i => f (col 128 64 (by omega) i)) l = f l := by
  have hl := l.isLt
  rcases Nat.lt_or_ge l.val 64 with h | h
  · simp only [halves, h, dif_pos]
    exact congrArg f (Fin.ext (by show 0 + l.val = l.val; omega))
  · simp only [halves, show ¬ l.val < 64 by omega, dif_neg, not_false_eq_true]
    exact congrArg f (Fin.ext (by show 64 + (l.val - 64) = l.val; omega))

/-- A product with spread columns is the products, spread. -/
theorem dot_spread {n : ℕ} (u : Fin n → EReal) (a b : Fin n → Fin 32 → EReal) (l : Fin 128) :
    dot u (fun k => spread (a k) (b k) l) = spread (fun i => dot u fun k => a k i) (fun i => dot u fun k => b k i) l := by
  have hl := l.isLt
  rcases Nat.lt_or_ge l.val 32 with h | h
  · simp only [spread, h, dif_pos]
  rcases Nat.lt_or_ge l.val 64 with h1 | h1
  · simp only [dot, spread, show ¬ l.val < 32 by omega, h1, dif_pos, dif_neg, not_false_eq_true, mul_zero, Finset.sum_const_zero]
  rcases Nat.lt_or_ge l.val 96 with h2 | h2
  · simp only [spread, show ¬ l.val < 32 by omega, show ¬ l.val < 64 by omega, h2, dif_pos, dif_neg, not_false_eq_true]
  · simp only [dot, spread, show ¬ l.val < 32 by omega, show ¬ l.val < 64 by omega, show ¬ l.val < 96 by omega,
      dif_neg, not_false_eq_true, mul_zero, Finset.sum_const_zero]

/-- A head of the latent attention: 128 plain lanes, then the rotated ones, spread. -/
def latent (a : Fin 128 → EReal) (x1 x2 c s : Fin 32 → EReal) (d : Fin 256) : EReal :=
  if h : d.val < 128 then a ⟨d.val, h⟩
  else spread (rot1 x1 x2 c s) (rot2 x1 x2 c s) ⟨d.val - 128, by have := d.isLt; omega⟩

/-- A head of the block attention: its 128 lanes rotated. -/
def rotated (f : Fin 128 → EReal) (c s : Fin 64 → EReal) (l : Fin 128) : EReal :=
  halves (rot1 (fun i => f (col 128 0 (by omega) i)) (fun i => f (col 128 64 (by omega) i)) c s)
    (rot2 (fun i => f (col 128 0 (by omega) i)) (fun i => f (col 128 64 (by omega) i)) c s) l

theorem turn_rotated (f : Fin 128 → EReal) (c s : Fin 64 → EReal) (l : Fin 128) :
    turn f (halves c c) (halves (fun i => -s i) s) l = rotated f c s l := by
  refine Eq.trans ?_ (turn_halves (fun i => f (col 128 0 (by omega) i)) (fun i => f (col 128 64 (by omega) i)) c s l)
  exact congrArg (fun f => turn f _ _ l) (funext fun l => (halves_self f l).symm)

section Row

variable (x g : Fin 2048 → EReal) (w : Fin 2048 → Fin 3904 → EReal) (gq : Fin 512 → EReal) (gk : Fin 256 → EReal)
  (wq : Fin 512 → Fin 1536 → EReal) (wk : Fin 256 → Fin 2048 → EReal)

/-- The normed row. -/
def u : Fin 2048 → EReal := Norm.normed (Ideal.ofBits .f32 0x45000000#32) x g
/-- The row after the first product. -/
def inp (j : Fin 3904) : EReal := dot (u x g) fun k => w k j
/-- The queries' compressed row, normed. -/
def cq : Fin 512 → EReal := Norm.normed (Ideal.ofBits .f32 0x44000000#32) (fun j => inp x g w (col 3904 0 (by omega) j)) gq
/-- The queries. -/
def q (j : Fin 1536) : EReal := dot (cq x g w gq) fun k => wq k j
/-- The keys' and values' compressed row, normed. -/
def ck : Fin 256 → EReal := Norm.normed (Ideal.ofBits .f32 0x43800000#32) (fun j => inp x g w (col 3904 512 (by omega) j)) gk
/-- The keys and values. -/
def kv (j : Fin 2048) : EReal := dot (ck x g w gk) fun k => wk k j

/-- Head `h`, latent queries at position `p`. -/
def qa (p : ℕ) (h : Fin 8) : Fin 256 → EReal :=
  latent (fun l => q x g w gq wq ⟨h.val * 192 + l.val, by have := l.isLt; have := h.isLt; omega⟩)
    (fun i => q x g w gq wq ⟨h.val * 192 + (128 + i.val), by have := i.isLt; have := h.isLt; omega⟩)
    (fun i => q x g w gq wq ⟨h.val * 192 + (160 + i.val), by have := i.isLt; have := h.isLt; omega⟩) (cos64 p) (sin64 p)

/-- Head `h`, latent keys at position `p`: the rotated lanes are shared by the heads. -/
def ka (p : ℕ) (h : Fin 8) : Fin 256 → EReal :=
  latent (fun l => kv x g w gk wk ⟨h.val * 256 + l.val, by have := l.isLt; have := h.isLt; omega⟩)
    (fun i => inp x g w (col 3904 768 (by omega) i)) (fun i => inp x g w (col 3904 800 (by omega) i)) (cos64 p) (sin64 p)

/-- Head `h`, latent values. -/
def va (h : Fin 8) (d : Fin 128) : EReal :=
  kv x g w gk wk ⟨h.val * 256 + (128 + d.val), by have := d.isLt; have := h.isLt; omega⟩

/-- Head `h`, the block attention's queries (`o = 832`) or keys (`o = 1856`) at position `p`. -/
def rm (o : ℕ) (ho : o + 1024 ≤ 3904) (p : ℕ) (h : Fin 8) : Fin 128 → EReal :=
  rotated (fun l => inp x g w ⟨o + (h.val * 128 + l.val), by have := l.isLt; have := h.isLt; omega⟩) (cos128 p) (sin128 p)

end Row

end Cert.ProjSpec

end
-- ==== Proof.ProjPay.lean ====
/- What the first projections' kernel computes in a block, element by element. -/
module

public import proofs.«01_k».proof.Proof.Gen.Kernel4Ideal.Skeleton
public import proofs.«01_k».proof.Proof.ProjSpec

@[expose] public section

set_option maxRecDepth 16384

noncomputable section

namespace Cert.Kernel4Ideal.Proj

open Cert.Kernel4Ideal Cert.Kernel4Ideal.Gen Idealize.ShloMosaic

/-- The normed rows. -/
theorem pay6_at (x : Vec Ideal S256x2048 .f32) (g : Vec Ideal S1x2048 .f32) (r : Fin 256) (k : Fin 2048) :
    k0_pay6 (F := Ideal) x g (ix2 r k) = ProjSpec.u (fun k => x (ix2 r k)) (fun k => g (ix2 0 k)) k := by
  pointwise [k0_pay6, ProjSpec.u, Norm.normed]

/-- The queries' compressed rows. -/
theorem pay11_at (x : Vec Ideal S256x2048 .f32) (g : Vec Ideal S1x2048 .f32) (w : Vec Ideal S2048x512 .bf16) (r : Fin 256) (j : Fin 512) :
    k0_pay11 (F := Ideal) x g w (ix2 r j)
      = ProjSpec.dot (ProjSpec.u (fun k => x (ix2 r k)) (fun k => g (ix2 0 k))) (fun k => w (ix2 k j)) := by
  pointwise [k0_pay11, pay6_at, ProjSpec.dot]

/-- Their mean squares. -/
theorem pay13_at (x : Vec Ideal S256x2048 .f32) (g : Vec Ideal S1x2048 .f32) (w : Vec Ideal S2048x512 .bf16) (r : Fin 256) :
    k0_pay13 (F := Ideal) x g w (ix2 r 0)
      = Ideal.div (∑ j : Fin 512, k0_pay11 (F := Ideal) x g w (ix2 r j) * k0_pay11 (F := Ideal) x g w (ix2 r j)) (Ideal.ofBits .f32 0x44000000#32)
        + Ideal.ofBits .f32 0x358637BD#32 := by
  pointwise [k0_pay13]

theorem pay12_at (g : Vec Ideal S1x512 .f32) (k : Fin 512) : k0_pay12 (F := Ideal) g (ix2 0 k) = g (ix2 0 k) := by
  pointwise [k0_pay12]

/-- The queries. -/
theorem pay14_at (a : FVec Ideal S256x512 .f32) (g : FVec Ideal S1x512 .f32) (s : FVec Ideal S256x1 .f32) (w : Vec Ideal S512x2048 .bf16)
    (r : Fin 256) (c : Fin 2048) :
    k0_pay14 (F := Ideal) a g s w (ix2 r c)
      = ProjSpec.dot (fun k : Fin 512 => a (ix2 r k) * Ideal.rsqrt (s (ix2 r 0)) * g (ix2 0 k)) (fun k => w (ix2 k c)) := by
  pointwise [k0_pay14, ProjSpec.dot]

/-- The keys' and values' compressed rows, normed. -/
theorem pay31_at (u : FVec Ideal S256x2048 .bf16) (w : Vec Ideal S2048x256 .bf16) (g : Vec Ideal S1x256 .f32) (r : Fin 256) (k : Fin 256) :
    k0_pay31 (F := Ideal) u w g (ix2 r k)
      = Norm.normed (Ideal.ofBits .f32 0x43800000#32) (fun j : Fin 256 => ProjSpec.dot (fun k => u (ix2 r k)) (fun k => w (ix2 k j)))
          (fun k => g (ix2 0 k)) k := by
  pointwise [k0_pay31, ProjSpec.dot, Norm.normed]

/-- The keys. -/
theorem pay32_at (u : FVec Ideal S256x2048 .bf16) (w : Vec Ideal S2048x256 .bf16) (g : Vec Ideal S1x256 .f32) (w' : Vec Ideal S256x1024 .bf16)
    (r : Fin 256) (c : Fin 1024) :
    k0_pay32 (F := Ideal) u w g w' (ix2 r c)
      = ProjSpec.dot (fun k : Fin 256 => k0_pay31 (F := Ideal) u w g (ix2 r k)) (fun k => w' (ix2 k c)) := by
  pointwise [k0_pay32, ProjSpec.dot]

/-- The values. -/
theorem pay33_at (a : FVec Ideal S256x256 .bf16) (w : Vec Ideal S256x1024 .bf16) (r : Fin 256) (c : Fin 1024) :
    k0_pay33 (F := Ideal) a w (ix2 r c) = ProjSpec.dot (fun k : Fin 256 => a (ix2 r k)) (fun k => w (ix2 k c)) := by
  pointwise [k0_pay33, ProjSpec.dot]

/-- The shared rotated keys. -/
theorem pay34_at (u : FVec Ideal S256x2048 .bf16) (ca sa : FVec Ideal S256x128 .f32) (w : Vec Ideal S2048x128 .bf16) (r : Fin 256) (l : Fin 128) :
    k0_pay34 (F := Ideal) u ca sa w (ix2 r l)
      = ProjSpec.turn (fun l => ProjSpec.dot (fun k => u (ix2 r k)) (fun k => w (ix2 k l))) (fun l => ca (ix2 r l)) (fun l => sa (ix2 r l)) l := by
  pointwise [k0_pay34, ProjSpec.turn, ProjSpec.dot, ProjSpec.across]

/-- The block attention's rows before they are rotated. -/
theorem pay43_at (u : FVec Ideal S256x2048 .bf16) (w : Vec Ideal S2048x1024 .bf16) (r : Fin 256) (c : Fin 1024) :
    k0_pay43 (F := Ideal) u w (ix2 r c) = ProjSpec.dot (fun k => u (ix2 r k)) (fun k => w (ix2 k c)) := by
  pointwise [k0_pay43, ProjSpec.dot]

theorem pay44_at (u : FVec Ideal S256x2048 .bf16) (w : Vec Ideal S2048x1024 .bf16) (r : Fin 256) (c : Fin 1024) :
    k0_pay44 (F := Ideal) u w (ix2 r c) = ProjSpec.dot (fun k => u (ix2 r k)) (fun k => w (ix2 k c)) := by
  pointwise [k0_pay44, ProjSpec.dot]

/-- The block attention's values. -/
theorem pay46_at (u : FVec Ideal S256x2048 .bf16) (w : Vec Ideal S2048x1024 .bf16) (r : Fin 256) (c : Fin 1024) :
    k0_pay46 (F := Ideal) u (k0_pay45 (F := Ideal) w) (constant S256x1024 .f32 0x00000000#32) (ix2 r c)
      = ProjSpec.dot (fun k => u (ix2 r k)) (fun k => w (ix2 k c)) := by
  pointwise [k0_pay46, k0_pay45, ProjSpec.dot]

theorem pay7_eq (v : Vec Ideal S256x128 .f32) (r : Fin 256) (l : Fin 128) : k0_pay7 (F := Ideal) v (ix2 r l) = v (ix2 r l) := by
  pointwise [k0_pay7]

theorem pay8_eq (v : Vec Ideal S256x128 .f32) (r : Fin 256) (l : Fin 128) : k0_pay8 (F := Ideal) v (ix2 r l) = v (ix2 r l) := by
  pointwise [k0_pay8]

theorem pay9_eq (v : Vec Ideal S256x128 .f32) (r : Fin 256) (l : Fin 128) : k0_pay9 (F := Ideal) v (ix2 r l) = v (ix2 r l) := by
  pointwise [k0_pay9]

theorem pay10_eq (v : Vec Ideal S256x128 .f32) (r : Fin 256) (l : Fin 128) : k0_pay10 (F := Ideal) v (ix2 r l) = v (ix2 r l) := by
  pointwise [k0_pay10]

/-! ## The pieces of the blocks -/

/-- 128 columns of a block of rows, as they are … -/
def plain {N : ℕ} (o : ℕ) (h : o + 128 ≤ N) (v : FVec Ideal ⟨2, ![256, N]⟩ .f32) (r : Fin 256) (l : Fin 128) : EReal :=
  v (ix2 r (ProjSpec.col N o h l))

/-- … and turned. -/
def turned {N : ℕ} (o : ℕ) (h : o + 128 ≤ N) (c s : FVec Ideal S256x128 .f32) (v : FVec Ideal ⟨2, ![256, N]⟩ .f32) (r : Fin 256) (l : Fin 128) : EReal :=
  ProjSpec.turn (fun l => v (ix2 r (ProjSpec.col N o h l))) (fun l => c (ix2 r l)) (fun l => s (ix2 r l)) l

theorem pay15_at (a : FVec Ideal S256x512 .f32) (g : FVec Ideal S1x512 .f32) (s : FVec Ideal S256x1 .f32) (w : Vec Ideal S512x2048 .bf16)
    (r : Fin 256) (l : Fin 128) :
    k0_pay15 (F := Ideal) a g s w (ix2 r l) = plain 0 (by omega) (k0_pay14 (F := Ideal) a g s w) r l := by
  pointwise [k0_pay15, plain, turned, ProjSpec.turn, ProjSpec.across, ProjSpec.col]

theorem pay17_at (a : FVec Ideal S256x512 .f32) (g : FVec Ideal S1x512 .f32) (s : FVec Ideal S256x1 .f32) (w : Vec Ideal S512x2048 .bf16)
    (r : Fin 256) (l : Fin 128) :
    k0_pay17 (F := Ideal) a g s w (ix2 r l) = plain 256 (by omega) (k0_pay14 (F := Ideal) a g s w) r l := by
  pointwise [k0_pay17, plain, turned, ProjSpec.turn, ProjSpec.across, ProjSpec.col]

theorem pay19_at (a : FVec Ideal S256x512 .f32) (g : FVec Ideal S1x512 .f32) (s : FVec Ideal S256x1 .f32) (w : Vec Ideal S512x2048 .bf16)
    (r : Fin 256) (l : Fin 128) :
    k0_pay19 (F := Ideal) a g s w (ix2 r l) = plain 512 (by omega) (k0_pay14 (F := Ideal) a g s w) r l := by
  pointwise [k0_pay19, plain, turned, ProjSpec.turn, ProjSpec.across, ProjSpec.col]

theorem pay16_at (ca sa : FVec Ideal S256x128 .f32) (a : FVec Ideal S256x512 .f32) (g : FVec Ideal S1x512 .f32) (s : FVec Ideal S256x1 .f32)
    (w : Vec Ideal S512x2048 .bf16) (r : Fin 256) (l : Fin 128) :
    k0_pay16 (F := Ideal) ca sa a g s w (ix2 r l) = turned 128 (by omega) ca sa (k0_pay14 (F := Ideal) a g s w) r l := by
  pointwise [k0_pay16, plain, turned, ProjSpec.turn, ProjSpec.across, ProjSpec.col]

theorem pay18_at (ca sa : FVec Ideal S256x128 .f32) (a : FVec Ideal S256x512 .f32) (g : FVec Ideal S1x512 .f32) (s : FVec Ideal S256x1 .f32)
    (w : Vec Ideal S512x2048 .bf16) (r : Fin 256) (l : Fin 128) :
    k0_pay18 (F := Ideal) ca sa a g s w (ix2 r l) = turned 384 (by omega) ca sa (k0_pay14 (F := Ideal) a g s w) r l := by
  pointwise [k0_pay18, plain, turned, ProjSpec.turn, ProjSpec.across, ProjSpec.col]

theorem pay20_at (ca sa : FVec Ideal S256x128 .f32) (a : FVec Ideal S256x512 .f32) (g : FVec Ideal S1x512 .f32) (s : FVec Ideal S256x1 .f32)
    (w : Vec Ideal S512x2048 .bf16) (r : Fin 256) (l : Fin 128) :
    k0_pay20 (F := Ideal) ca sa a g s w (ix2 r l) = turned 640 (by omega) ca sa (k0_pay14 (F := Ideal) a g s w) r l := by
  pointwise [k0_pay20, plain, turned, ProjSpec.turn, ProjSpec.across, ProjSpec.col]

theorem pay21_at (v : FVec Ideal S256x2048 .f32) (r : Fin 256) (l : Fin 128) :
    k0_pay21 (F := Ideal) v (ix2 r l) = plain 768 (by omega) v r l := by
  pointwise [k0_pay21, plain, turned, ProjSpec.turn, ProjSpec.across, ProjSpec.col]

theorem pay23_at (v : FVec Ideal S256x2048 .f32) (r : Fin 256) (l : Fin 128) :
    k0_pay23 (F := Ideal) v (ix2 r l) = plain 1024 (by omega) v r l := by
  pointwise [k0_pay23, plain, turned, ProjSpec.turn, ProjSpec.across, ProjSpec.col]

theorem pay25_at (v : FVec Ideal S256x2048 .f32) (r : Fin 256) (l : Fin 128) :
    k0_pay25 (F := Ideal) v (ix2 r l) = plain 1280 (by omega) v r l := by
  pointwise [k0_pay25, plain, turned, ProjSpec.turn, ProjSpec.across, ProjSpec.col]

theorem pay27_at (v : FVec Ideal S256x2048 .f32) (r : Fin 256) (l : Fin 128) :
    k0_pay27 (F := Ideal) v (ix2 r l) = plain 1536 (by omega) v r l := by
  pointwise [k0_pay27, plain, turned, ProjSpec.turn, ProjSpec.across, ProjSpec.col]

theorem pay29_at (v : FVec Ideal S256x2048 .f32) (r : Fin 256) (l : Fin 128) :
    k0_pay29 (F := Ideal) v (ix2 r l) = plain 1792 (by omega) v r l := by
  pointwise [k0_pay29, plain, turned, ProjSpec.turn, ProjSpec.across, ProjSpec.col]

theorem pay22_at (ca sa : FVec Ideal S256x128 .f32) (v : FVec Ideal S256x2048 .f32) (r : Fin 256) (l : Fin 128) :
    k0_pay22 (F := Ideal) ca sa v (ix2 r l) = turned 896 (by omega) ca sa v r l := by
  pointwise [k0_pay22, plain, turned, ProjSpec.turn, ProjSpec.across, ProjSpec.col]

theorem pay24_at (ca sa : FVec Ideal S256x128 .f32) (v : FVec Ideal S256x2048 .f32) (r : Fin 256) (l : Fin 128) :
    k0_pay24 (F := Ideal) ca sa v (ix2 r l) = turned 1152 (by omega) ca sa v r l := by
  pointwise [k0_pay24, plain, turned, ProjSpec.turn, ProjSpec.across, ProjSpec.col]

theorem pay26_at (ca sa : FVec Ideal S256x128 .f32) (v : FVec Ideal S256x2048 .f32) (r : Fin 256) (l : Fin 128) :
    k0_pay26 (F := Ideal) ca sa v (ix2 r l) = turned 1408 (by omega) ca sa v r l := by
  pointwise [k0_pay26, plain, turned, ProjSpec.turn, ProjSpec.across, ProjSpec.col]

theorem pay28_at (ca sa : FVec Ideal S256x128 .f32) (v : FVec Ideal S256x2048 .f32) (r : Fin 256) (l : Fin 128) :
    k0_pay28 (F := Ideal) ca sa v (ix2 r l) = turned 1664 (by omega) ca sa v r l := by
  pointwise [k0_pay28, plain, turned, ProjSpec.turn, ProjSpec.across, ProjSpec.col]

theorem pay30_at (ca sa : FVec Ideal S256x128 .f32) (v : FVec Ideal S256x2048 .f32) (r : Fin 256) (l : Fin 128) :
    k0_pay30 (F := Ideal) ca sa v (ix2 r l) = turned 1920 (by omega) ca sa v r l := by
  pointwise [k0_pay30, plain, turned, ProjSpec.turn, ProjSpec.across, ProjSpec.col]

theorem pay35_at (v : FVec Ideal S256x1024 .f32) (r : Fin 256) (l : Fin 128) :
    k0_pay35 (F := Ideal) v (ix2 r l) = plain 0 (by omega) v r l := by
  pointwise [k0_pay35, plain, turned, ProjSpec.turn, ProjSpec.across, ProjSpec.col]

theorem pay36_at (v : FVec Ideal S256x1024 .f32) (r : Fin 256) (l : Fin 128) :
    k0_pay36 (F := Ideal) v (ix2 r l) = plain 128 (by omega) v r l := by
  pointwise [k0_pay36, plain, turned, ProjSpec.turn, ProjSpec.across, ProjSpec.col]

theorem pay37_at (v : FVec Ideal S256x1024 .f32) (r : Fin 256) (l : Fin 128) :
    k0_pay37 (F := Ideal) v (ix2 r l) = plain 256 (by omega) v r l := by
  pointwise [k0_pay37, plain, turned, ProjSpec.turn, ProjSpec.across, ProjSpec.col]

theorem pay38_at (v : FVec Ideal S256x1024 .f32) (r : Fin 256) (l : Fin 128) :
    k0_pay38 (F := Ideal) v (ix2 r l) = plain 384 (by omega) v r l := by
  pointwise [k0_pay38, plain, turned, ProjSpec.turn, ProjSpec.across, ProjSpec.col]

theorem pay39_at (v : FVec Ideal S256x1024 .f32) (r : Fin 256) (l : Fin 128) :
    k0_pay39 (F := Ideal) v (ix2 r l) = plain 512 (by omega) v r l := by
  pointwise [k0_pay39, plain, turned, ProjSpec.turn, ProjSpec.across, ProjSpec.col]

theorem pay40_at (v : FVec Ideal S256x1024 .f32) (r : Fin 256) (l : Fin 128) :
    k0_pay40 (F := Ideal) v (ix2 r l) = plain 640 (by omega) v r l := by
  pointwise [k0_pay40, plain, turned, ProjSpec.turn, ProjSpec.across, ProjSpec.col]

theorem pay41_at (v : FVec Ideal S256x1024 .f32) (r : Fin 256) (l : Fin 128) :
    k0_pay41 (F := Ideal) v (ix2 r l) = plain 768 (by omega) v r l := by
  pointwise [k0_pay41, plain, turned, ProjSpec.turn, ProjSpec.across, ProjSpec.col]

theorem pay42_at (v : FVec Ideal S256x1024 .f32) (r : Fin 256) (l : Fin 128) :
    k0_pay42 (F := Ideal) v (ix2 r l) = plain 896 (by omega) v r l := by
  pointwise [k0_pay42, plain, turned, ProjSpec.turn, ProjSpec.across, ProjSpec.col]

theorem pay47_at (c s : FVec Ideal S256x128 .f32) (v : FVec Ideal S256x1024 .f32) (r : Fin 256) (l : Fin 128) :
    k0_pay47 (F := Ideal) c s v (ix2 r l) = turned 0 (by omega) c s v r l := by
  pointwise [k0_pay47, plain, turned, ProjSpec.turn, ProjSpec.across, ProjSpec.col]

theorem pay51_at (c s : FVec Ideal S256x128 .f32) (v : FVec Ideal S256x1024 .f32) (r : Fin 256) (l : Fin 128) :
    k0_pay51 (F := Ideal) c s v (ix2 r l) = turned 128 (by omega) c s v r l := by
  pointwise [k0_pay51, plain, turned, ProjSpec.turn, ProjSpec.across, ProjSpec.col]

theorem pay55_at (c s : FVec Ideal S256x128 .f32) (v : FVec Ideal S256x1024 .f32) (r : Fin 256) (l : Fin 128) :
    k0_pay55 (F := Ideal) c s v (ix2 r l) = turned 256 (by omega) c s v r l := by
  pointwise [k0_pay55, plain, turned, ProjSpec.turn, ProjSpec.across, ProjSpec.col]

theorem pay59_at (c s : FVec Ideal S256x128 .f32) (v : FVec Ideal S256x1024 .f32) (r : Fin 256) (l : Fin 128) :
    k0_pay59 (F := Ideal) c s v (ix2 r l) = turned 384 (by omega) c s v r l := by
  pointwise [k0_pay59, plain, turned, ProjSpec.turn, ProjSpec.across, ProjSpec.col]

theorem pay63_at (c s : FVec Ideal S256x128 .f32) (v : FVec Ideal S256x1024 .f32) (r : Fin 256) (l : Fin 128) :
    k0_pay63 (F := Ideal) c s v (ix2 r l) = turned 512 (by omega) c s v r l := by
  pointwise [k0_pay63, plain, turned, ProjSpec.turn, ProjSpec.across, ProjSpec.col]

theorem pay67_at (c s : FVec Ideal S256x128 .f32) (v : FVec Ideal S256x1024 .f32) (r : Fin 256) (l : Fin 128) :
    k0_pay67 (F := Ideal) c s v (ix2 r l) = turned 640 (by omega) c s v r l := by
  pointwise [k0_pay67, plain, turned, ProjSpec.turn, ProjSpec.across, ProjSpec.col]

theorem pay71_at (c s : FVec Ideal S256x128 .f32) (v : FVec Ideal S256x1024 .f32) (r : Fin 256) (l : Fin 128) :
    k0_pay71 (F := Ideal) c s v (ix2 r l) = turned 768 (by omega) c s v r l := by
  pointwise [k0_pay71, plain, turned, ProjSpec.turn, ProjSpec.across, ProjSpec.col]

theorem pay2_at (c s : FVec Ideal S256x128 .f32) (v : FVec Ideal S256x1024 .f32) (r : Fin 256) (l : Fin 128) :
    k0_pay2 (F := Ideal) c s v (ix2 r l) = turned 896 (by omega) c s v r l := by
  pointwise [k0_pay2, plain, turned, ProjSpec.turn, ProjSpec.across, ProjSpec.col]

theorem pay48_at (c s : FVec Ideal S256x128 .f32) (v : FVec Ideal S256x1024 .f32) (r : Fin 256) (l : Fin 128) :
    k0_pay48 (F := Ideal) c s v (ix2 r l) = turned 0 (by omega) c s v r l := by
  pointwise [k0_pay48, plain, turned, ProjSpec.turn, ProjSpec.across, ProjSpec.col]

theorem pay49_at (c s : FVec Ideal S256x128 .f32) (v : FVec Ideal S256x1024 .f32) (r : Fin 256) (l : Fin 128) :
    k0_pay49 (F := Ideal) c s v (ix2 r l) = turned 0 (by omega) c s v r l := by
  refine Eq.trans ?_ (pay48_at c s v r l)
  pointwise [k0_pay49]

theorem pay52_at (c s : FVec Ideal S256x128 .f32) (v : FVec Ideal S256x1024 .f32) (r : Fin 256) (l : Fin 128) :
    k0_pay52 (F := Ideal) c s v (ix2 r l) = turned 128 (by omega) c s v r l := by
  pointwise [k0_pay52, plain, turned, ProjSpec.turn, ProjSpec.across, ProjSpec.col]

theorem pay53_at (c s : FVec Ideal S256x128 .f32) (v : FVec Ideal S256x1024 .f32) (r : Fin 256) (l : Fin 128) :
    k0_pay53 (F := Ideal) c s v (ix2 r l) = turned 128 (by omega) c s v r l := by
  refine Eq.trans ?_ (pay52_at c s v r l)
  pointwise [k0_pay53]

theorem pay56_at (c s : FVec Ideal S256x128 .f32) (v : FVec Ideal S256x1024 .f32) (r : Fin 256) (l : Fin 128) :
    k0_pay56 (F := Ideal) c s v (ix2 r l) = turned 256 (by omega) c s v r l := by
  pointwise [k0_pay56, plain, turned, ProjSpec.turn, ProjSpec.across, ProjSpec.col]

theorem pay57_at (c s : FVec Ideal S256x128 .f32) (v : FVec Ideal S256x1024 .f32) (r : Fin 256) (l : Fin 128) :
    k0_pay57 (F := Ideal) c s v (ix2 r l) = turned 256 (by omega) c s v r l := by
  refine Eq.trans ?_ (pay56_at c s v r l)
  pointwise [k0_pay57]

theorem pay60_at (c s : FVec Ideal S256x128 .f32) (v : FVec Ideal S256x1024 .f32) (r : Fin 256) (l : Fin 128) :
    k0_pay60 (F := Ideal) c s v (ix2 r l) = turned 384 (by omega) c s v r l := by
  pointwise [k0_pay60, plain, turned, ProjSpec.turn, ProjSpec.across, ProjSpec.col]

theorem pay61_at (c s : FVec Ideal S256x128 .f32) (v : FVec Ideal S256x1024 .f32) (r : Fin 256) (l : Fin 128) :
    k0_pay61 (F := Ideal) c s v (ix2 r l) = turned 384 (by omega) c s v r l := by
  refine Eq.trans ?_ (pay60_at c s v r l)
  pointwise [k0_pay61]

theorem pay64_at (c s : FVec Ideal S256x128 .f32) (v : FVec Ideal S256x1024 .f32) (r : Fin 256) (l : Fin 128) :
    k0_pay64 (F := Ideal) c s v (ix2 r l) = turned 512 (by omega) c s v r l := by
  pointwise [k0_pay64, plain, turned, ProjSpec.turn, ProjSpec.across, ProjSpec.col]

theorem pay65_at (c s : FVec Ideal S256x128 .f32) (v : FVec Ideal S256x1024 .f32) (r : Fin 256) (l : Fin 128) :
    k0_pay65 (F := Ideal) c s v (ix2 r l) = turned 512 (by omega) c s v r l := by
  refine Eq.trans ?_ (pay64_at c s v r l)
  pointwise [k0_pay65]

theorem pay68_at (c s : FVec Ideal S256x128 .f32) (v : FVec Ideal S256x1024 .f32) (r : Fin 256) (l : Fin 128) :
    k0_pay68 (F := Ideal) c s v (ix2 r l) = turned 640 (by omega) c s v r l := by
  pointwise [k0_pay68, plain, turned, ProjSpec.turn, ProjSpec.across, ProjSpec.col]

theorem pay69_at (c s : FVec Ideal S256x128 .f32) (v : FVec Ideal S256x1024 .f32) (r : Fin 256) (l : Fin 128) :
    k0_pay69 (F := Ideal) c s v (ix2 r l) = turned 640 (by omega) c s v r l := by
  refine Eq.trans ?_ (pay68_at c s v r l)
  pointwise [k0_pay69]

theorem pay72_at (c s : FVec Ideal S256x128 .f32) (v : FVec Ideal S256x1024 .f32) (r : Fin 256) (l : Fin 128) :
    k0_pay72 (F := Ideal) c s v (ix2 r l) = turned 768 (by omega) c s v r l := by
  pointwise [k0_pay72, plain, turned, ProjSpec.turn, ProjSpec.across, ProjSpec.col]

theorem pay73_at (c s : FVec Ideal S256x128 .f32) (v : FVec Ideal S256x1024 .f32) (r : Fin 256) (l : Fin 128) :
    k0_pay73 (F := Ideal) c s v (ix2 r l) = turned 768 (by omega) c s v r l := by
  refine Eq.trans ?_ (pay72_at c s v r l)
  pointwise [k0_pay73]

theorem pay3_at (c s : FVec Ideal S256x128 .f32) (v : FVec Ideal S256x1024 .f32) (r : Fin 256) (l : Fin 128) :
    k0_pay3 (F := Ideal) c s v (ix2 r l) = turned 896 (by omega) c s v r l := by
  pointwise [k0_pay3, plain, turned, ProjSpec.turn, ProjSpec.across, ProjSpec.col]

theorem pay4_at (c s : FVec Ideal S256x128 .f32) (v : FVec Ideal S256x1024 .f32) (r : Fin 256) (l : Fin 128) :
    k0_pay4 (F := Ideal) c s v (ix2 r l) = turned 896 (by omega) c s v r l := by
  refine Eq.trans ?_ (pay3_at c s v r l)
  pointwise [k0_pay4]

/-- The mean of a block's rows. -/
def mean (f : Fin 256 → EReal) : EReal := Ideal.div (∑ r : Fin 256, f r) (Ideal.ofBits .f32 0x43800000#32)

theorem pay50_at (c s : FVec Ideal S256x128 .f32) (v : FVec Ideal S256x1024 .f32) (l : Fin 128) :
    k0_pay50 (F := Ideal) c s v (ix3 0 0 l) = mean fun r => turned 0 (by omega) c s v r l := by
  refine Eq.trans ?_ (congrArg mean (funext fun r => pay48_at c s v r l))
  pointwise [k0_pay50, mean]

theorem pay54_at (c s : FVec Ideal S256x128 .f32) (v : FVec Ideal S256x1024 .f32) (l : Fin 128) :
    k0_pay54 (F := Ideal) (k0_pay52 (F := Ideal) c s v) (ix3 0 0 l) = mean fun r => turned 128 (by omega) c s v r l := by
  refine Eq.trans ?_ (congrArg mean (funext fun r => pay52_at c s v r l))
  pointwise [k0_pay54, mean]

theorem pay58_at (c s : FVec Ideal S256x128 .f32) (v : FVec Ideal S256x1024 .f32) (l : Fin 128) :
    k0_pay58 (F := Ideal) c s v (ix3 0 0 l) = mean fun r => turned 256 (by omega) c s v r l := by
  refine Eq.trans ?_ (congrArg mean (funext fun r => pay56_at c s v r l))
  pointwise [k0_pay58, mean]

theorem pay62_at (c s : FVec Ideal S256x128 .f32) (v : FVec Ideal S256x1024 .f32) (l : Fin 128) :
    k0_pay62 (F := Ideal) c s v (ix3 0 0 l) = mean fun r => turned 384 (by omega) c s v r l := by
  refine Eq.trans ?_ (congrArg mean (funext fun r => pay60_at c s v r l))
  pointwise [k0_pay62, mean]

theorem pay66_at (c s : FVec Ideal S256x128 .f32) (v : FVec Ideal S256x1024 .f32) (l : Fin 128) :
    k0_pay66 (F := Ideal) c s v (ix3 0 0 l) = mean fun r => turned 512 (by omega) c s v r l := by
  refine Eq.trans ?_ (congrArg mean (funext fun r => pay64_at c s v r l))
  pointwise [k0_pay66, mean]

theorem pay70_at (c s : FVec Ideal S256x128 .f32) (v : FVec Ideal S256x1024 .f32) (l : Fin 128) :
    k0_pay70 (F := Ideal) c s v (ix3 0 0 l) = mean fun r => turned 640 (by omega) c s v r l := by
  refine Eq.trans ?_ (congrArg mean (funext fun r => pay68_at c s v r l))
  pointwise [k0_pay70, mean]

theorem pay1_at (c s : FVec Ideal S256x128 .f32) (v : FVec Ideal S256x1024 .f32) (l : Fin 128) :
    k0_pay1 (F := Ideal) (k0_pay74 (F := Ideal) c s v) (ix3 0 0 l) = mean fun r => turned 768 (by omega) c s v r l := by
  refine Eq.trans ?_ (congrArg mean (funext fun r => pay72_at c s v r l))
  pointwise [k0_pay1, k0_pay74, mean]

theorem pay5_at (c s : FVec Ideal S256x128 .f32) (v : FVec Ideal S256x1024 .f32) (l : Fin 128) :
    k0_pay5 (F := Ideal) c s v (ix3 0 0 l) = mean fun r => turned 896 (by omega) c s v r l := by
  refine Eq.trans ?_ (congrArg mean (funext fun r => pay3_at c s v r l))
  pointwise [k0_pay5, mean]

end Cert.Kernel4Ideal.Proj

end
-- ==== Proof.ProjHost.lean ====
/- The arrays the call takes, at an index, from the arguments. -/
module

public import proofs.«01_k».proof.Proof.Gen.Kernel4Ideal.Frame
public import Idealize.ShloMosaic.Lib.Pipeline.ValueKit
public import Idealize.ShloMosaic.Lib.StableHlo.RunRead
public import proofs.«01_k».proof.Proof.ProjSpec

@[expose] public section

set_option maxRecDepth 16384

noncomputable section

namespace Cert.Kernel4Ideal.Proj

open Idealize.ShloMosaic Idealize.ShloMosaic.TcCoe
open Cert.Kernel4Ideal Cert.Kernel4Ideal.Gen

variable (m : (ℓ : Loc nD τ sig) → Buf (Elt Ideal) ℓ) (c : Dev nD)

/-- The layer's input. -/
abbrev X : FVec Ideal S8192x2048 .f32 := m ((c : Thread nD τ).loc main_arg0)
/-- The input norm's gains. -/
abbrev G : FVec Ideal S1x2048 .f32 := m ((c : Thread nD τ).loc main_arg1)
/-- The first product's weights. -/
abbrev Win : FVec Ideal S1x2048x3904 .f32 := m ((c : Thread nD τ).loc main_arg2)
/-- The queries' norm's gains. -/
abbrev GQ : FVec Ideal S1x512 .f32 := m ((c : Thread nD τ).loc main_arg3)
/-- The keys' norm's gains. -/
abbrev GK : FVec Ideal S1x256 .f32 := m ((c : Thread nD τ).loc main_arg4)
/-- The queries' weights. -/
abbrev Wq : FVec Ideal S1x512x1536 .f32 := m ((c : Thread nD τ).loc main_arg5)
/-- The keys' and values' weights. -/
abbrev Wkv : FVec Ideal S1x256x2048 .f32 := m ((c : Thread nD τ).loc main_arg6)

theorem cm_at (p : Fin 4096) (l : Fin 128) :
    (V m c main_v19 : FVec Ideal S4096x128 .f32) (ix2 p l)
      = ProjSpec.halves (ProjSpec.cos128 p.val) (ProjSpec.cos128 p.val) l := by
  have hl := l.isLt
  rw [V]
  after_reads_simp
  pointwise [ProjSpec.halves, ProjSpec.cos128, ProjSpec.angle]

theorem sm_at (p : Fin 4096) (l : Fin 128) :
    (V m c main_v21 : FVec Ideal S4096x128 .f32) (ix2 p l)
      = ProjSpec.halves (fun i => -ProjSpec.sin128 p.val i) (ProjSpec.sin128 p.val) l := by
  have hl := l.isLt
  rw [V]
  after_reads_simp
  pointwise [ProjSpec.halves, ProjSpec.sin128, ProjSpec.angle]

theorem ca_at (p : Fin 4096) (l : Fin 128) :
    (V m c main_v40 : FVec Ideal S4096x128 .f32) (ix2 p l)
      = ProjSpec.spread (ProjSpec.cos64 p.val) (ProjSpec.cos64 p.val) l := by
  have hl := l.isLt
  rw [V]
  after_reads_simp
  pointwise
  after_reads_simp
  pointwise [ProjSpec.spread, ProjSpec.cos64, ProjSpec.angle]
  have e : l.val - 32 - 32 = l.val - 64 := by omega
  simp only [e]
  split_ifs <;> first | rfl | (exfalso; omega)

theorem sa_at (p : Fin 4096) (l : Fin 128) :
    (V m c main_v42 : FVec Ideal S4096x128 .f32) (ix2 p l)
      = ProjSpec.spread (fun i => -ProjSpec.sin64 p.val i) (ProjSpec.sin64 p.val) l := by
  have hl := l.isLt
  rw [V]
  after_reads_simp
  pointwise
  after_reads_simp
  pointwise [ProjSpec.spread, ProjSpec.sin64, ProjSpec.angle]
  have e : l.val - 32 - 32 = l.val - 64 := by omega
  simp only [e]
  split_ifs <;> first | rfl | (exfalso; omega)

theorem g_at (k : Fin 2048) : (V m c main_v75 : FVec Ideal S1x2048 .f32) (ix2 0 k) = G m c (ix2 0 k) := by
  rw [V]
  after_reads_simp
  pointwise

theorem gq_at (k : Fin 512) : (V m c main_v77 : FVec Ideal S1x512 .f32) (ix2 0 k) = GQ m c (ix2 0 k) := by
  rw [V]
  after_reads_simp
  pointwise

theorem gk_at (k : Fin 256) : (V m c main_v79 : FVec Ideal S1x256 .f32) (ix2 0 k) = GK m c (ix2 0 k) := by
  rw [V]
  after_reads_simp
  pointwise

theorem w_in_at (k : Fin 2048) (j : Fin 3968) : (V m c main_v54 : FVec Ideal S2048x3968 .bf16) (ix2 k j) =
    if h : j.val < 768 then Win m c (ix3 0 k ⟨j.val, by omega⟩)
    else if h : j.val < 896 then
      ProjSpec.spread (fun i => Win m c (ix3 0 k (ProjSpec.col 3904 768 (by omega) i)))
        (fun i => Win m c (ix3 0 k (ProjSpec.col 3904 800 (by omega) i))) ⟨j.val - 768, by omega⟩
    else Win m c (ix3 0 k ⟨j.val - 64, by have := j.isLt; omega⟩) := by
  have hj := j.isLt
  have hk := k.isLt
  rw [V]
  after_reads_simp
  pointwise
  after_reads_simp
  pointwise
  after_reads_simp
  pointwise [ProjSpec.spread, ProjSpec.col]
  repeat' split
  all_goals first | rfl | (exfalso; omega) | (refine congrArg (Win m c) (congrArg (ix3 0 k) (Fin.ext ?_)); dsimp only; omega)

theorem w_uq_at (k : Fin 512) (h : Fin 8) (d : Fin 256) :
    (V m c main_v65 : FVec Ideal S512x2048 .bf16) (ix2 k ⟨h.val * 256 + d.val, by have := h.isLt; have := d.isLt; omega⟩) =
    if hd : d.val < 128 then Wq m c (ix3 0 k ⟨h.val * 192 + d.val, by have := h.isLt; omega⟩)
    else
      ProjSpec.spread (fun i => Wq m c (ix3 0 k ⟨h.val * 192 + (128 + i.val), by have := h.isLt; have := i.isLt; omega⟩))
        (fun i => Wq m c (ix3 0 k ⟨h.val * 192 + (160 + i.val), by have := h.isLt; have := i.isLt; omega⟩))
        ⟨d.val - 128, by have := d.isLt; omega⟩ := by
  have hk := k.isLt
  have hh := h.isLt
  have hd := d.isLt
  rw [V]
  after_reads_simp
  pointwise
  after_reads_simp
  pointwise
  after_reads_simp
  pointwise [ProjSpec.spread, ProjSpec.col]
  simp only [show (h.val * 256 + d.val) % 256 = d.val by omega, show (h.val * 256 + d.val) / 256 = h.val by omega]
  repeat' split
  all_goals first | rfl | (exfalso; omega) | (refine congrArg (Wq m c) (congrArg (ix3 0 k) (Fin.ext ?_)); dsimp only; omega)

theorem w_uk_at (k : Fin 256) (h : Fin 8) (d : Fin 128) :
    (V m c main_v70 : FVec Ideal S256x1024 .bf16) (ix2 k ⟨h.val * 128 + d.val, by have := h.isLt; have := d.isLt; omega⟩) =
    Wkv m c (ix3 0 k ⟨h.val * 256 + d.val, by have := h.isLt; have := d.isLt; omega⟩) := by
  have hk := k.isLt
  have hh := h.isLt
  have hd := d.isLt
  rw [V]
  after_reads_simp
  pointwise
  simp only [show (h.val * 128 + d.val) % 128 = d.val by omega, show (h.val * 128 + d.val) / 128 = h.val by omega]

theorem w_uv_at (k : Fin 256) (h : Fin 8) (d : Fin 128) :
    (V m c main_v73 : FVec Ideal S256x1024 .bf16) (ix2 k ⟨h.val * 128 + d.val, by have := h.isLt; have := d.isLt; omega⟩) =
    Wkv m c (ix3 0 k ⟨h.val * 256 + (128 + d.val), by have := h.isLt; have := d.isLt; omega⟩) := by
  have hk := k.isLt
  have hh := h.isLt
  have hd := d.isLt
  rw [V]
  after_reads_simp
  pointwise
  simp only [show (h.val * 128 + d.val) % 128 = d.val by omega, show (h.val * 128 + d.val) / 128 = h.val by omega]

end Cert.Kernel4Ideal.Proj

end
-- ==== Proof.ProjRows.lean ====
/- What a point computes from its blocks, a row at a time. -/
module

public import proofs.«01_k».proof.Proof.ProjPay
public import proofs.«01_k».proof.Proof.ProjHost

@[expose] public section

set_option maxRecDepth 16384

noncomputable section

namespace Cert.Kernel4Ideal.Proj

open Cert.Kernel4Ideal Cert.Kernel4Ideal.Gen Idealize.ShloMosaic Idealize.ShloMosaic.TcCoe

variable (m : (ℓ : Loc nD τ sig) → Buf (Elt Ideal) ℓ) (c : Dev nD)

/-- The printed index maps, at every point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val % 16, 0] ∧ win0_9.index t = ![t.val % 16, 0]
    ∧ win0_10.index t = ![t.val % 16, 0] ∧ win0_11.index t = ![t.val % 16, 0]
    ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0]
    ∧ win0_18.index t = ![t.val, 0, 0] :=
  (by decide +kernel : ∀ t : Fin grid0.N, _)

/-- The arguments as functions. -/
abbrev xs (r : Fin 8192) : Fin 2048 → EReal := fun k => X m c (ix2 r k)
abbrev gs : Fin 2048 → EReal := fun k => G m c (ix2 0 k)
abbrev ws : Fin 2048 → Fin 3904 → EReal := fun k j => Win m c (ix3 0 k j)
abbrev gqs : Fin 512 → EReal := fun k => GQ m c (ix2 0 k)
abbrev gks : Fin 256 → EReal := fun k => GK m c (ix2 0 k)
abbrev wqs : Fin 512 → Fin 1536 → EReal := fun k j => Wq m c (ix3 0 k j)
abbrev wks : Fin 256 → Fin 2048 → EReal := fun k j => Wkv m c (ix3 0 k j)

variable (t : Fin cfg0.N)

theorem t_lt : t.val < 32 := lt_of_lt_of_eq t.isLt (show cfg0.N = 32 from N_0)

/-- Row `r` of point `t`'s block of rows. -/
def row (r : Fin 256) : Fin 8192 := ⟨t.val * 256 + r.val, by have := t_lt t; omega⟩

/-- Its position in its sequence. -/
theorem row_mod (r : Fin 256) : (row t r).val % 4096 = t.val % 16 * 256 + r.val := by
  have := t_lt t
  show (t.val * 256 + r.val) % 4096 = _
  omega

/-! ## The blocks -/

theorem x_blk (r : Fin 256) (k : Fin 2048) :
    (show FVec Ideal S256x2048 .f32 from iblk m c 0 t) (ix2 r k) = X m c (ix2 (row t r) k) := by
  blk_point [iblk, V, idx t, row]

theorem g_blk (k : Fin 2048) :
    (show FVec Ideal S1x2048 .f32 from iblk m c 1 t) (ix2 0 k) = G m c (ix2 0 k) := by
  refine Eq.trans ?_ (g_at m c k)
  blk_point [iblk, idx t]

theorem w_in_blk (k : Fin 2048) (j : Fin 3968) :
    (show FVec Ideal S2048x3968 .bf16 from iblk m c 2 t) (ix2 k j) = (V m c main_v54 : FVec Ideal S2048x3968 .bf16) (ix2 k j) := by
  blk_point [iblk, idx t]

theorem gq_blk (k : Fin 512) :
    (show FVec Ideal S1x512 .f32 from iblk m c 3 t) (ix2 0 k) = GQ m c (ix2 0 k) := by
  refine Eq.trans ?_ (gq_at m c k)
  blk_point [iblk, idx t]

theorem gk_blk (k : Fin 256) :
    (show FVec Ideal S1x256 .f32 from iblk m c 4 t) (ix2 0 k) = GK m c (ix2 0 k) := by
  refine Eq.trans ?_ (gk_at m c k)
  blk_point [iblk, idx t]

theorem w_uq_blk (k : Fin 512) (j : Fin 2048) :
    (show FVec Ideal S512x2048 .bf16 from iblk m c 5 t) (ix2 k j) = (V m c main_v65 : FVec Ideal S512x2048 .bf16) (ix2 k j) := by
  blk_point [iblk, idx t]

theorem w_uk_blk (k : Fin 256) (j : Fin 1024) :
    (show FVec Ideal S256x1024 .bf16 from iblk m c 6 t) (ix2 k j) = (V m c main_v70 : FVec Ideal S256x1024 .bf16) (ix2 k j) := by
  blk_point [iblk, idx t]

theorem w_uv_blk (k : Fin 256) (j : Fin 1024) :
    (show FVec Ideal S256x1024 .bf16 from iblk m c 7 t) (ix2 k j) = (V m c main_v73 : FVec Ideal S256x1024 .bf16) (ix2 k j) := by
  blk_point [iblk, idx t]

theorem ca_blk (r : Fin 256) (l : Fin 128) : (show FVec Ideal S256x128 .f32 from iblk m c 8 t) (ix2 r l)
    = ProjSpec.spread (ProjSpec.cos64 ((row t r).val % 4096)) (ProjSpec.cos64 ((row t r).val % 4096)) l := by
  rw [row_mod]
  refine Eq.trans ?_ (ca_at m c ⟨t.val % 16 * 256 + r.val, by have := r.isLt; omega⟩ l)
  blk_point [iblk, idx t]

theorem sa_blk (r : Fin 256) (l : Fin 128) : (show FVec Ideal S256x128 .f32 from iblk m c 9 t) (ix2 r l)
    = ProjSpec.spread (fun i => -ProjSpec.sin64 ((row t r).val % 4096) i) (ProjSpec.sin64 ((row t r).val % 4096)) l := by
  rw [row_mod]
  refine Eq.trans ?_ (sa_at m c ⟨t.val % 16 * 256 + r.val, by have := r.isLt; omega⟩ l)
  blk_point [iblk, idx t]

theorem cm_blk (r : Fin 256) (l : Fin 128) : (show FVec Ideal S256x128 .f32 from iblk m c 10 t) (ix2 r l)
    = ProjSpec.halves (ProjSpec.cos128 ((row t r).val % 4096)) (ProjSpec.cos128 ((row t r).val % 4096)) l := by
  rw [row_mod]
  refine Eq.trans ?_ (cm_at m c ⟨t.val % 16 * 256 + r.val, by have := r.isLt; omega⟩ l)
  blk_point [iblk, idx t]

theorem sm_blk (r : Fin 256) (l : Fin 128) : (show FVec Ideal S256x128 .f32 from iblk m c 11 t) (ix2 r l)
    = ProjSpec.halves (fun i => -ProjSpec.sin128 ((row t r).val % 4096) i) (ProjSpec.sin128 ((row t r).val % 4096)) l := by
  rw [row_mod]
  refine Eq.trans ?_ (sm_at m c ⟨t.val % 16 * 256 + r.val, by have := r.isLt; omega⟩ l)
  blk_point [iblk, idx t]

/-! ## Columns of the first product's weights -/

theorem cq_cols (X : Vec Ideal S2048x3968 .bf16) (k : Fin 2048) (j : Fin 512) :
    View.ld X r0_3 (ix2 k j) = X (ix2 k (ProjSpec.col 3968 0 (by omega) j)) := by
  refine View.ld_unit_apply_of X _ _ _ _ _ fun a => ?_
  match a with
  | ⟨0, _⟩ => exact (Nat.zero_add _).symm
  | ⟨1, _⟩ => rfl

theorem cq_ld (k : Fin 2048) (j : Fin 512) : View.ld (iblk m c 2 t) r0_3 (ix2 k j) = Win m c (ix3 0 k (ProjSpec.col 3904 0 (by omega) j)) := by
  have hj := j.isLt
  refine (cq_cols _ k j).trans ((w_in_blk m c t k _).trans ((w_in_at m c k _).trans ?_))
  rw [dif_pos (show (ProjSpec.col 3968 0 (by omega) j).val < 768 by show 0 + j.val < 768; omega)]
  rfl

theorem ck_cols (X : Vec Ideal S2048x3968 .bf16) (k : Fin 2048) (j : Fin 256) :
    View.ld X r0_22 (ix2 k j) = X (ix2 k (ProjSpec.col 3968 512 (by omega) j)) := by
  refine View.ld_unit_apply_of X _ _ _ _ _ fun a => ?_
  match a with
  | ⟨0, _⟩ => exact (Nat.zero_add _).symm
  | ⟨1, _⟩ => rfl

theorem ck_ld (k : Fin 2048) (j : Fin 256) : View.ld (iblk m c 2 t) r0_22 (ix2 k j) = Win m c (ix3 0 k (ProjSpec.col 3904 512 (by omega) j)) := by
  have hj := j.isLt
  refine (ck_cols _ k j).trans ((w_in_blk m c t k _).trans ((w_in_at m c k _).trans ?_))
  rw [dif_pos (show (ProjSpec.col 3968 512 (by omega) j).val < 768 by show 512 + j.val < 768; omega)]
  rfl

theorem kr_cols (X : Vec Ideal S2048x3968 .bf16) (k : Fin 2048) (j : Fin 128) :
    View.ld X r0_25 (ix2 k j) = X (ix2 k (ProjSpec.col 3968 768 (by omega) j)) := by
  refine View.ld_unit_apply_of X _ _ _ _ _ fun a => ?_
  match a with
  | ⟨0, _⟩ => exact (Nat.zero_add _).symm
  | ⟨1, _⟩ => rfl

theorem kr_ld (k : Fin 2048) (j : Fin 128) : View.ld (iblk m c 2 t) r0_25 (ix2 k j) = ProjSpec.spread (fun i => Win m c (ix3 0 k (ProjSpec.col 3904 768 (by omega) i))) (fun i => Win m c (ix3 0 k (ProjSpec.col 3904 800 (by omega) i))) j := by
  have hj := j.isLt
  refine (kr_cols _ k j).trans ((w_in_blk m c t k _).trans ((w_in_at m c k _).trans ?_))
  rw [dif_neg (show ¬ (ProjSpec.col 3968 768 (by omega) j).val < 768 by show ¬ 768 + j.val < 768; omega),
    dif_pos (show (ProjSpec.col 3968 768 (by omega) j).val < 896 by show 768 + j.val < 896; omega)]
  exact congrArg (ProjSpec.spread _ _) (Fin.ext (by show 768 + j.val - 768 = j.val; omega))

theorem mq_cols (X : Vec Ideal S2048x3968 .bf16) (k : Fin 2048) (j : Fin 1024) :
    View.ld X r0_26 (ix2 k j) = X (ix2 k (ProjSpec.col 3968 896 (by omega) j)) := by
  refine View.ld_unit_apply_of X _ _ _ _ _ fun a => ?_
  match a with
  | ⟨0, _⟩ => exact (Nat.zero_add _).symm
  | ⟨1, _⟩ => rfl

theorem mq_ld (k : Fin 2048) (j : Fin 1024) : View.ld (iblk m c 2 t) r0_26 (ix2 k j) = Win m c (ix3 0 k (ProjSpec.col 3904 832 (by omega) j)) := by
  have hj := j.isLt
  refine (mq_cols _ k j).trans ((w_in_blk m c t k _).trans ((w_in_at m c k _).trans ?_))
  rw [dif_neg (show ¬ (ProjSpec.col 3968 896 (by omega) j).val < 768 by show ¬ 896 + j.val < 768; omega),
    dif_neg (show ¬ (ProjSpec.col 3968 896 (by omega) j).val < 896 by show ¬ 896 + j.val < 896; omega)]
  exact congrArg (Win m c) (congrArg (ix3 0 k) (Fin.ext (by show 896 + j.val - 64 = 832 + j.val; omega)))

theorem mk_cols (X : Vec Ideal S2048x3968 .bf16) (k : Fin 2048) (j : Fin 1024) :
    View.ld X r0_27 (ix2 k j) = X (ix2 k (ProjSpec.col 3968 1920 (by omega) j)) := by
  refine View.ld_unit_apply_of X _ _ _ _ _ fun a => ?_
  match a with
  | ⟨0, _⟩ => exact (Nat.zero_add _).symm
  | ⟨1, _⟩ => rfl

theorem mk_ld (k : Fin 2048) (j : Fin 1024) : View.ld (iblk m c 2 t) r0_27 (ix2 k j) = Win m c (ix3 0 k (ProjSpec.col 3904 1856 (by omega) j)) := by
  have hj := j.isLt
  refine (mk_cols _ k j).trans ((w_in_blk m c t k _).trans ((w_in_at m c k _).trans ?_))
  rw [dif_neg (show ¬ (ProjSpec.col 3968 1920 (by omega) j).val < 768 by show ¬ 1920 + j.val < 768; omega),
    dif_neg (show ¬ (ProjSpec.col 3968 1920 (by omega) j).val < 896 by show ¬ 1920 + j.val < 896; omega)]
  exact congrArg (Win m c) (congrArg (ix3 0 k) (Fin.ext (by show 1920 + j.val - 64 = 1856 + j.val; omega)))

theorem mv_cols (X : Vec Ideal S2048x3968 .bf16) (k : Fin 2048) (j : Fin 1024) :
    View.ld X r0_28 (ix2 k j) = X (ix2 k (ProjSpec.col 3968 2944 (by omega) j)) := by
  refine View.ld_unit_apply_of X _ _ _ _ _ fun a => ?_
  match a with
  | ⟨0, _⟩ => exact (Nat.zero_add _).symm
  | ⟨1, _⟩ => rfl

theorem mv_ld (k : Fin 2048) (j : Fin 1024) : View.ld (iblk m c 2 t) r0_28 (ix2 k j) = Win m c (ix3 0 k (ProjSpec.col 3904 2880 (by omega) j)) := by
  have hj := j.isLt
  refine (mv_cols _ k j).trans ((w_in_blk m c t k _).trans ((w_in_at m c k _).trans ?_))
  rw [dif_neg (show ¬ (ProjSpec.col 3968 2944 (by omega) j).val < 768 by show ¬ 2944 + j.val < 768; omega),
    dif_neg (show ¬ (ProjSpec.col 3968 2944 (by omega) j).val < 896 by show ¬ 2944 + j.val < 896; omega)]
  exact congrArg (Win m c) (congrArg (ix3 0 k) (Fin.ext (by show 2944 + j.val - 64 = 2880 + j.val; omega)))

/-! ## The rows -/

abbrev p75 : FVec Ideal S256x2048 .bf16 := k0_pay75 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
abbrev p76 : FVec Ideal S256x128 .f32 := k0_pay76 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
abbrev p77 : FVec Ideal S256x128 .f32 := k0_pay77 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
abbrev p78 : FVec Ideal S256x128 .f32 := k0_pay78 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
abbrev p79 : FVec Ideal S256x128 .f32 := k0_pay79 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
abbrev p80 : FVec Ideal S256x512 .f32 := k0_pay80 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
abbrev p81 : FVec Ideal S1x512 .f32 := k0_pay81 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
abbrev p82 : FVec Ideal S256x1 .f32 := k0_pay82 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
abbrev p83 : FVec Ideal S256x2048 .f32 := k0_pay83 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
abbrev p84 : FVec Ideal S256x1024 .f32 := k0_pay84 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
abbrev p85 : FVec Ideal S256x128 .bf16 := k0_pay85 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
abbrev p86 : FVec Ideal S256x1024 .f32 := k0_pay86 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
abbrev p87 : FVec Ideal S256x1024 .f32 := k0_pay87 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

theorem h2 : (![0, 0] : Fin 2 → ℕ) = fun _ => 0 := by decide

theorem ld0 : View.ld (iblk m c 0 t) r0_0 = (iblk m c 0 t : FVec Ideal S256x2048 .f32) := View.ld_unit_zero h2 _ _
theorem ld1 : View.ld (iblk m c 1 t) r0_1 = (iblk m c 1 t : FVec Ideal S1x2048 .f32) := View.ld_unit_zero h2 _ _
theorem ld3 : View.ld (iblk m c 3 t) r0_4 = (iblk m c 3 t : FVec Ideal S1x512 .f32) := View.ld_unit_zero h2 _ _
theorem ld4 : View.ld (iblk m c 4 t) r0_23 = (iblk m c 4 t : FVec Ideal S1x256 .f32) := View.ld_unit_zero h2 _ _
theorem ld5 : View.ld (iblk m c 5 t) r0_5 = (iblk m c 5 t : FVec Ideal S512x2048 .bf16) := View.ld_unit_zero h2 _ _
theorem ld6 : View.ld (iblk m c 6 t) r0_24 = (iblk m c 6 t : FVec Ideal S256x1024 .bf16) := View.ld_unit_zero h2 _ _
theorem ld7 : View.ld (iblk m c 7 t) r0_24 = (iblk m c 7 t : FVec Ideal S256x1024 .bf16) := View.ld_unit_zero h2 _ _
theorem ld8 : View.ld (iblk m c 8 t) r0_2 = (iblk m c 8 t : FVec Ideal S256x128 .f32) := View.ld_unit_zero h2 _ _
theorem ld9 : View.ld (iblk m c 9 t) r0_2 = (iblk m c 9 t : FVec Ideal S256x128 .f32) := View.ld_unit_zero h2 _ _
theorem ld10 : View.ld (iblk m c 10 t) r0_2 = (iblk m c 10 t : FVec Ideal S256x128 .f32) := View.ld_unit_zero h2 _ _
theorem ld11 : View.ld (iblk m c 11 t) r0_2 = (iblk m c 11 t : FVec Ideal S256x128 .f32) := View.ld_unit_zero h2 _ _

theorem p75_at (r : Fin 256) (k : Fin 2048) : p75 m c t (ix2 r k) = ProjSpec.u (xs m c (row t r)) (gs m c) k := by
  show k0_pay6 (F := Ideal) (View.ld (iblk m c 0 t) r0_0) (View.ld (iblk m c 1 t) r0_1) (ix2 r k) = _
  rw [ld0, ld1]
  refine (pay6_at _ _ r k).trans ?_
  exact congrFun (congrArg₂ ProjSpec.u (funext fun k => x_blk m c t r k) (funext fun k => g_blk m c t k)) k

theorem p76_at (r : Fin 256) : (fun l => p76 m c t (ix2 r l)) = ProjSpec.spread (ProjSpec.cos64 ((row t r).val % 4096)) (ProjSpec.cos64 ((row t r).val % 4096)) := by
  funext l
  show k0_pay7 (F := Ideal) (View.ld (iblk m c 8 t) r0_2) (ix2 r l) = _
  rw [ld8]
  exact (pay7_eq _ r l).trans (ca_blk m c t r l)

theorem p77_at (r : Fin 256) : (fun l => p77 m c t (ix2 r l)) = ProjSpec.spread (fun i => -ProjSpec.sin64 ((row t r).val % 4096) i) (ProjSpec.sin64 ((row t r).val % 4096)) := by
  funext l
  show k0_pay8 (F := Ideal) (View.ld (iblk m c 9 t) r0_2) (ix2 r l) = _
  rw [ld9]
  exact (pay8_eq _ r l).trans (sa_blk m c t r l)

theorem p78_at (r : Fin 256) : (fun l => p78 m c t (ix2 r l)) = ProjSpec.halves (ProjSpec.cos128 ((row t r).val % 4096)) (ProjSpec.cos128 ((row t r).val % 4096)) := by
  funext l
  show k0_pay9 (F := Ideal) (View.ld (iblk m c 10 t) r0_2) (ix2 r l) = _
  rw [ld10]
  exact (pay9_eq _ r l).trans (cm_blk m c t r l)

theorem p79_at (r : Fin 256) : (fun l => p79 m c t (ix2 r l)) = ProjSpec.halves (fun i => -ProjSpec.sin128 ((row t r).val % 4096) i) (ProjSpec.sin128 ((row t r).val % 4096)) := by
  funext l
  show k0_pay10 (F := Ideal) (View.ld (iblk m c 11 t) r0_2) (ix2 r l) = _
  rw [ld11]
  exact (pay10_eq _ r l).trans (sm_blk m c t r l)

theorem p80_at (r : Fin 256) (j : Fin 512) : p80 m c t (ix2 r j)
    = ProjSpec.inp (xs m c (row t r)) (gs m c) (ws m c) (ProjSpec.col 3904 0 (by omega) j) := by
  show k0_pay11 (F := Ideal) (View.ld (iblk m c 0 t) r0_0) (View.ld (iblk m c 1 t) r0_1) (View.ld (iblk m c 2 t) r0_3) (ix2 r j) = _
  rw [ld0, ld1]
  refine (pay11_at _ _ _ r j).trans ?_
  exact congrArg₂ ProjSpec.dot (congrArg₂ ProjSpec.u (funext fun k => x_blk m c t r k) (funext fun k => g_blk m c t k))
    (funext fun k => cq_ld m c t k j)

theorem p81_at (k : Fin 512) : p81 m c t (ix2 0 k) = gqs m c k := by
  show k0_pay12 (F := Ideal) (View.ld (iblk m c 3 t) r0_4) (ix2 0 k) = _
  rw [ld3]
  exact (pay12_at _ k).trans (gq_blk m c t k)

theorem p82_at (r : Fin 256) : p82 m c t (ix2 r 0)
    = Ideal.div (∑ j : Fin 512, p80 m c t (ix2 r j) * p80 m c t (ix2 r j)) (Ideal.ofBits .f32 0x44000000#32)
        + Ideal.ofBits .f32 0x358637BD#32 :=
  pay13_at (View.ld (iblk m c 0 t) r0_0) (View.ld (iblk m c 1 t) r0_1) (View.ld (iblk m c 2 t) r0_3) r

theorem p83_dot (r : Fin 256) (j : Fin 2048) : p83 m c t (ix2 r j)
    = ProjSpec.dot (ProjSpec.cq (xs m c (row t r)) (gs m c) (ws m c) (gqs m c))
        (fun k => (V m c main_v65 : FVec Ideal S512x2048 .bf16) (ix2 k j)) := by
  show k0_pay14 (F := Ideal) (p80 m c t) (p81 m c t) (p82 m c t) (View.ld (iblk m c 5 t) r0_5) (ix2 r j) = _
  rw [ld5]
  refine (pay14_at _ _ _ _ r j).trans ?_
  refine congrArg₂ ProjSpec.dot (funext fun k => ?_) (funext fun k => w_uq_blk m c t k j)
  rw [p82_at, p81_at]
  simp only [p80_at]
  rfl

/-- The queries: a head's plain lanes … -/
theorem q_lo (r : Fin 256) (h : Fin 8) (l : Fin 128) :
    p83 m c t (ix2 r ⟨h.val * 256 + l.val, by have := h.isLt; have := l.isLt; omega⟩)
      = ProjSpec.q (xs m c (row t r)) (gs m c) (ws m c) (gqs m c) (wqs m c) ⟨h.val * 192 + l.val, by have := h.isLt; have := l.isLt; omega⟩ := by
  have hl := l.isLt
  refine (p83_dot m c t r _).trans (congrArg (ProjSpec.dot _) (funext fun k => ?_))
  refine (w_uq_at m c k h ⟨l.val, by omega⟩).trans ?_
  rw [dif_pos hl]

/-- … and its lanes to rotate. -/
theorem q_hi (r : Fin 256) (h : Fin 8) (l : Fin 128) :
    p83 m c t (ix2 r ⟨h.val * 256 + (128 + l.val), by have := h.isLt; have := l.isLt; omega⟩)
      = ProjSpec.spread
        (fun i => ProjSpec.q (xs m c (row t r)) (gs m c) (ws m c) (gqs m c) (wqs m c) ⟨h.val * 192 + (128 + i.val), by have := h.isLt; have := i.isLt; omega⟩)
        (fun i => ProjSpec.q (xs m c (row t r)) (gs m c) (ws m c) (gqs m c) (wqs m c) ⟨h.val * 192 + (160 + i.val), by have := h.isLt; have := i.isLt; omega⟩) l := by
  have hl := l.isLt
  refine (p83_dot m c t r _).trans (Eq.trans ?_ (ProjSpec.dot_spread _ _ _ l))
  refine congrArg (ProjSpec.dot _) (funext fun k => ?_)
  refine (w_uq_at m c k h ⟨128 + l.val, by omega⟩).trans ?_
  rw [dif_neg (show ¬ 128 + l.val < 128 by omega)]
  exact congrArg (ProjSpec.spread _ _) (Fin.ext (by show 128 + l.val - 128 = l.val; omega))

theorem ck_at (r : Fin 256) (k : Fin 256) :
    k0_pay31 (F := Ideal) (p75 m c t) (View.ld (iblk m c 2 t) r0_22) (View.ld (iblk m c 4 t) r0_23) (ix2 r k)
      = ProjSpec.ck (xs m c (row t r)) (gs m c) (ws m c) (gks m c) k := by
  rw [ld4]
  refine (pay31_at _ _ _ r k).trans ?_
  refine congrFun (congrArg₂ (Norm.normed _) (funext fun j => ?_) (funext fun k => gk_blk m c t k)) k
  exact congrArg₂ ProjSpec.dot (funext fun k => p75_at m c t r k) (funext fun k => ck_ld m c t k j)

/-- The keys' plain lanes. -/
theorem p84_at (r : Fin 256) (h : Fin 8) (l : Fin 128) :
    p84 m c t (ix2 r ⟨h.val * 128 + l.val, by have := h.isLt; have := l.isLt; omega⟩)
      = ProjSpec.kv (xs m c (row t r)) (gs m c) (ws m c) (gks m c) (wks m c) ⟨h.val * 256 + l.val, by have := h.isLt; have := l.isLt; omega⟩ := by
  show k0_pay32 (F := Ideal) (p75 m c t) (View.ld (iblk m c 2 t) r0_22) (View.ld (iblk m c 4 t) r0_23) (View.ld (iblk m c 6 t) r0_24) (ix2 r _) = _
  rw [ld6]
  refine (pay32_at _ _ _ _ r _).trans ?_
  exact congrArg₂ ProjSpec.dot (funext fun k => ck_at m c t r k) (funext fun k => (w_uk_blk m c t k _).trans (w_uk_at m c k h l))

/-- The values. -/
theorem va_at (r : Fin 256) (h : Fin 8) (l : Fin 128) :
    k0_pay33 (F := Ideal) (k0_pay31 (F := Ideal) (p75 m c t) (View.ld (iblk m c 2 t) r0_22) (View.ld (iblk m c 4 t) r0_23))
      (View.ld (iblk m c 7 t) r0_24) (ix2 r ⟨h.val * 128 + l.val, by have := h.isLt; have := l.isLt; omega⟩)
      = ProjSpec.va (xs m c (row t r)) (gs m c) (ws m c) (gks m c) (wks m c) h l := by
  rw [ld7]
  refine (pay33_at _ _ r _).trans ?_
  exact congrArg₂ ProjSpec.dot (funext fun k => ck_at m c t r k) (funext fun k => (w_uv_blk m c t k _).trans (w_uv_at m c k h l))

/-- The keys' rotated lanes. -/
theorem p85_at (r : Fin 256) (l : Fin 128) : p85 m c t (ix2 r l)
    = ProjSpec.spread
        (ProjSpec.rot1 (fun i => ProjSpec.inp (xs m c (row t r)) (gs m c) (ws m c) (ProjSpec.col 3904 768 (by omega) i))
          (fun i => ProjSpec.inp (xs m c (row t r)) (gs m c) (ws m c) (ProjSpec.col 3904 800 (by omega) i))
          (ProjSpec.cos64 ((row t r).val % 4096)) (ProjSpec.sin64 ((row t r).val % 4096)))
        (ProjSpec.rot2 (fun i => ProjSpec.inp (xs m c (row t r)) (gs m c) (ws m c) (ProjSpec.col 3904 768 (by omega) i))
          (fun i => ProjSpec.inp (xs m c (row t r)) (gs m c) (ws m c) (ProjSpec.col 3904 800 (by omega) i))
          (ProjSpec.cos64 ((row t r).val % 4096)) (ProjSpec.sin64 ((row t r).val % 4096))) l := by
  show k0_pay34 (F := Ideal) (p75 m c t) (p76 m c t) (p77 m c t) (View.ld (iblk m c 2 t) r0_25) (ix2 r l) = _
  refine (pay34_at _ _ _ _ r l).trans ?_
  rw [p76_at, p77_at]
  refine Eq.trans (congrArg (fun f => ProjSpec.turn f _ _ l) (funext fun l => ?_)) (ProjSpec.turn_spread _ _ _ _ l)
  refine Eq.trans ?_ (ProjSpec.dot_spread _ _ _ l)
  exact congrArg₂ ProjSpec.dot (funext fun k => p75_at m c t r k) (funext fun k => kr_ld m c t k l)

/-- The block attention's rows before they are rotated. -/
theorem p86_at (r : Fin 256) (j : Fin 1024) : p86 m c t (ix2 r j)
    = ProjSpec.inp (xs m c (row t r)) (gs m c) (ws m c) (ProjSpec.col 3904 832 (by omega) j) := by
  show k0_pay43 (F := Ideal) (p75 m c t) (View.ld (iblk m c 2 t) r0_26) (ix2 r j) = _
  refine (pay43_at _ _ r j).trans ?_
  exact congrArg₂ ProjSpec.dot (funext fun k => p75_at m c t r k) (funext fun k => mq_ld m c t k j)

theorem p87_at (r : Fin 256) (j : Fin 1024) : p87 m c t (ix2 r j)
    = ProjSpec.inp (xs m c (row t r)) (gs m c) (ws m c) (ProjSpec.col 3904 1856 (by omega) j) := by
  show k0_pay44 (F := Ideal) (p75 m c t) (View.ld (iblk m c 2 t) r0_27) (ix2 r j) = _
  refine (pay44_at _ _ r j).trans ?_
  exact congrArg₂ ProjSpec.dot (funext fun k => p75_at m c t r k) (funext fun k => mk_ld m c t k j)

theorem vm_at (r : Fin 256) (j : Fin 1024) :
    k0_pay46 (F := Ideal) (p75 m c t) (k0_pay45 (F := Ideal) (View.ld (iblk m c 2 t) r0_28)) (constant S256x1024 .f32 0x00000000#32) (ix2 r j)
      = ProjSpec.inp (xs m c (row t r)) (gs m c) (ws m c) (ProjSpec.col 3904 2880 (by omega) j) := by
  refine (pay46_at _ _ r j).trans ?_
  exact congrArg₂ ProjSpec.dot (funext fun k => p75_at m c t r k) (funext fun k => mv_ld m c t k j)

end Cert.Kernel4Ideal.Proj

end
-- ==== Proof.ProjValue.lean ====
/- The projections' arrays after the run, at an index. -/
module

public import proofs.«01_k».proof.Proof.Gen.Kernel4Ideal.Value
public import proofs.«01_k».proof.Proof.ProjRows

@[expose] public section

set_option maxRecDepth 16384

noncomputable section

namespace Cert.Kernel4Ideal.Proj

open Cert.Kernel4Ideal Cert.Kernel4Ideal.Gen Idealize.ShloMosaic Idealize.ShloMosaic.TcCoe

variable (m : (ℓ : Loc nD τ sig) → Buf (Elt Ideal) ℓ) (c : Dev nD)

/-! ## The results, as functions of the arguments -/

/-- Column `j`'s head and lane, for heads of 256 and of 128 lanes. -/
def hd256 (j : Fin 2048) : Fin 8 := ⟨j.val / 256, by have := j.isLt; omega⟩
def ln256 (j : Fin 2048) : Fin 256 := ⟨j.val % 256, by omega⟩
def hd128 (j : Fin 1024) : Fin 8 := ⟨j.val / 128, by have := j.isLt; omega⟩
def ln128 (j : Fin 1024) : Fin 128 := ⟨j.val % 128, by omega⟩

/-- At row `r` and column `j`: the latent queries, … -/
def qaF (r : Fin 8192) (j : Fin 2048) : EReal :=
  ProjSpec.qa (xs m c r) (gs m c) (ws m c) (gqs m c) (wqs m c) (r.val % 4096) (hd256 j) (ln256 j)
/-- keys … -/
def kaF (r : Fin 8192) (j : Fin 2048) : EReal :=
  ProjSpec.ka (xs m c r) (gs m c) (ws m c) (gks m c) (wks m c) (r.val % 4096) (hd256 j) (ln256 j)
/-- and values, -/
def vaF (r : Fin 8192) (j : Fin 1024) : EReal :=
  ProjSpec.va (xs m c r) (gs m c) (ws m c) (gks m c) (wks m c) (hd128 j) (ln128 j)
/-- the block attention's queries … -/
def qmF (r : Fin 8192) (j : Fin 1024) : EReal :=
  ProjSpec.rm (xs m c r) (gs m c) (ws m c) 832 (by omega) (r.val % 4096) (hd128 j) (ln128 j)
/-- keys … -/
def kmF (r : Fin 8192) (j : Fin 1024) : EReal :=
  ProjSpec.rm (xs m c r) (gs m c) (ws m c) 1856 (by omega) (r.val % 4096) (hd128 j) (ln128 j)
/-- and values, -/
def vmF (r : Fin 8192) (j : Fin 1024) : EReal :=
  ProjSpec.inp (xs m c r) (gs m c) (ws m c) (ProjSpec.col 3904 2880 (by omega) j)
/-- and the means of its keys over 256 rows. -/
def kmeanF (t : Fin 32) (j : Fin 1024) : EReal :=
  Ideal.div (∑ r : Fin 256, ProjSpec.rm (xs m c ⟨t.val * 256 + r.val, by have := t.isLt; have := r.isLt; omega⟩) (gs m c) (ws m c) 1856 (by omega)
    (t.val % 16 * 256 + r.val) (hd128 j) (ln128 j)) (Ideal.ofBits .f32 0x43800000#32)

/-- The arrays. -/
def qaG : FVec Ideal S8192x2048 .bf16 := fun i => qaF m c (i 0) (i 1)
def kaG : FVec Ideal S8192x2048 .bf16 := fun i => kaF m c (i 0) (i 1)
def vaG : FVec Ideal S8192x1024 .bf16 := fun i => vaF m c (i 0) (i 1)
def qmG : FVec Ideal S8192x1024 .bf16 := fun i => qmF m c (i 0) (i 1)
def kmG : FVec Ideal S8192x1024 .bf16 := fun i => kmF m c (i 0) (i 1)
def vmG : FVec Ideal S8192x1024 .bf16 := fun i => vmF m c (i 0) (i 1)
def kmeanG : FVec Ideal S32x1x1024 .f32 := fun i => kmeanF m c (i 0) (i 2)

/-! ## A piece of a block -/

theorem piece2048 (f : Fin 256 → Fin 2048 → EReal) (P : Vec Ideal S256x128 .bf16) (o : ℕ) (inb) (ho : o + 128 ≤ 2048)
    (h : ∀ r l, P (ix2 r l) = f r (ProjSpec.col 2048 o ho l)) (x : S256x128.Idx) :
    P x = (fun y : S256x2048.Idx => f (y 0) (y 1)) ((Rect.unit (s := S256x2048) ![0, o] S256x128.size inb).emb x) := by
  idx_vars x
  refine (h x0 x1).trans (congrArg₂ f (Fin.ext ?_) (Fin.ext ?_))
  · show x0.val = 0 + 1 * x0.val
    omega
  · show o + x1.val = o + 1 * x1.val
    omega

theorem piece1024 (f : Fin 256 → Fin 1024 → EReal) (P : Vec Ideal S256x128 .bf16) (o : ℕ) (inb) (ho : o + 128 ≤ 1024)
    (h : ∀ r l, P (ix2 r l) = f r (ProjSpec.col 1024 o ho l)) (x : S256x128.Idx) :
    P x = (fun y : S256x1024.Idx => f (y 0) (y 1)) ((Rect.unit (s := S256x1024) ![0, o] S256x128.size inb).emb x) := by
  idx_vars x
  refine (h x0 x1).trans (congrArg₂ f (Fin.ext ?_) (Fin.ext ?_))
  · show x0.val = 0 + 1 * x0.val
    omega
  · show o + x1.val = o + 1 * x1.val
    omega

theorem pieceMean (f : Fin 1024 → EReal) (P : Vec Ideal S1x1x128 .f32) (o : ℕ) (inb) (ho : o + 128 ≤ 1024)
    (h : ∀ l, P (ix3 0 0 l) = f (ProjSpec.col 1024 o ho l)) (x : S1x1x128.Idx) :
    P x = (fun y : S1x1x1024.Idx => f (y 2)) ((Rect.unit (s := S1x1x1024) ![0, 0, o] S1x1x128.size inb).emb x) := by
  idx_vars x
  obtain rfl : x0 = 0 := Subsingleton.elim _ _
  obtain rfl : x1 = 0 := Subsingleton.elim _ _
  refine (h x2).trans (congrArg f (Fin.ext ?_))
  show o + x2.val = o + 1 * x2.val
  omega

variable (t : Fin cfg0.N)

/-- The blocks of a grid point. -/
def qaB : Vec Ideal S256x2048 .bf16 := fun y => qaF m c (row t (y 0)) (y 1)
def kaB : Vec Ideal S256x2048 .bf16 := fun y => kaF m c (row t (y 0)) (y 1)
def qmB : Vec Ideal S256x1024 .bf16 := fun y => qmF m c (row t (y 0)) (y 1)
def kmB : Vec Ideal S256x1024 .bf16 := fun y => kmF m c (row t (y 0)) (y 1)
def kmeanB : Vec Ideal S1x1x1024 .f32 := fun y => kmeanF m c ⟨t.val, t_lt t⟩ (y 2)

/-! ## The pieces' contents -/

theorem qa_even (o : ℕ) (ho : o + 128 ≤ 2048) (h : Fin 8) (e : o = h.val * 256) (r : Fin 256) (l : Fin 128) :
    plain o ho (p83 m c t) r l = qaF m c (row t r) (ProjSpec.col 2048 o ho l) := by
  subst e
  have hl := l.isLt
  have hh : hd256 (ProjSpec.col 2048 (h.val * 256) ho l) = h := Fin.ext (by show (h.val * 256 + l.val) / 256 = h.val; omega)
  have hn : (ln256 (ProjSpec.col 2048 (h.val * 256) ho l)).val = l.val := by show (h.val * 256 + l.val) % 256 = l.val; omega
  rw [qaF, hh]
  refine (q_lo m c t r h l).trans ?_
  rw [ProjSpec.qa, ProjSpec.latent, dif_pos (show (ln256 (ProjSpec.col 2048 (h.val * 256) ho l)).val < 128 by omega)]
  exact congrArg (ProjSpec.q _ _ _ _ _) (Fin.ext (by show h.val * 192 + l.val = h.val * 192 + _; rw [hn]))

theorem qa_odd (o : ℕ) (ho : o + 128 ≤ 2048) (h : Fin 8) (e : o = h.val * 256 + 128) (r : Fin 256) (l : Fin 128) :
    turned o ho (p76 m c t) (p77 m c t) (p83 m c t) r l = qaF m c (row t r) (ProjSpec.col 2048 o ho l) := by
  subst e
  have hl := l.isLt
  have hh : hd256 (ProjSpec.col 2048 (h.val * 256 + 128) ho l) = h := Fin.ext (by show (h.val * 256 + 128 + l.val) / 256 = h.val; omega)
  have hn : (ln256 (ProjSpec.col 2048 (h.val * 256 + 128) ho l)).val = 128 + l.val := by
    show (h.val * 256 + 128 + l.val) % 256 = 128 + l.val
    omega
  rw [qaF, hh, ProjSpec.qa, ProjSpec.latent, dif_neg (show ¬ (ln256 (ProjSpec.col 2048 (h.val * 256 + 128) ho l)).val < 128 by omega)]
  rw [turned, p76_at, p77_at]
  refine Eq.trans (congrArg (fun f => ProjSpec.turn f _ _ l) (funext fun l => ?_)) ((ProjSpec.turn_spread _ _ _ _ l).trans
    (congrArg (ProjSpec.spread _ _) (Fin.ext (by show l.val = _ - 128; rw [hn]; omega))))
  refine Eq.trans (congrArg (fun j => p83 m c t (ix2 r j)) (Fin.ext ?_)) (q_hi m c t r h l)
  show h.val * 256 + 128 + l.val = h.val * 256 + (128 + l.val)
  omega

theorem ka_even (o' o : ℕ) (ho' : o' + 128 ≤ 1024) (ho : o + 128 ≤ 2048) (h : Fin 8) (e' : o' = h.val * 128) (e : o = h.val * 256) (r : Fin 256) (l : Fin 128) :
    plain o' ho' (p84 m c t) r l = kaF m c (row t r) (ProjSpec.col 2048 o ho l) := by
  subst e
  subst e'
  have hl := l.isLt
  have hh : hd256 (ProjSpec.col 2048 (h.val * 256) ho l) = h := Fin.ext (by show (h.val * 256 + l.val) / 256 = h.val; omega)
  have hn : (ln256 (ProjSpec.col 2048 (h.val * 256) ho l)).val = l.val := by show (h.val * 256 + l.val) % 256 = l.val; omega
  rw [kaF, hh]
  refine (p84_at m c t r h l).trans ?_
  rw [ProjSpec.ka, ProjSpec.latent, dif_pos (show (ln256 (ProjSpec.col 2048 (h.val * 256) ho l)).val < 128 by omega)]
  exact congrArg (ProjSpec.kv _ _ _ _ _) (Fin.ext (by show h.val * 256 + l.val = h.val * 256 + _; rw [hn]))

theorem ka_odd (o : ℕ) (ho : o + 128 ≤ 2048) (h : Fin 8) (e : o = h.val * 256 + 128) (r : Fin 256) (l : Fin 128) :
    p85 m c t (ix2 r l) = kaF m c (row t r) (ProjSpec.col 2048 o ho l) := by
  subst e
  have hl := l.isLt
  have hn : (ln256 (ProjSpec.col 2048 (h.val * 256 + 128) ho l)).val = 128 + l.val := by
    show (h.val * 256 + 128 + l.val) % 256 = 128 + l.val
    omega
  rw [kaF, ProjSpec.ka, ProjSpec.latent, dif_neg (show ¬ (ln256 (ProjSpec.col 2048 (h.val * 256 + 128) ho l)).val < 128 by omega)]
  refine (p85_at m c t r l).trans (congrArg (ProjSpec.spread _ _) (Fin.ext ?_))
  show l.val = _ - 128
  rw [hn]
  omega

theorem rm_piece (o : ℕ) (ho : o + 128 ≤ 1024) (h : Fin 8) (e : o = h.val * 128) (b : ℕ) (hb : b + 1024 ≤ 3904) (v : FVec Ideal S256x1024 .f32)
    (hv : ∀ r j, v (ix2 r j) = ProjSpec.inp (xs m c (row t r)) (gs m c) (ws m c) (ProjSpec.col 3904 b hb j)) (r : Fin 256) (l : Fin 128) :
    turned o ho (p78 m c t) (p79 m c t) v r l
      = ProjSpec.rm (xs m c (row t r)) (gs m c) (ws m c) b hb ((row t r).val % 4096) (hd128 (ProjSpec.col 1024 o ho l)) (ln128 (ProjSpec.col 1024 o ho l)) := by
  subst e
  have hl := l.isLt
  have hh : hd128 (ProjSpec.col 1024 (h.val * 128) ho l) = h := Fin.ext (by show (h.val * 128 + l.val) / 128 = h.val; omega)
  have hn : ln128 (ProjSpec.col 1024 (h.val * 128) ho l) = l := Fin.ext (by show (h.val * 128 + l.val) % 128 = l.val; omega)
  rw [hh, hn, turned, p78_at, p79_at, ProjSpec.rm]
  refine Eq.trans (congrArg (fun f => ProjSpec.turn f _ _ l) (funext fun l => ?_)) (ProjSpec.turn_rotated _ _ _ l)
  exact hv r _

theorem qm_piece (o : ℕ) (ho : o + 128 ≤ 1024) (h : Fin 8) (e : o = h.val * 128) (r : Fin 256) (l : Fin 128) :
    turned o ho (p78 m c t) (p79 m c t) (p86 m c t) r l = qmF m c (row t r) (ProjSpec.col 1024 o ho l) :=
  rm_piece m c t o ho h e 832 (by omega) _ (p86_at m c t) r l

theorem km_piece (o : ℕ) (ho : o + 128 ≤ 1024) (h : Fin 8) (e : o = h.val * 128) (r : Fin 256) (l : Fin 128) :
    turned o ho (p78 m c t) (p79 m c t) (p87 m c t) r l = kmF m c (row t r) (ProjSpec.col 1024 o ho l) :=
  rm_piece m c t o ho h e 1856 (by omega) _ (p87_at m c t) r l

theorem mean_piece (o : ℕ) (ho : o + 128 ≤ 1024) (h : Fin 8) (e : o = h.val * 128) (l : Fin 128) :
    (mean fun r => turned o ho (p78 m c t) (p79 m c t) (p87 m c t) r l) = kmeanF m c ⟨t.val, t_lt t⟩ (ProjSpec.col 1024 o ho l) := by
  refine congrArg mean (funext fun r => ?_)
  refine (km_piece m c t o ho h e r l).trans ?_
  rw [kmF, row_mod]
  rfl

/-! ## What a point leaves in its blocks -/

theorem qa_out (y : S256x2048.Idx) : out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = qaF m c (row t (y 0)) (y 1) := by
  rw [out0_12]
  refine View.canon_apply_of_pieces (qaB m c t) _ ?_ y (cover0_12 _ _ _ _ _ _ _ _ _ _ _ _ _ _ _ _ y)
  intro pc hpc
  rcases List.mem_cons.mp hpc with rfl | hpc
  · exact fun x => piece2048 (fun r j => qaF m c (row t r) j) _ 1920 inb_S256x2048_S256x128_0_1920 (by omega) (fun r l => (pay30_at _ _ _ r l).trans (qa_odd m c t 1920 (by omega) 7 rfl r l)) x
  rcases List.mem_cons.mp hpc with rfl | hpc
  · exact fun x => piece2048 (fun r j => qaF m c (row t r) j) _ 1792 inb_S256x2048_S256x128_0_1792 (by omega) (fun r l => (pay29_at _ r l).trans (qa_even m c t 1792 (by omega) 7 rfl r l)) x
  rcases List.mem_cons.mp hpc with rfl | hpc
  · exact fun x => piece2048 (fun r j => qaF m c (row t r) j) _ 1664 inb_S256x2048_S256x128_0_1664 (by omega) (fun r l => (pay28_at _ _ _ r l).trans (qa_odd m c t 1664 (by omega) 6 rfl r l)) x
  rcases List.mem_cons.mp hpc with rfl | hpc
  · exact fun x => piece2048 (fun r j => qaF m c (row t r) j) _ 1536 inb_S256x2048_S256x128_0_1536 (by omega) (fun r l => (pay27_at _ r l).trans (qa_even m c t 1536 (by omega) 6 rfl r l)) x
  rcases List.mem_cons.mp hpc with rfl | hpc
  · exact fun x => piece2048 (fun r j => qaF m c (row t r) j) _ 1408 inb_S256x2048_S256x128_0_1408 (by omega) (fun r l => (pay26_at _ _ _ r l).trans (qa_odd m c t 1408 (by omega) 5 rfl r l)) x
  rcases List.mem_cons.mp hpc with rfl | hpc
  · exact fun x => piece2048 (fun r j => qaF m c (row t r) j) _ 1280 inb_S256x2048_S256x128_0_1280 (by omega) (fun r l => (pay25_at _ r l).trans (qa_even m c t 1280 (by omega) 5 rfl r l)) x
  rcases List.mem_cons.mp hpc with rfl | hpc
  · exact fun x => piece2048 (fun r j => qaF m c (row t r) j) _ 1152 inb_S256x2048_S256x128_0_1152 (by omega) (fun r l => (pay24_at _ _ _ r l).trans (qa_odd m c t 1152 (by omega) 4 rfl r l)) x
  rcases List.mem_cons.mp hpc with rfl | hpc
  · exact fun x => piece2048 (fun r j => qaF m c (row t r) j) _ 1024 inb_S256x2048_S256x128_0_1024 (by omega) (fun r l => (pay23_at _ r l).trans (qa_even m c t 1024 (by omega) 4 rfl r l)) x
  rcases List.mem_cons.mp hpc with rfl | hpc
  · exact fun x => piece2048 (fun r j => qaF m c (row t r) j) _ 896 inb_S256x2048_S256x128_0_896 (by omega) (fun r l => (pay22_at _ _ _ r l).trans (qa_odd m c t 896 (by omega) 3 rfl r l)) x
  rcases List.mem_cons.mp hpc with rfl | hpc
  · exact fun x => piece2048 (fun r j => qaF m c (row t r) j) _ 768 inb_S256x2048_S256x128_0_768 (by omega) (fun r l => (pay21_at _ r l).trans (qa_even m c t 768 (by omega) 3 rfl r l)) x
  rcases List.mem_cons.mp hpc with rfl | hpc
  · exact fun x => piece2048 (fun r j => qaF m c (row t r) j) _ 640 inb_S256x2048_S256x128_0_640 (by omega) (fun r l => (pay20_at _ _ _ _ _ _ r l).trans (qa_odd m c t 640 (by omega) 2 rfl r l)) x
  rcases List.mem_cons.mp hpc with rfl | hpc
  · exact fun x => piece2048 (fun r j => qaF m c (row t r) j) _ 512 inb_S256x2048_S256x128_0_512 (by omega) (fun r l => (pay19_at _ _ _ _ r l).trans (qa_even m c t 512 (by omega) 2 rfl r l)) x
  rcases List.mem_cons.mp hpc with rfl | hpc
  · exact fun x => piece2048 (fun r j => qaF m c (row t r) j) _ 384 inb_S256x2048_S256x128_0_384 (by omega) (fun r l => (pay18_at _ _ _ _ _ _ r l).trans (qa_odd m c t 384 (by omega) 1 rfl r l)) x
  rcases List.mem_cons.mp hpc with rfl | hpc
  · exact fun x => piece2048 (fun r j => qaF m c (row t r) j) _ 256 inb_S256x2048_S256x128_0_256 (by omega) (fun r l => (pay17_at _ _ _ _ r l).trans (qa_even m c t 256 (by omega) 1 rfl r l)) x
  rcases List.mem_cons.mp hpc with rfl | hpc
  · exact fun x => piece2048 (fun r j => qaF m c (row t r) j) _ 128 inb_S256x2048_S256x128_0_128 (by omega) (fun r l => (pay16_at _ _ _ _ _ _ r l).trans (qa_odd m c t 128 (by omega) 0 rfl r l)) x
  rcases List.mem_cons.mp hpc with rfl | hpc
  · exact fun x => piece2048 (fun r j => qaF m c (row t r) j) _ 0 inb_S256x2048_S256x128_0_0 (by omega) (fun r l => (pay15_at _ _ _ _ r l).trans (qa_even m c t 0 (by omega) 0 rfl r l)) x
  nomatch hpc

theorem ka_out (y : S256x2048.Idx) : out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = kaF m c (row t (y 0)) (y 1) := by
  rw [out0_13]
  refine View.canon_apply_of_pieces (kaB m c t) _ ?_ y (cover0_13 _ _ _ _ _ _ _ _ _ _ _ _ _ _ _ _ y)
  intro pc hpc
  rcases List.mem_cons.mp hpc with rfl | hpc
  · exact fun x => piece2048 (fun r j => kaF m c (row t r) j) _ 1920 inb_S256x2048_S256x128_0_1920 (by omega) (fun r l => ka_odd m c t 1920 (by omega) 7 rfl r l) x
  rcases List.mem_cons.mp hpc with rfl | hpc
  · exact fun x => piece2048 (fun r j => kaF m c (row t r) j) _ 1792 inb_S256x2048_S256x128_0_1792 (by omega) (fun r l => (pay42_at _ r l).trans (ka_even m c t 896 1792 (by omega) (by omega) 7 rfl rfl r l)) x
  rcases List.mem_cons.mp hpc with rfl | hpc
  · exact fun x => piece2048 (fun r j => kaF m c (row t r) j) _ 1664 inb_S256x2048_S256x128_0_1664 (by omega) (fun r l => ka_odd m c t 1664 (by omega) 6 rfl r l) x
  rcases List.mem_cons.mp hpc with rfl | hpc
  · exact fun x => piece2048 (fun r j => kaF m c (row t r) j) _ 1536 inb_S256x2048_S256x128_0_1536 (by omega) (fun r l => (pay41_at _ r l).trans (ka_even m c t 768 1536 (by omega) (by omega) 6 rfl rfl r l)) x
  rcases List.mem_cons.mp hpc with rfl | hpc
  · exact fun x => piece2048 (fun r j => kaF m c (row t r) j) _ 1408 inb_S256x2048_S256x128_0_1408 (by omega) (fun r l => ka_odd m c t 1408 (by omega) 5 rfl r l) x
  rcases List.mem_cons.mp hpc with rfl | hpc
  · exact fun x => piece2048 (fun r j => kaF m c (row t r) j) _ 1280 inb_S256x2048_S256x128_0_1280 (by omega) (fun r l => (pay40_at _ r l).trans (ka_even m c t 640 1280 (by omega) (by omega) 5 rfl rfl r l)) x
  rcases List.mem_cons.mp hpc with rfl | hpc
  · exact fun x => piece2048 (fun r j => kaF m c (row t r) j) _ 1152 inb_S256x2048_S256x128_0_1152 (by omega) (fun r l => ka_odd m c t 1152 (by omega) 4 rfl r l) x
  rcases List.mem_cons.mp hpc with rfl | hpc
  · exact fun x => piece2048 (fun r j => kaF m c (row t r) j) _ 1024 inb_S256x2048_S256x128_0_1024 (by omega) (fun r l => (pay39_at _ r l).trans (ka_even m c t 512 1024 (by omega) (by omega) 4 rfl rfl r l)) x
  rcases List.mem_cons.mp hpc with rfl | hpc
  · exact fun x => piece2048 (fun r j => kaF m c (row t r) j) _ 896 inb_S256x2048_S256x128_0_896 (by omega) (fun r l => ka_odd m c t 896 (by omega) 3 rfl r l) x
  rcases List.mem_cons.mp hpc with rfl | hpc
  · exact fun x => piece2048 (fun r j => kaF m c (row t r) j) _ 768 inb_S256x2048_S256x128_0_768 (by omega) (fun r l => (pay38_at _ r l).trans (ka_even m c t 384 768 (by omega) (by omega) 3 rfl rfl r l)) x
  rcases List.mem_cons.mp hpc with rfl | hpc
  · exact fun x => piece2048 (fun r j => kaF m c (row t r) j) _ 640 inb_S256x2048_S256x128_0_640 (by omega) (fun r l => ka_odd m c t 640 (by omega) 2 rfl r l) x
  rcases List.mem_cons.mp hpc with rfl | hpc
  · exact fun x => piece2048 (fun r j => kaF m c (row t r) j) _ 512 inb_S256x2048_S256x128_0_512 (by omega) (fun r l => (pay37_at _ r l).trans (ka_even m c t 256 512 (by omega) (by omega) 2 rfl rfl r l)) x
  rcases List.mem_cons.mp hpc with rfl | hpc
  · exact fun x => piece2048 (fun r j => kaF m c (row t r) j) _ 384 inb_S256x2048_S256x128_0_384 (by omega) (fun r l => ka_odd m c t 384 (by omega) 1 rfl r l) x
  rcases List.mem_cons.mp hpc with rfl | hpc
  · exact fun x => piece2048 (fun r j => kaF m c (row t r) j) _ 256 inb_S256x2048_S256x128_0_256 (by omega) (fun r l => (pay36_at _ r l).trans (ka_even m c t 128 256 (by omega) (by omega) 1 rfl rfl r l)) x
  rcases List.mem_cons.mp hpc with rfl | hpc
  · exact fun x => piece2048 (fun r j => kaF m c (row t r) j) _ 128 inb_S256x2048_S256x128_0_128 (by omega) (fun r l => ka_odd m c t 128 (by omega) 0 rfl r l) x
  rcases List.mem_cons.mp hpc with rfl | hpc
  · exact fun x => piece2048 (fun r j => kaF m c (row t r) j) _ 0 inb_S256x2048_S256x128_0_0 (by omega) (fun r l => (pay35_at _ r l).trans (ka_even m c t 0 0 (by omega) (by omega) 0 rfl rfl r l)) x
  nomatch hpc

theorem qm_out (y : S256x1024.Idx) : out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = qmF m c (row t (y 0)) (y 1) := by
  rw [out0_15]
  refine View.canon_apply_of_pieces (qmB m c t) _ ?_ y (cover0_15 _ _ _ _ _ _ _ _ y)
  intro pc hpc
  rcases List.mem_cons.mp hpc with rfl | hpc
  · exact fun x => piece1024 (fun r j => qmF m c (row t r) j) _ 896 inb_S256x1024_S256x128_0_896 (by omega) (fun r l => (pay2_at _ _ _ r l).trans (qm_piece m c t 896 (by omega) 7 rfl r l)) x
  rcases List.mem_cons.mp hpc with rfl | hpc
  · exact fun x => piece1024 (fun r j => qmF m c (row t r) j) _ 768 inb_S256x1024_S256x128_0_768 (by omega) (fun r l => (pay71_at _ _ _ r l).trans (qm_piece m c t 768 (by omega) 6 rfl r l)) x
  rcases List.mem_cons.mp hpc with rfl | hpc
  · exact fun x => piece1024 (fun r j => qmF m c (row t r) j) _ 640 inb_S256x1024_S256x128_0_640 (by omega) (fun r l => (pay67_at _ _ _ r l).trans (qm_piece m c t 640 (by omega) 5 rfl r l)) x
  rcases List.mem_cons.mp hpc with rfl | hpc
  · exact fun x => piece1024 (fun r j => qmF m c (row t r) j) _ 512 inb_S256x1024_S256x128_0_512 (by omega) (fun r l => (pay63_at _ _ _ r l).trans (qm_piece m c t 512 (by omega) 4 rfl r l)) x
  rcases List.mem_cons.mp hpc with rfl | hpc
  · exact fun x => piece1024 (fun r j => qmF m c (row t r) j) _ 384 inb_S256x1024_S256x128_0_384 (by omega) (fun r l => (pay59_at _ _ _ r l).trans (qm_piece m c t 384 (by omega) 3 rfl r l)) x
  rcases List.mem_cons.mp hpc with rfl | hpc
  · exact fun x => piece1024 (fun r j => qmF m c (row t r) j) _ 256 inb_S256x1024_S256x128_0_256 (by omega) (fun r l => (pay55_at _ _ _ r l).trans (qm_piece m c t 256 (by omega) 2 rfl r l)) x
  rcases List.mem_cons.mp hpc with rfl | hpc
  · exact fun x => piece1024 (fun r j => qmF m c (row t r) j) _ 128 inb_S256x1024_S256x128_0_128 (by omega) (fun r l => (pay51_at _ _ _ r l).trans (qm_piece m c t 128 (by omega) 1 rfl r l)) x
  rcases List.mem_cons.mp hpc with rfl | hpc
  · exact fun x => piece1024 (fun r j => qmF m c (row t r) j) _ 0 inb_S256x1024_S256x128_0_0 (by omega) (fun r l => (pay47_at _ _ _ r l).trans (qm_piece m c t 0 (by omega) 0 rfl r l)) x
  nomatch hpc

theorem km_out (y : S256x1024.Idx) : out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = kmF m c (row t (y 0)) (y 1) := by
  rw [out0_16]
  refine View.canon_apply_of_pieces (kmB m c t) _ ?_ y (cover0_16 _ _ _ _ _ _ _ _ y)
  intro pc hpc
  rcases List.mem_cons.mp hpc with rfl | hpc
  · exact fun x => piece1024 (fun r j => kmF m c (row t r) j) _ 896 inb_S256x1024_S256x128_0_896 (by omega) (fun r l => (pay4_at _ _ _ r l).trans (km_piece m c t 896 (by omega) 7 rfl r l)) x
  rcases List.mem_cons.mp hpc with rfl | hpc
  · exact fun x => piece1024 (fun r j => kmF m c (row t r) j) _ 768 inb_S256x1024_S256x128_0_768 (by omega) (fun r l => (pay73_at _ _ _ r l).trans (km_piece m c t 768 (by omega) 6 rfl r l)) x
  rcases List.mem_cons.mp hpc with rfl | hpc
  · exact fun x => piece1024 (fun r j => kmF m c (row t r) j) _ 640 inb_S256x1024_S256x128_0_640 (by omega) (fun r l => (pay69_at _ _ _ r l).trans (km_piece m c t 640 (by omega) 5 rfl r l)) x
  rcases List.mem_cons.mp hpc with rfl | hpc
  · exact fun x => piece1024 (fun r j => kmF m c (row t r) j) _ 512 inb_S256x1024_S256x128_0_512 (by omega) (fun r l => (pay65_at _ _ _ r l).trans (km_piece m c t 512 (by omega) 4 rfl r l)) x
  rcases List.mem_cons.mp hpc with rfl | hpc
  · exact fun x => piece1024 (fun r j => kmF m c (row t r) j) _ 384 inb_S256x1024_S256x128_0_384 (by omega) (fun r l => (pay61_at _ _ _ r l).trans (km_piece m c t 384 (by omega) 3 rfl r l)) x
  rcases List.mem_cons.mp hpc with rfl | hpc
  · exact fun x => piece1024 (fun r j => kmF m c (row t r) j) _ 256 inb_S256x1024_S256x128_0_256 (by omega) (fun r l => (pay57_at _ _ _ r l).trans (km_piece m c t 256 (by omega) 2 rfl r l)) x
  rcases List.mem_cons.mp hpc with rfl | hpc
  · exact fun x => piece1024 (fun r j => kmF m c (row t r) j) _ 128 inb_S256x1024_S256x128_0_128 (by omega) (fun r l => (pay53_at _ _ _ r l).trans (km_piece m c t 128 (by omega) 1 rfl r l)) x
  rcases List.mem_cons.mp hpc with rfl | hpc
  · exact fun x => piece1024 (fun r j => kmF m c (row t r) j) _ 0 inb_S256x1024_S256x128_0_0 (by omega) (fun r l => (pay49_at _ _ _ r l).trans (km_piece m c t 0 (by omega) 0 rfl r l)) x
  nomatch hpc

theorem kmean_out (y : S1x1x1024.Idx) : out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = kmeanF m c ⟨t.val, t_lt t⟩ (y 2) := by
  rw [out0_18]
  refine View.canon_apply_of_pieces (kmeanB m c t) _ ?_ y (cover0_18 _ _ _ _ _ _ _ _ y)
  intro pc hpc
  rcases List.mem_cons.mp hpc with rfl | hpc
  · exact fun x => pieceMean (fun j => kmeanF m c ⟨t.val, t_lt t⟩ j) _ 896 inb_S1x1x1024_S1x1x128_0_0_896 (by omega) (fun l => (pay5_at _ _ _ l).trans (mean_piece m c t 896 (by omega) 7 rfl l)) x
  rcases List.mem_cons.mp hpc with rfl | hpc
  · exact fun x => pieceMean (fun j => kmeanF m c ⟨t.val, t_lt t⟩ j) _ 768 inb_S1x1x1024_S1x1x128_0_0_768 (by omega) (fun l => (pay1_at _ _ _ l).trans (mean_piece m c t 768 (by omega) 6 rfl l)) x
  rcases List.mem_cons.mp hpc with rfl | hpc
  · exact fun x => pieceMean (fun j => kmeanF m c ⟨t.val, t_lt t⟩ j) _ 640 inb_S1x1x1024_S1x1x128_0_0_640 (by omega) (fun l => (pay70_at _ _ _ l).trans (mean_piece m c t 640 (by omega) 5 rfl l)) x
  rcases List.mem_cons.mp hpc with rfl | hpc
  · exact fun x => pieceMean (fun j => kmeanF m c ⟨t.val, t_lt t⟩ j) _ 512 inb_S1x1x1024_S1x1x128_0_0_512 (by omega) (fun l => (pay66_at _ _ _ l).trans (mean_piece m c t 512 (by omega) 4 rfl l)) x
  rcases List.mem_cons.mp hpc with rfl | hpc
  · exact fun x => pieceMean (fun j => kmeanF m c ⟨t.val, t_lt t⟩ j) _ 384 inb_S1x1x1024_S1x1x128_0_0_384 (by omega) (fun l => (pay62_at _ _ _ l).trans (mean_piece m c t 384 (by omega) 3 rfl l)) x
  rcases List.mem_cons.mp hpc with rfl | hpc
  · exact fun x => pieceMean (fun j => kmeanF m c ⟨t.val, t_lt t⟩ j) _ 256 inb_S1x1x1024_S1x1x128_0_0_256 (by omega) (fun l => (pay58_at _ _ _ l).trans (mean_piece m c t 256 (by omega) 2 rfl l)) x
  rcases List.mem_cons.mp hpc with rfl | hpc
  · exact fun x => pieceMean (fun j => kmeanF m c ⟨t.val, t_lt t⟩ j) _ 128 inb_S1x1x1024_S1x1x128_0_0_128 (by omega) (fun l => (pay54_at _ _ _ l).trans (mean_piece m c t 128 (by omega) 1 rfl l)) x
  rcases List.mem_cons.mp hpc with rfl | hpc
  · exact fun x => pieceMean (fun j => kmeanF m c ⟨t.val, t_lt t⟩ j) _ 0 inb_S1x1x1024_S1x1x128_0_0_0 (by omega) (fun l => (pay50_at _ _ _ l).trans (mean_piece m c t 0 (by omega) 0 rfl l)) x
  nomatch hpc

theorem va_out (r : Fin 256) (j : Fin 1024) : out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j) = vaF m c (row t r) j := by
  have hj := j.isLt
  have e : out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
      = k0_pay33 (F := Ideal) (k0_pay31 (F := Ideal) (p75 m c t) (View.ld (iblk m c 2 t) r0_22) (View.ld (iblk m c 4 t) r0_23))
          (View.ld (iblk m c 7 t) r0_24) := by
    rw [out0_14]
    exact View.canon_unit_zero h2 _ _
  rw [e]
  refine Eq.trans (congrArg _ (congrArg (ix2 r) (Fin.ext ?_))) (va_at m c t r (hd128 j) (ln128 j))
  show j.val = j.val / 128 * 128 + j.val % 128
  omega

theorem vm_out (r : Fin 256) (j : Fin 1024) : out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j) = vmF m c (row t r) j := by
  have e : out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
      = k0_pay46 (F := Ideal) (p75 m c t) (k0_pay45 (F := Ideal) (View.ld (iblk m c 2 t) r0_28)) (constant S256x1024 .f32 0x00000000#32) := by
    rw [out0_17]
    exact View.canon_unit_zero h2 _ _
  rw [e]
  exact vm_at m c t r j

end Cert.Kernel4Ideal.Proj

end
-- ==== Proof.ProjFinal.lean ====
/- The projections' arrays after the run. -/
module

public import proofs.«01_k».proof.Proof.ProjValue

@[expose] public section

set_option maxRecDepth 16384

noncomputable section

namespace Cert.Kernel4Ideal.Proj

open Cert.Kernel4Ideal Cert.Kernel4Ideal.Gen Idealize.ShloMosaic Idealize.ShloMosaic.TcCoe

variable (m : (ℓ : Loc nD τ sig) → Buf (Elt Ideal) ℓ) (c : Dev nD) (t : Fin cfg0.N)

theorem qa_emb (r : Fin 256) (j : Fin 2048) : ((cfg0.win 12).blk t).view.emb (ix2 r j : S256x2048.Idx) = (ix2 (row t r) j : S8192x2048.Idx) := by
  blk_ext [idx t, row]

theorem qa_key (r : Fin 256) (j : Fin 2048) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j) = qaG m c (((cfg0.win 12).blk t).view.emb (ix2 r j : S256x2048.Idx)) := by
  rw [qa_emb]
  exact qa_out m c t (ix2 r j)

theorem qa_final : (dats m 0 c).arrAt 12 cfg0.N = qaG m c := by
  refine (dats m 0 c).arrAt_eq_of_covers 12 _ (by decide +kernel) fun t hf y => ?_
  rw [after0_12]
  change S256x2048.Idx at y
  idx_vars y
  have k := qa_key m c t y0 y1
  generalize out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = f at k ⊢
  exact k

theorem ka_emb (r : Fin 256) (j : Fin 2048) : ((cfg0.win 13).blk t).view.emb (ix2 r j : S256x2048.Idx) = (ix2 (row t r) j : S8192x2048.Idx) := by
  blk_ext [idx t, row]

theorem ka_key (r : Fin 256) (j : Fin 2048) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j) = kaG m c (((cfg0.win 13).blk t).view.emb (ix2 r j : S256x2048.Idx)) := by
  rw [ka_emb]
  exact ka_out m c t (ix2 r j)

theorem ka_final : (dats m 0 c).arrAt 13 cfg0.N = kaG m c := by
  refine (dats m 0 c).arrAt_eq_of_covers 13 _ (by decide +kernel) fun t hf y => ?_
  rw [after0_13]
  change S256x2048.Idx at y
  idx_vars y
  have k := ka_key m c t y0 y1
  generalize out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = f at k ⊢
  exact k

theorem va_emb (r : Fin 256) (j : Fin 1024) : ((cfg0.win 14).blk t).view.emb (ix2 r j : S256x1024.Idx) = (ix2 (row t r) j : S8192x1024.Idx) := by
  blk_ext [idx t, row]

theorem va_key (r : Fin 256) (j : Fin 1024) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j) = vaG m c (((cfg0.win 14).blk t).view.emb (ix2 r j : S256x1024.Idx)) := by
  rw [va_emb]
  exact va_out m c t r j

theorem va_final : (dats m 0 c).arrAt 14 cfg0.N = vaG m c := by
  refine (dats m 0 c).arrAt_eq_of_covers 14 _ (by decide +kernel) fun t hf y => ?_
  rw [after0_14]
  change S256x1024.Idx at y
  idx_vars y
  have k := va_key m c t y0 y1
  generalize out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = f at k ⊢
  exact k

theorem qm_emb (r : Fin 256) (j : Fin 1024) : ((cfg0.win 15).blk t).view.emb (ix2 r j : S256x1024.Idx) = (ix2 (row t r) j : S8192x1024.Idx) := by
  blk_ext [idx t, row]

theorem qm_key (r : Fin 256) (j : Fin 1024) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j) = qmG m c (((cfg0.win 15).blk t).view.emb (ix2 r j : S256x1024.Idx)) := by
  rw [qm_emb]
  exact qm_out m c t (ix2 r j)

theorem qm_final : (dats m 0 c).arrAt 15 cfg0.N = qmG m c := by
  refine (dats m 0 c).arrAt_eq_of_covers 15 _ (by decide +kernel) fun t hf y => ?_
  rw [after0_15]
  change S256x1024.Idx at y
  idx_vars y
  have k := qm_key m c t y0 y1
  generalize out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = f at k ⊢
  exact k

theorem km_emb (r : Fin 256) (j : Fin 1024) : ((cfg0.win 16).blk t).view.emb (ix2 r j : S256x1024.Idx) = (ix2 (row t r) j : S8192x1024.Idx) := by
  blk_ext [idx t, row]

theorem km_key (r : Fin 256) (j : Fin 1024) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j) = kmG m c (((cfg0.win 16).blk t).view.emb (ix2 r j : S256x1024.Idx)) := by
  rw [km_emb]
  exact km_out m c t (ix2 r j)

theorem km_final : (dats m 0 c).arrAt 16 cfg0.N = kmG m c := by
  refine (dats m 0 c).arrAt_eq_of_covers 16 _ (by decide +kernel) fun t hf y => ?_
  rw [after0_16]
  change S256x1024.Idx at y
  idx_vars y
  have k := km_key m c t y0 y1
  generalize out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = f at k ⊢
  exact k

theorem vm_emb (r : Fin 256) (j : Fin 1024) : ((cfg0.win 17).blk t).view.emb (ix2 r j : S256x1024.Idx) = (ix2 (row t r) j : S8192x1024.Idx) := by
  blk_ext [idx t, row]

theorem vm_key (r : Fin 256) (j : Fin 1024) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j) = vmG m c (((cfg0.win 17).blk t).view.emb (ix2 r j : S256x1024.Idx)) := by
  rw [vm_emb]
  exact vm_out m c t r j

theorem vm_final : (dats m 0 c).arrAt 17 cfg0.N = vmG m c := by
  refine (dats m 0 c).arrAt_eq_of_covers 17 _ (by decide +kernel) fun t hf y => ?_
  rw [after0_17]
  change S256x1024.Idx at y
  idx_vars y
  have k := vm_key m c t y0 y1
  generalize out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = f at k ⊢
  exact k

theorem kmean_emb (j : Fin 1024) : ((cfg0.win 18).blk t).view.emb (ix3 0 0 j : S1x1x1024.Idx) = (ix3 ⟨t.val, t_lt t⟩ 0 j : S32x1x1024.Idx) := by
  blk_ext [idx t]

theorem kmean_key (j : Fin 1024) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 0 j) = kmeanG m c (((cfg0.win 18).blk t).view.emb (ix3 0 0 j : S1x1x1024.Idx)) := by
  rw [kmean_emb]
  exact kmean_out m c t (ix3 0 0 j)

theorem kmean_final : (dats m 0 c).arrAt 18 cfg0.N = kmeanG m c := by
  refine (dats m 0 c).arrAt_eq_of_covers 18 _ (by decide +kernel) fun t hf y => ?_
  rw [after0_18]
  change S1x1x1024.Idx at y
  idx_vars y
  obtain rfl : y0 = 0 := Subsingleton.elim _ _
  obtain rfl : y1 = 0 := Subsingleton.elim _ _
  have k := kmean_key m c t y2
  generalize out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = f at k ⊢
  exact k

end Cert.Kernel4Ideal.Proj

end
-- ==== Proof.ProjRef.lean ====
/- The projections' reference, read at an index. -/
module

public import proofs.«01_k».proof.Proof.Gen.Reference4Ideal.Read
public import Idealize.ShloMosaic.Lib.Pointwise
public import proofs.«01_k».proof.Proof.ProjSpec

@[expose] public section

set_option maxRecDepth 16384

noncomputable section

namespace Cert.Reference4Ideal.Proj

open Cert.Reference4Ideal Cert.Reference4Ideal.Gen Cert.Reference4Ideal.Read Idealize.ShloMosaic

variable (x : FVec Ideal S8192x2048 .f32) (g : FVec Ideal S1x2048 .f32) (w : FVec Ideal S1x2048x3904 .f32)
  (gq : FVec Ideal S1x512 .f32) (gk : FVec Ideal S1x256 .f32) (wq : FVec Ideal S1x512x1536 .f32)
  (wk : FVec Ideal S1x256x2048 .f32)

/-- Row `r` of the input, the gains and the weights, as functions. -/
abbrev xs (r : Fin 8192) : Fin 2048 → EReal := fun k => x (ix2 r k)
abbrev gs : Fin 2048 → EReal := fun k => g (ix2 0 k)
abbrev ws : Fin 2048 → Fin 3904 → EReal := fun k j => w (ix3 0 k j)
abbrev gqs : Fin 512 → EReal := fun k => gq (ix2 0 k)
abbrev gks : Fin 256 → EReal := fun k => gk (ix2 0 k)
abbrev wqs : Fin 512 → Fin 1536 → EReal := fun k j => wq (ix3 0 k j)
abbrev wks : Fin 256 → Fin 2048 → EReal := fun k j => wk (ix3 0 k j)

/-- The row at position `p` of sequence `b`. -/
def pos (b : Fin 2) (p : Fin 4096) : Fin 8192 := ⟨b.val * 4096 + p.val, by have := b.isLt; have := p.isLt; omega⟩

theorem u_at (r : Fin 8192) (k : Fin 2048) : val_main_v13 (F := Ideal) x g (ix2 r k) = ProjSpec.u (xs x r) (gs g) k := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, ProjSpec.u, Norm.normed, xs, gs]

theorem inp_at (r : Fin 8192) (j : Fin 3904) :
    val_main_v15 (F := Ideal) x g w (ix2 r j) = ProjSpec.inp (xs x r) (gs g) (ws w) j := by
  have h : val_main_v15 (F := Ideal) x g w (ix2 r j) = ∑ k : Fin 2048, val_main_v13 (F := Ideal) x g (ix2 r k) * w (ix3 0 k j) := by
    pointwise [val_main_v15, val_main_v14]
  rw [h]
  simp only [u_at]
  rfl

theorem cq_in (r : Fin 8192) (k : Fin 512) :
    val_main_v16 (F := Ideal) x g w (ix2 r k) = ProjSpec.inp (xs x r) (gs g) (ws w) (ProjSpec.col 3904 0 (by omega) k) := by
  rw [← inp_at]
  pointwise [val_main_v16, ProjSpec.col]

theorem ck_in (r : Fin 8192) (k : Fin 256) :
    val_main_v17 (F := Ideal) x g w (ix2 r k) = ProjSpec.inp (xs x r) (gs g) (ws w) (ProjSpec.col 3904 512 (by omega) k) := by
  rw [← inp_at]
  pointwise [val_main_v17, ProjSpec.col]

theorem cq_at (r : Fin 8192) (k : Fin 512) :
    val_main_v35 (F := Ideal) x g w gq (ix2 r k) = ProjSpec.cq (xs x r) (gs g) (ws w) (gqs gq) k := by
  pointwise [val_main_v35, val_main_v34, val_main_v33, val_main_v32, val_main_v31, val_main_v30, val_main_v29, val_main_v28, val_main_v27, val_main_v26, val_main_v25, val_main_v24, val_main_v23, val_main_v22, val_main_cst_2, val_main_cst_3, val_main_cst_4, cq_in, ProjSpec.cq, Norm.normed, gqs]

theorem ck_at (r : Fin 8192) (k : Fin 256) :
    val_main_v52 (F := Ideal) x g w gk (ix2 r k) = ProjSpec.ck (xs x r) (gs g) (ws w) (gks gk) k := by
  pointwise [val_main_v52, val_main_v51, val_main_v50, val_main_v49, val_main_v48, val_main_v47, val_main_v46, val_main_v45, val_main_v44, val_main_v43, val_main_v42, val_main_v41, val_main_v40, val_main_v39, val_main_cst_5, val_main_cst_6, val_main_cst_7, ck_in, ProjSpec.ck, Norm.normed, gks]

theorem q_at (r : Fin 8192) (j : Fin 1536) :
    val_main_v37 (F := Ideal) x g w gq wq (ix2 r j) = ProjSpec.q (xs x r) (gs g) (ws w) (gqs gq) (wqs wq) j := by
  have h : val_main_v37 (F := Ideal) x g w gq wq (ix2 r j)
      = ∑ k : Fin 512, val_main_v35 (F := Ideal) x g w gq (ix2 r k) * wq (ix3 0 k j) := by
    pointwise [val_main_v37, val_main_v36]
  rw [h]
  simp only [cq_at]
  rfl

theorem kv_at (r : Fin 8192) (j : Fin 2048) :
    val_main_v54 (F := Ideal) x g w gk wk (ix2 r j) = ProjSpec.kv (xs x r) (gs g) (ws w) (gks gk) (wks wk) j := by
  have h : val_main_v54 (F := Ideal) x g w gk wk (ix2 r j)
      = ∑ k : Fin 256, val_main_v52 (F := Ideal) x g w gk (ix2 r k) * wk (ix3 0 k j) := by
    pointwise [val_main_v54, val_main_v53]
  rw [h]
  simp only [ck_at]
  rfl

theorem cos64_at (p : Fin 4096) (i : Fin 32) : val_main_v73 (F := Ideal) (ix2 p i) = ProjSpec.cos64 p.val i := by
  pointwise [val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_cst_8, val_main_cst_9, val_main_cst_10, val_main_cst_11, val_main_cst_12, ProjSpec.cos64, ProjSpec.angle]

theorem sin64_at (p : Fin 4096) (i : Fin 32) : val_main_v74 (F := Ideal) (ix2 p i) = ProjSpec.sin64 p.val i := by
  pointwise [val_main_v74, val_main_v72, val_main_v71, val_main_v70, val_main_v69, val_main_v68, val_main_v67, val_main_v66, val_main_v65, val_main_v64, val_main_v63, val_main_v62, val_main_v61, val_main_v60, val_main_v59, val_main_v58, val_main_v57, val_main_v56, val_main_cst_8, val_main_cst_9, val_main_cst_10, val_main_cst_11, val_main_cst_12, ProjSpec.sin64, ProjSpec.angle]

theorem cos128_at (p : Fin 4096) (i : Fin 64) : val_main_v135 (F := Ideal) (ix2 p i) = ProjSpec.cos128 p.val i := by
  pointwise [val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_cst_14, val_main_cst_15, val_main_cst_16, val_main_cst_17, val_main_cst_18, ProjSpec.cos128, ProjSpec.angle]

theorem sin128_at (p : Fin 4096) (i : Fin 64) : val_main_v136 (F := Ideal) (ix2 p i) = ProjSpec.sin128 p.val i := by
  pointwise [val_main_v136, val_main_v134, val_main_v133, val_main_v132, val_main_v131, val_main_v130, val_main_v129, val_main_v128, val_main_v127, val_main_v126, val_main_v125, val_main_v124, val_main_v123, val_main_v122, val_main_v121, val_main_v120, val_main_v119, val_main_v118, val_main_cst_14, val_main_cst_15, val_main_cst_16, val_main_cst_17, val_main_cst_18, ProjSpec.sin128, ProjSpec.angle]

section Heads

variable (b : Fin 2) (p : Fin 4096) (h : Fin 8)

theorem q4_at (d : Fin 192) : val_main_v38 (F := Ideal) x g w gq wq (ix4 b p h d)
    = ProjSpec.q (xs x (pos b p)) (gs g) (ws w) (gqs gq) (wqs wq) ⟨h.val * 192 + d.val, by have := h.isLt; have := d.isLt; omega⟩ := by
  rw [← q_at]
  have hb := b.isLt
  have hp := p.isLt
  have hh := h.isLt
  have hd := d.isLt
  pointwise [val_main_v38, pos]

theorem kv4_at (d : Fin 256) : val_main_v55 (F := Ideal) x g w gk wk (ix4 b p h d)
    = ProjSpec.kv (xs x (pos b p)) (gs g) (ws w) (gks gk) (wks wk) ⟨h.val * 256 + d.val, by have := h.isLt; have := d.isLt; omega⟩ := by
  rw [← kv_at]
  have hb := b.isLt
  have hp := p.isLt
  have hh := h.isLt
  have hd := d.isLt
  pointwise [val_main_v55, pos]

theorem kr4_at (d : Fin 64) : val_main_v91 (F := Ideal) x g w (ix4 b p 0 d)
    = ProjSpec.inp (xs x (pos b p)) (gs g) (ws w) (ProjSpec.col 3904 768 (by omega) d) := by
  rw [← inp_at]
  have hb := b.isLt
  have hp := p.isLt
  have hd := d.isLt
  pointwise [val_main_v91, val_main_v18, ProjSpec.col, pos]

theorem mq4_at (d : Fin 128) : val_main_v137 (F := Ideal) x g w (ix4 b p h d)
    = ProjSpec.inp (xs x (pos b p)) (gs g) (ws w) ⟨832 + (h.val * 128 + d.val), by have := h.isLt; have := d.isLt; omega⟩ := by
  rw [← inp_at]
  have hb := b.isLt
  have hp := p.isLt
  have hh := h.isLt
  have hd := d.isLt
  pointwise [val_main_v137, val_main_v19, pos]

theorem mk4_at (d : Fin 128) : val_main_v153 (F := Ideal) x g w (ix4 b p h d)
    = ProjSpec.inp (xs x (pos b p)) (gs g) (ws w) ⟨1856 + (h.val * 128 + d.val), by have := h.isLt; have := d.isLt; omega⟩ := by
  rw [← inp_at]
  have hb := b.isLt
  have hp := p.isLt
  have hh := h.isLt
  have hd := d.isLt
  pointwise [val_main_v153, val_main_v20, pos]

/-- Latent queries. -/
theorem qa_at (d : Fin 256) : val_main_v112 (F := Ideal) x g w gq wq (ix4 b p h d)
    = ProjSpec.qa (xs x (pos b p)) (gs g) (ws w) (gqs gq) (wqs wq) p.val h d := by
  have hd := d.isLt
  pointwise [val_main_v112, val_main_v111, val_main_v110, val_main_v109, val_main_v108, val_main_cst_13, val_main_v90, val_main_v89, val_main_v88, val_main_v87, val_main_v86, val_main_v85, val_main_v84, val_main_v83, val_main_v82, val_main_v81, val_main_v80, val_main_v79, val_main_v78, val_main_v77, val_main_v76, val_main_v75, q4_at, cos64_at, sin64_at, ProjSpec.qa, ProjSpec.latent, ProjSpec.spread, ProjSpec.rot1, ProjSpec.rot2]
  simp only [show d.val - 128 - 32 - 32 = d.val - 128 - 64 by omega, show ∀ n, 128 + (32 + n) = 160 + n by omega]
  repeat' split
  all_goals first | rfl | (exfalso; omega)

/-- Latent keys. -/
theorem ka_at (d : Fin 256) : val_main_v116 (F := Ideal) x g w gk wk (ix4 b p h d)
    = ProjSpec.ka (xs x (pos b p)) (gs g) (ws w) (gks gk) (wks wk) p.val h d := by
  have hd := d.isLt
  pointwise [val_main_v116, val_main_v115, val_main_v114, val_main_v113, val_main_v108, val_main_cst_13, val_main_v107, val_main_v106, val_main_v105, val_main_v104, val_main_v103, val_main_v102, val_main_v101, val_main_v100, val_main_v99, val_main_v98, val_main_v97, val_main_v96, val_main_v95, val_main_v94, val_main_v93, val_main_v92, kr4_at, kv4_at, cos64_at, sin64_at, ProjSpec.ka, ProjSpec.latent, ProjSpec.spread, ProjSpec.rot1, ProjSpec.rot2, ProjSpec.col]
  simp only [show d.val - 128 - 32 - 32 = d.val - 128 - 64 by omega, show ∀ n, 768 + (32 + n) = 800 + n by omega]
  repeat' split
  all_goals first | rfl | (exfalso; omega)

/-- Latent values. -/
theorem va_at (d : Fin 128) : val_main_v117 (F := Ideal) x g w gk wk (ix4 b p h d)
    = ProjSpec.va (xs x (pos b p)) (gs g) (ws w) (gks gk) (wks wk) h d := by
  have hd := d.isLt
  pointwise [val_main_v117, kv4_at, ProjSpec.va]

/-- The block attention's queries. -/
theorem qm_at (d : Fin 128) : val_main_v152 (F := Ideal) x g w (ix4 b p h d)
    = ProjSpec.rm (xs x (pos b p)) (gs g) (ws w) 832 (by omega) p.val h d := by
  have hd := d.isLt
  pointwise [val_main_v152, val_main_v151, val_main_v150, val_main_v149, val_main_v148, val_main_v147, val_main_v146, val_main_v145, val_main_v144, val_main_v143, val_main_v142, val_main_v141, val_main_v140, val_main_v139, val_main_v138, mq4_at, cos128_at, sin128_at, ProjSpec.rm, ProjSpec.rotated, ProjSpec.halves, ProjSpec.rot1, ProjSpec.rot2, ProjSpec.col]

/-- The block attention's keys. -/
theorem km_at (d : Fin 128) : val_main_v168 (F := Ideal) x g w (ix4 b p h d)
    = ProjSpec.rm (xs x (pos b p)) (gs g) (ws w) 1856 (by omega) p.val h d := by
  have hd := d.isLt
  pointwise [val_main_v168, val_main_v167, val_main_v166, val_main_v165, val_main_v164, val_main_v163, val_main_v162, val_main_v161, val_main_v160, val_main_v159, val_main_v158, val_main_v157, val_main_v156, val_main_v155, val_main_v154, mk4_at, cos128_at, sin128_at, ProjSpec.rm, ProjSpec.rotated, ProjSpec.halves, ProjSpec.rot1, ProjSpec.rot2, ProjSpec.col]

end Heads

/-- The position and sequence of a row. -/
theorem pos_self (r : Fin 8192) (h1 : r.val / 4096 < 2) (h2 : r.val % 4096 < 4096) : pos ⟨r.val / 4096, h1⟩ ⟨r.val % 4096, h2⟩ = r :=
  Fin.ext (by show r.val / 4096 * 4096 + r.val % 4096 = r.val; omega)

/-- The results, a head at a time. -/
theorem qa_res (r : Fin 8192) (h : Fin 8) (d : Fin 256) :
    val_main_v174 (F := Ideal) x g w gq wq (ix2 r ⟨h.val * 256 + d.val, by have := h.isLt; have := d.isLt; omega⟩)
      = ProjSpec.qa (xs x r) (gs g) (ws w) (gqs gq) (wqs wq) (r.val % 4096) h d := by
  have hr := r.isLt
  have hh := h.isLt
  have hd := d.isLt
  have e : val_main_v174 (F := Ideal) x g w gq wq (ix2 r ⟨h.val * 256 + d.val, by omega⟩)
      = val_main_v112 (F := Ideal) x g w gq wq (ix4 ⟨r.val / 4096, by omega⟩ ⟨r.val % 4096, by omega⟩ h d) := by
    pointwise [val_main_v174, val_main_v173]
  rw [e, qa_at, pos_self]

theorem ka_res (r : Fin 8192) (h : Fin 8) (d : Fin 256) :
    val_main_v176 (F := Ideal) x g w gk wk (ix2 r ⟨h.val * 256 + d.val, by have := h.isLt; have := d.isLt; omega⟩)
      = ProjSpec.ka (xs x r) (gs g) (ws w) (gks gk) (wks wk) (r.val % 4096) h d := by
  have hr := r.isLt
  have hh := h.isLt
  have hd := d.isLt
  have e : val_main_v176 (F := Ideal) x g w gk wk (ix2 r ⟨h.val * 256 + d.val, by omega⟩)
      = val_main_v116 (F := Ideal) x g w gk wk (ix4 ⟨r.val / 4096, by omega⟩ ⟨r.val % 4096, by omega⟩ h d) := by
    pointwise [val_main_v176, val_main_v175]
  rw [e, ka_at, pos_self]

theorem va_res (r : Fin 8192) (h : Fin 8) (d : Fin 128) :
    val_main_v178 (F := Ideal) x g w gk wk (ix2 r ⟨h.val * 128 + d.val, by have := h.isLt; have := d.isLt; omega⟩)
      = ProjSpec.va (xs x r) (gs g) (ws w) (gks gk) (wks wk) h d := by
  have hr := r.isLt
  have hh := h.isLt
  have hd := d.isLt
  have e : val_main_v178 (F := Ideal) x g w gk wk (ix2 r ⟨h.val * 128 + d.val, by omega⟩)
      = val_main_v117 (F := Ideal) x g w gk wk (ix4 ⟨r.val / 4096, by omega⟩ ⟨r.val % 4096, by omega⟩ h d) := by
    pointwise [val_main_v178, val_main_v177]
  rw [e, va_at, pos_self]

theorem qm_res (r : Fin 8192) (h : Fin 8) (d : Fin 128) :
    val_main_v180 (F := Ideal) x g w (ix2 r ⟨h.val * 128 + d.val, by have := h.isLt; have := d.isLt; omega⟩)
      = ProjSpec.rm (xs x r) (gs g) (ws w) 832 (by omega) (r.val % 4096) h d := by
  have hr := r.isLt
  have hh := h.isLt
  have hd := d.isLt
  have e : val_main_v180 (F := Ideal) x g w (ix2 r ⟨h.val * 128 + d.val, by omega⟩)
      = val_main_v152 (F := Ideal) x g w (ix4 ⟨r.val / 4096, by omega⟩ ⟨r.val % 4096, by omega⟩ h d) := by
    pointwise [val_main_v180, val_main_v179]
  rw [e, qm_at, pos_self]

theorem km_res (r : Fin 8192) (h : Fin 8) (d : Fin 128) :
    val_main_v182 (F := Ideal) x g w (ix2 r ⟨h.val * 128 + d.val, by have := h.isLt; have := d.isLt; omega⟩)
      = ProjSpec.rm (xs x r) (gs g) (ws w) 1856 (by omega) (r.val % 4096) h d := by
  have hr := r.isLt
  have hh := h.isLt
  have hd := d.isLt
  have e : val_main_v182 (F := Ideal) x g w (ix2 r ⟨h.val * 128 + d.val, by omega⟩)
      = val_main_v168 (F := Ideal) x g w (ix4 ⟨r.val / 4096, by omega⟩ ⟨r.val % 4096, by omega⟩ h d) := by
    pointwise [val_main_v182, val_main_v181]
  rw [e, km_at, pos_self]

theorem vm_res (r : Fin 8192) (j : Fin 1024) :
    val_main_v183 (F := Ideal) x g w (ix2 r j) = ProjSpec.inp (xs x r) (gs g) (ws w) (ProjSpec.col 3904 2880 (by omega) j) := by
  rw [← inp_at]
  pointwise [val_main_v183, val_main_v21, ProjSpec.col]

theorem kmean_res (t : Fin 32) (h : Fin 8) (d : Fin 128) :
    val_main_v184 (F := Ideal) x g w (ix3 t 0 ⟨h.val * 128 + d.val, by have := h.isLt; have := d.isLt; omega⟩)
      = Ideal.div (∑ r : Fin 256, ProjSpec.rm (xs x ⟨t.val * 256 + r.val, by have := t.isLt; have := r.isLt; omega⟩) (gs g) (ws w) 1856 (by omega)
          (t.val % 16 * 256 + r.val) h d) (Ideal.ofBits .f32 0x43800000#32) := by
  have ht := t.isLt
  have hh := h.isLt
  have hd := d.isLt
  pointwise [val_main_v184, val_main_v172, val_main_v171, val_main_v170, val_main_v169, val_main_cst_19, val_main_cst_20, km_at]
  refine congrArg (fun f : Fin 256 → EReal => Ideal.div (∑ r : Fin 256, f r) _) (funext fun r => ?_)
  have e : ∀ h1 h2, pos ⟨t.val / 16, h1⟩ ⟨t.val % 16 * 256 + r.val, h2⟩
      = (⟨t.val * 256 + r.val, by have := r.isLt; omega⟩ : Fin 8192) := fun h1 h2 =>
    Fin.ext (by show t.val / 16 * 4096 + (t.val % 16 * 256 + r.val) = t.val * 256 + r.val; omega)
  rw [e]

end Cert.Reference4Ideal.Proj

end
-- ==== Proof.ProjClaim.lean ====
/- The projections' claims. -/
module

public import proofs.«01_k».proof.Defs
public import proofs.«01_k».proof.Proof.ProjFinal
public import proofs.«01_k».proof.Proof.ProjRef
public import Idealize.ShloMosaic.Lib.Claim

@[expose] public section

set_option maxRecDepth 16384

noncomputable section

namespace Cert.ProjClaim

open Idealize.ShloMosaic Idealize.SL.Sem

instance : Cert.Kernel4Ideal.Facts := Cert.Kernel4Ideal.Gen.facts
instance : Cert.Reference4Ideal.Facts := Cert.Reference4Ideal.Gen.facts

/-- The reference runs and leaves its arguments alone. -/
theorem frame_ri : Cert.quiescent_Reference4Ideal := by
  intro m g _
  exact (θ_run Cert.Reference4Ideal.defs _ _).mono (fun r h => ⟨fun c => (h c).2.2.2.2.2.2.2, sem_eq_zero_of_no_sems (by decide) r.2⟩)
    (Cert.Reference4Ideal.Value.run (F := Ideal) m g)

variable (m : (ℓ : Loc Cert.Kernel4Ideal.nD Cert.Kernel4Ideal.τ Cert.Kernel4Ideal.sig) → Buf (Elt Ideal) ℓ) (c : Dev Cert.Kernel4Ideal.nD)

/-! ## The reference's results are the kernel's -/

theorem qa : Cert.Reference4Ideal.Read.val_main_v174 (F := Ideal) (Cert.Kernel4Ideal.Proj.X m c) (Cert.Kernel4Ideal.Proj.G m c) (Cert.Kernel4Ideal.Proj.Win m c) (Cert.Kernel4Ideal.Proj.GQ m c) (Cert.Kernel4Ideal.Proj.Wq m c) = Cert.Kernel4Ideal.Proj.qaG m c := by
  funext i
  idx_vars i
  have hj := i1.isLt
  refine Eq.trans (congrArg _ (congrArg (ix2 i0) (Fin.ext ?_))) (Cert.Reference4Ideal.Proj.qa_res (Cert.Kernel4Ideal.Proj.X m c) (Cert.Kernel4Ideal.Proj.G m c) (Cert.Kernel4Ideal.Proj.Win m c) (Cert.Kernel4Ideal.Proj.GQ m c) (Cert.Kernel4Ideal.Proj.Wq m c) i0 (Cert.Kernel4Ideal.Proj.hd256 i1) (Cert.Kernel4Ideal.Proj.ln256 i1))
  show i1.val = i1.val / 256 * 256 + i1.val % 256
  omega

theorem ka : Cert.Reference4Ideal.Read.val_main_v176 (F := Ideal) (Cert.Kernel4Ideal.Proj.X m c) (Cert.Kernel4Ideal.Proj.G m c) (Cert.Kernel4Ideal.Proj.Win m c) (Cert.Kernel4Ideal.Proj.GK m c) (Cert.Kernel4Ideal.Proj.Wkv m c) = Cert.Kernel4Ideal.Proj.kaG m c := by
  funext i
  idx_vars i
  have hj := i1.isLt
  refine Eq.trans (congrArg _ (congrArg (ix2 i0) (Fin.ext ?_))) (Cert.Reference4Ideal.Proj.ka_res (Cert.Kernel4Ideal.Proj.X m c) (Cert.Kernel4Ideal.Proj.G m c) (Cert.Kernel4Ideal.Proj.Win m c) (Cert.Kernel4Ideal.Proj.GK m c) (Cert.Kernel4Ideal.Proj.Wkv m c) i0 (Cert.Kernel4Ideal.Proj.hd256 i1) (Cert.Kernel4Ideal.Proj.ln256 i1))
  show i1.val = i1.val / 256 * 256 + i1.val % 256
  omega

theorem va : Cert.Reference4Ideal.Read.val_main_v178 (F := Ideal) (Cert.Kernel4Ideal.Proj.X m c) (Cert.Kernel4Ideal.Proj.G m c) (Cert.Kernel4Ideal.Proj.Win m c) (Cert.Kernel4Ideal.Proj.GK m c) (Cert.Kernel4Ideal.Proj.Wkv m c) = Cert.Kernel4Ideal.Proj.vaG m c := by
  funext i
  idx_vars i
  have hj := i1.isLt
  refine Eq.trans (congrArg _ (congrArg (ix2 i0) (Fin.ext ?_))) (Cert.Reference4Ideal.Proj.va_res (Cert.Kernel4Ideal.Proj.X m c) (Cert.Kernel4Ideal.Proj.G m c) (Cert.Kernel4Ideal.Proj.Win m c) (Cert.Kernel4Ideal.Proj.GK m c) (Cert.Kernel4Ideal.Proj.Wkv m c) i0 (Cert.Kernel4Ideal.Proj.hd128 i1) (Cert.Kernel4Ideal.Proj.ln128 i1))
  show i1.val = i1.val / 128 * 128 + i1.val % 128
  omega

theorem qm : Cert.Reference4Ideal.Read.val_main_v180 (F := Ideal) (Cert.Kernel4Ideal.Proj.X m c) (Cert.Kernel4Ideal.Proj.G m c) (Cert.Kernel4Ideal.Proj.Win m c) = Cert.Kernel4Ideal.Proj.qmG m c := by
  funext i
  idx_vars i
  have hj := i1.isLt
  refine Eq.trans (congrArg _ (congrArg (ix2 i0) (Fin.ext ?_))) (Cert.Reference4Ideal.Proj.qm_res (Cert.Kernel4Ideal.Proj.X m c) (Cert.Kernel4Ideal.Proj.G m c) (Cert.Kernel4Ideal.Proj.Win m c) i0 (Cert.Kernel4Ideal.Proj.hd128 i1) (Cert.Kernel4Ideal.Proj.ln128 i1))
  show i1.val = i1.val / 128 * 128 + i1.val % 128
  omega

theorem km : Cert.Reference4Ideal.Read.val_main_v182 (F := Ideal) (Cert.Kernel4Ideal.Proj.X m c) (Cert.Kernel4Ideal.Proj.G m c) (Cert.Kernel4Ideal.Proj.Win m c) = Cert.Kernel4Ideal.Proj.kmG m c := by
  funext i
  idx_vars i
  have hj := i1.isLt
  refine Eq.trans (congrArg _ (congrArg (ix2 i0) (Fin.ext ?_))) (Cert.Reference4Ideal.Proj.km_res (Cert.Kernel4Ideal.Proj.X m c) (Cert.Kernel4Ideal.Proj.G m c) (Cert.Kernel4Ideal.Proj.Win m c) i0 (Cert.Kernel4Ideal.Proj.hd128 i1) (Cert.Kernel4Ideal.Proj.ln128 i1))
  show i1.val = i1.val / 128 * 128 + i1.val % 128
  omega

theorem vm : Cert.Reference4Ideal.Read.val_main_v183 (F := Ideal) (Cert.Kernel4Ideal.Proj.X m c) (Cert.Kernel4Ideal.Proj.G m c) (Cert.Kernel4Ideal.Proj.Win m c) = Cert.Kernel4Ideal.Proj.vmG m c := by
  funext i
  idx_vars i
  exact Cert.Reference4Ideal.Proj.vm_res (Cert.Kernel4Ideal.Proj.X m c) (Cert.Kernel4Ideal.Proj.G m c) (Cert.Kernel4Ideal.Proj.Win m c) i0 i1

theorem kmean : Cert.Reference4Ideal.Read.val_main_v184 (F := Ideal) (Cert.Kernel4Ideal.Proj.X m c) (Cert.Kernel4Ideal.Proj.G m c) (Cert.Kernel4Ideal.Proj.Win m c) = Cert.Kernel4Ideal.Proj.kmeanG m c := by
  funext i
  idx_vars i
  obtain rfl : i1 = 0 := Subsingleton.elim _ _
  have hj := i2.isLt
  refine Eq.trans (congrArg _ (congrArg (ix3 i0 0) (Fin.ext ?_))) (Cert.Reference4Ideal.Proj.kmean_res (Cert.Kernel4Ideal.Proj.X m c) (Cert.Kernel4Ideal.Proj.G m c) (Cert.Kernel4Ideal.Proj.Win m c) i0 (Cert.Kernel4Ideal.Proj.hd128 i2) (Cert.Kernel4Ideal.Proj.ln128 i2))
  show i2.val = i2.val / 128 * 128 + i2.val % 128
  omega

/-- The kernel and the reference end equal, every operation exact. -/
theorem algebraic : Cert.algebraic_Kernel4Ideal_Reference4Ideal := by
  intro m g m' g' _ hag
  refine ⟨fun c => Cert.Kernel4Ideal.Proj.qaG m c, fun c => Cert.Kernel4Ideal.Proj.kaG m c, fun c => Cert.Kernel4Ideal.Proj.vaG m c, fun c => Cert.Kernel4Ideal.Proj.qmG m c,
    fun c => Cert.Kernel4Ideal.Proj.kmG m c, fun c => Cert.Kernel4Ideal.Proj.vmG m c, fun c => Cert.Kernel4Ideal.Proj.kmeanG m c, ?_, ?_⟩
  · refine (θ_run _ _ _).mono (fun r h c => ?_) (Cert.Kernel4Ideal.Value.run_blocks m g)
    obtain ⟨a, b, d, e, f, k, l, rest⟩ := h c
    exact ⟨a.trans (Cert.Kernel4Ideal.Proj.qa_final m c), b.trans (Cert.Kernel4Ideal.Proj.ka_final m c), d.trans (Cert.Kernel4Ideal.Proj.va_final m c), e.trans (Cert.Kernel4Ideal.Proj.qm_final m c),
      f.trans (Cert.Kernel4Ideal.Proj.km_final m c), k.trans (Cert.Kernel4Ideal.Proj.vm_final m c), l.trans (Cert.Kernel4Ideal.Proj.kmean_final m c), rest⟩
  · refine (θ_run _ _ _).mono (fun r h c => ?_) (Cert.Reference4Ideal.Value.run m' g')
    obtain ⟨a, b, d, e, f, k, l, rest⟩ := h c
    obtain ⟨h0, h1, h2, h3, h4, h5, h6⟩ := hag c
    replace h0 : StableHlo.launchContents m' c (Proc.devRef .tc Cert.Reference4Ideal.main_arg0) = Cert.Kernel4Ideal.Proj.X m c := h0
    replace h1 : StableHlo.launchContents m' c (Proc.devRef .tc Cert.Reference4Ideal.main_arg1) = Cert.Kernel4Ideal.Proj.G m c := h1
    replace h2 : StableHlo.launchContents m' c (Proc.devRef .tc Cert.Reference4Ideal.main_arg2) = Cert.Kernel4Ideal.Proj.Win m c := h2
    replace h3 : StableHlo.launchContents m' c (Proc.devRef .tc Cert.Reference4Ideal.main_arg3) = Cert.Kernel4Ideal.Proj.GQ m c := h3
    replace h4 : StableHlo.launchContents m' c (Proc.devRef .tc Cert.Reference4Ideal.main_arg4) = Cert.Kernel4Ideal.Proj.GK m c := h4
    replace h5 : StableHlo.launchContents m' c (Proc.devRef .tc Cert.Reference4Ideal.main_arg5) = Cert.Kernel4Ideal.Proj.Wq m c := h5
    replace h6 : StableHlo.launchContents m' c (Proc.devRef .tc Cert.Reference4Ideal.main_arg6) = Cert.Kernel4Ideal.Proj.Wkv m c := h6
    refine ⟨a.trans ?_, b.trans ?_, d.trans ?_, e.trans ?_, f.trans ?_, k.trans ?_, l.trans ?_, rest⟩
    · rw [Cert.Reference4Ideal.Read.val_main_v174_eq, h0, h1, h2, h3, h5]
      exact qa m c
    · rw [Cert.Reference4Ideal.Read.val_main_v176_eq, h0, h1, h2, h4, h6]
      exact ka m c
    · rw [Cert.Reference4Ideal.Read.val_main_v178_eq, h0, h1, h2, h4, h6]
      exact va m c
    · rw [Cert.Reference4Ideal.Read.val_main_v180_eq, h0, h1, h2]
      exact qm m c
    · rw [Cert.Reference4Ideal.Read.val_main_v182_eq, h0, h1, h2]
      exact km m c
    · rw [Cert.Reference4Ideal.Read.val_main_v183_eq, h0, h1, h2]
      exact vm m c
    · rw [Cert.Reference4Ideal.Read.val_main_v184_eq, h0, h1, h2]
      exact kmean m c

end Cert.ProjClaim

end
-- ==== Proof.MlaOpen.lean ====
/- The attention kernel's body opened: what one trip of the loop over the earlier key blocks leaves in the three scratch buffers, the trips one after
   another, and the block that the point stores. -/
module

public import proofs.«01_k».proof.Proof.Gen.KernelIdeal.Value
public import Idealize.ShloMosaic.Lib.Pipeline.ValueKit
public import Idealize.ShloMosaic.Lib.Pipeline.ReadBack
public import Idealize.ShloMosaic.Lib.VecWindow

@[expose] public section

set_option maxRecDepth 16384

noncomputable section

namespace Cert.KernelIdeal.Mla

open Cert.KernelIdeal Cert.KernelIdeal.Gen Idealize.ShloMosaic Idealize.ShloMosaic.TcCoe

/-- The keys of block `k`, as the trip loads them. -/
abbrev keys (i : grid0.Coords) (x1 : Vec Ideal S1x4096x256 .bf16) (k : Fin (k0_t1_loop i).trips) : Vec Ideal S1x256x256 .bf16 :=
  View.ld (e' := .bf16) x1 (Rect.unit (s := S1x4096x256) (k0_off3 i k) S1x256x256.size (k0_off3_inb i k))

/-- The values of block `k`, as the trip loads them. -/
abbrev vals (i : grid0.Coords) (x2 : Vec Ideal S1x4096x128 .bf16) (k : Fin (k0_t1_loop i).trips) : Vec Ideal S1x256x128 .bf16 :=
  View.ld (e' := .bf16) x2 (Rect.unit (s := S1x4096x128) (k0_off4 i k) S1x256x128.size (k0_off4_inb i k))

/-- A whole column read back. -/
theorem rd_col (arg : Memref sig .tc .vmem S256x1 .f32) (f : BufTy.Contents (Elt Ideal) arg.view.ty) :
    View.readAt (Elt Ideal) arg.view (Rect.unit (s := S256x1) ![0, 0] S256x1.size inb_S256x1_S256x1_0_0).toLoadRect f
      = arg.view.read (Elt Ideal) f := by
  rw [View.readAt_eq_ld]
  exact View.ld_unit_lit _ _ (by decide)

/-- A whole block of numerators read back. -/
theorem rd_wide (arg : Memref sig .tc .vmem S256x128 .f32) (f : BufTy.Contents (Elt Ideal) arg.view.ty) :
    View.readAt (Elt Ideal) arg.view (Rect.unit (s := S256x128) ![0, 0] S256x128.size inb_S256x128_S256x128_0_0).toLoadRect f
      = arg.view.read (Elt Ideal) f := by
  rw [View.readAt_eq_ld]
  exact View.ld_unit_lit _ _ (by decide)

/-- The trip's load of keys. -/
theorem rd4 (i : grid0.Coords) (arg4 : Memref sig .tc .vmem S1x4096x256 .bf16) (harg4 : arg4.IsWhole)
    (x1 : Vec Ideal S1x4096x256 .bf16) (k : Fin (k0_t1_loop i).trips) :
    (View.readAt (Elt Ideal) arg4.view (Rect.unit (s := S1x4096x256) (k0_off3 i k) S1x256x256.size (k0_off3_inb i k)).toLoadRect (harg4.unread x1)) = keys i x1 k := by
  rw [View.readAt_eq_ld, harg4.read_unread]

/-- The trip's load of values. -/
theorem rd5 (i : grid0.Coords) (arg5 : Memref sig .tc .vmem S1x4096x128 .bf16) (harg5 : arg5.IsWhole)
    (x2 : Vec Ideal S1x4096x128 .bf16) (k : Fin (k0_t1_loop i).trips) :
    (View.readAt (Elt Ideal) arg5.view (Rect.unit (s := S1x4096x128) (k0_off4 i k) S1x256x128.size (k0_off4_inb i k)).toLoadRect (harg5.unread x2)) = vals i x2 k := by
  rw [View.readAt_eq_ld, harg5.read_unread]

section trips

variable {𝒱 : Variants} {c : Dev nD} {bd : Option 𝒱.V} {i : grid0.Coords} {arg3 : Memref sig .tc .vmem S1x256x256 .bf16} {harg3 : arg3.IsWhole} {arg4 : Memref sig .tc .vmem S1x4096x256 .bf16} {harg4 : arg4.IsWhole} {arg5 : Memref sig .tc .vmem S1x4096x128 .bf16} {harg5 : arg5.IsWhole}
  {arg6 : Memref sig .tc .vmem S1x256x128 .f32} {harg6 : arg6.IsWhole} {arg7 : Memref sig .tc .vmem S256x1 .f32} {harg7 : arg7.IsWhole} {arg8 : Memref sig .tc .vmem S256x1 .f32} {harg8 : arg8.IsWhole} {arg9 : Memref sig .tc .vmem S256x128 .f32} {harg9 : arg9.IsWhole}
  {v1 : FVec Ideal S256x256 .bf16}
  {x1 : Vec Ideal S1x4096x256 .bf16} {x2 : Vec Ideal S1x4096x128 .bf16} {k : Fin (k0_t1_loop i).trips}

/-- The running maxima after a trip. -/
theorem trip7 (f7 : BufTy.Contents (Elt Ideal) arg7.view.ty) (f8 : BufTy.Contents (Elt Ideal) arg8.view.ty)
    (f9 : BufTy.Contents (Elt Ideal) arg9.view.ty) :
    arg7.view.read (Elt Ideal) (arg7.view.writes (Elt Ideal) f7
        ((trip_k0_t1 (F := Ideal) 𝒱 c bd i arg3 harg3 arg4 harg4 arg5 harg5 arg6 harg6 arg7 harg7 arg8 harg8 arg9 harg9 v1 (harg4.unread x1) (harg5.unread x2) k).1 f7 f8 f9))
      = k0_pay9 v1 (keys i x1 k) (arg7.view.read (Elt Ideal) f7) := by
  unfold trip_k0_t1
  dsimp only
  rw [View.read_writes_full]
  rw [show trip_k0_t1.sl.v70 i arg4 arg7 v1 (harg4.unread x1) k f7 = k0_pay9 v1 (View.readAt (Elt Ideal) arg4.view (Rect.unit (s := S1x4096x256) (k0_off3 i k) S1x256x256.size (k0_off3_inb i k)).toLoadRect (harg4.unread x1)) (View.readAt (Elt Ideal) arg7.view (Rect.unit (s := S256x1) ![0, 0] S256x1.size inb_S256x1_S256x1_0_0).toLoadRect f7) from rfl]
  rw [rd4, rd_col]

/-- The running sums after a trip. -/
theorem trip8 (f7 : BufTy.Contents (Elt Ideal) arg7.view.ty) (f8 : BufTy.Contents (Elt Ideal) arg8.view.ty)
    (f9 : BufTy.Contents (Elt Ideal) arg9.view.ty) :
    arg8.view.read (Elt Ideal) (arg8.view.writes (Elt Ideal) f8
        ((trip_k0_t1 (F := Ideal) 𝒱 c bd i arg3 harg3 arg4 harg4 arg5 harg5 arg6 harg6 arg7 harg7 arg8 harg8 arg9 harg9 v1 (harg4.unread x1) (harg5.unread x2) k).2.1 f7 f8 f9))
      = k0_pay10 v1 (keys i x1 k) (arg7.view.read (Elt Ideal) f7) (arg8.view.read (Elt Ideal) f8) := by
  unfold trip_k0_t1
  dsimp only
  rw [View.read_writes_full]
  rw [show trip_k0_t1.sl.v78 i arg4 arg7 arg8 v1 (harg4.unread x1) k f7 f8 = k0_pay10 v1 (View.readAt (Elt Ideal) arg4.view (Rect.unit (s := S1x4096x256) (k0_off3 i k) S1x256x256.size (k0_off3_inb i k)).toLoadRect (harg4.unread x1)) (View.readAt (Elt Ideal) arg7.view (Rect.unit (s := S256x1) ![0, 0] S256x1.size inb_S256x1_S256x1_0_0).toLoadRect f7) (View.readAt (Elt Ideal) arg8.view (Rect.unit (s := S256x1) ![0, 0] S256x1.size inb_S256x1_S256x1_0_0).toLoadRect f8) from rfl]
  rw [rd4, rd_col, rd_col]

/-- The running numerators after a trip. -/
theorem trip9 (f7 : BufTy.Contents (Elt Ideal) arg7.view.ty) (f8 : BufTy.Contents (Elt Ideal) arg8.view.ty)
    (f9 : BufTy.Contents (Elt Ideal) arg9.view.ty) :
    arg9.view.read (Elt Ideal) (arg9.view.writes (Elt Ideal) f9
        ((trip_k0_t1 (F := Ideal) 𝒱 c bd i arg3 harg3 arg4 harg4 arg5 harg5 arg6 harg6 arg7 harg7 arg8 harg8 arg9 harg9 v1 (harg4.unread x1) (harg5.unread x2) k).2.2.1 f7 f8 f9))
      = k0_pay2 (k0_pay11 v1 (keys i x1 k) (vals i x2 k) (arg7.view.read (Elt Ideal) f7) (arg9.view.read (Elt Ideal) f9)) := by
  unfold trip_k0_t1
  dsimp only
  rw [View.read_writes_full]
  rw [show trip_k0_t1.sl.v84 i arg4 arg5 arg7 arg9 v1 (harg4.unread x1) (harg5.unread x2) k f7 f9 = k0_pay11 v1 (View.readAt (Elt Ideal) arg4.view (Rect.unit (s := S1x4096x256) (k0_off3 i k) S1x256x256.size (k0_off3_inb i k)).toLoadRect (harg4.unread x1)) (View.readAt (Elt Ideal) arg5.view (Rect.unit (s := S1x4096x128) (k0_off4 i k) S1x256x128.size (k0_off4_inb i k)).toLoadRect (harg5.unread x2)) (View.readAt (Elt Ideal) arg7.view (Rect.unit (s := S256x1) ![0, 0] S256x1.size inb_S256x1_S256x1_0_0).toLoadRect f7) (View.readAt (Elt Ideal) arg9.view (Rect.unit (s := S256x128) ![0, 0] S256x128.size inb_S256x128_S256x128_0_0).toLoadRect f9) from rfl]
  rw [rd4, rd5, rd_col, rd_wide]

variable {g7 : BufTy.Contents (Elt Ideal) arg7.view.ty} {g8 : BufTy.Contents (Elt Ideal) arg8.view.ty}
  {g9 : BufTy.Contents (Elt Ideal) arg9.view.ty}

/-- The running maxima, trip after trip. -/
theorem succ7 :
    arg7.view.read (Elt Ideal) (arg7.view.writes (Elt Ideal) g7 (pb_k0_t1 (F := Ideal) 𝒱 c bd i arg3 harg3 arg4 harg4 arg5 harg5 arg6 harg6 arg7 harg7 arg8 harg8 arg9 harg9 v1 (harg4.unread x1) (harg5.unread x2) g7 g8 g9 (k.val + 1)).1)
      = k0_pay9 v1 (keys i x1 k) (arg7.view.read (Elt Ideal) (arg7.view.writes (Elt Ideal) g7 (pb_k0_t1 (F := Ideal) 𝒱 c bd i arg3 harg3 arg4 harg4 arg5 harg5 arg6 harg6 arg7 harg7 arg8 harg8 arg9 harg9 v1 (harg4.unread x1) (harg5.unread x2) g7 g8 g9 k.val).1)) := by
  rw [pb_k0_t1_succ]
  dsimp only
  rw [View.writes_append]
  exact trip7 _ _ _

/-- The running sums, trip after trip. -/
theorem succ8 :
    arg8.view.read (Elt Ideal) (arg8.view.writes (Elt Ideal) g8 (pb_k0_t1 (F := Ideal) 𝒱 c bd i arg3 harg3 arg4 harg4 arg5 harg5 arg6 harg6 arg7 harg7 arg8 harg8 arg9 harg9 v1 (harg4.unread x1) (harg5.unread x2) g7 g8 g9 (k.val + 1)).2.1)
      = k0_pay10 v1 (keys i x1 k) (arg7.view.read (Elt Ideal) (arg7.view.writes (Elt Ideal) g7 (pb_k0_t1 (F := Ideal) 𝒱 c bd i arg3 harg3 arg4 harg4 arg5 harg5 arg6 harg6 arg7 harg7 arg8 harg8 arg9 harg9 v1 (harg4.unread x1) (harg5.unread x2) g7 g8 g9 k.val).1))
          (arg8.view.read (Elt Ideal) (arg8.view.writes (Elt Ideal) g8 (pb_k0_t1 (F := Ideal) 𝒱 c bd i arg3 harg3 arg4 harg4 arg5 harg5 arg6 harg6 arg7 harg7 arg8 harg8 arg9 harg9 v1 (harg4.unread x1) (harg5.unread x2) g7 g8 g9 k.val).2.1)) := by
  rw [pb_k0_t1_succ]
  dsimp only
  rw [View.writes_append]
  exact trip8 _ _ _

/-- The running numerators, trip after trip. -/
theorem succ9 :
    arg9.view.read (Elt Ideal) (arg9.view.writes (Elt Ideal) g9 (pb_k0_t1 (F := Ideal) 𝒱 c bd i arg3 harg3 arg4 harg4 arg5 harg5 arg6 harg6 arg7 harg7 arg8 harg8 arg9 harg9 v1 (harg4.unread x1) (harg5.unread x2) g7 g8 g9 (k.val + 1)).2.2)
      = k0_pay2 (k0_pay11 v1 (keys i x1 k) (vals i x2 k) (arg7.view.read (Elt Ideal) (arg7.view.writes (Elt Ideal) g7 (pb_k0_t1 (F := Ideal) 𝒱 c bd i arg3 harg3 arg4 harg4 arg5 harg5 arg6 harg6 arg7 harg7 arg8 harg8 arg9 harg9 v1 (harg4.unread x1) (harg5.unread x2) g7 g8 g9 k.val).1))
          (arg9.view.read (Elt Ideal) (arg9.view.writes (Elt Ideal) g9 (pb_k0_t1 (F := Ideal) 𝒱 c bd i arg3 harg3 arg4 harg4 arg5 harg5 arg6 harg6 arg7 harg7 arg8 harg8 arg9 harg9 v1 (harg4.unread x1) (harg5.unread x2) g7 g8 g9 k.val).2.2))) := by
  rw [pb_k0_t1_succ]
  dsimp only
  rw [View.writes_append]
  exact trip9 _ _ _

end trips

/-- The loop over no block stores nothing. -/
theorem pb2_zero {𝒱 : Variants} {c : Dev nD} {bd : Option 𝒱.V} {i : grid0.Coords} {arg3 : Memref sig .tc .vmem S1x256x256 .bf16} {harg3 : arg3.IsWhole} {arg4 : Memref sig .tc .vmem S1x4096x256 .bf16} {harg4 : arg4.IsWhole} {arg5 : Memref sig .tc .vmem S1x4096x128 .bf16} {harg5 : arg5.IsWhole}
  {arg6 : Memref sig .tc .vmem S1x256x128 .f32} {harg6 : arg6.IsWhole} {arg7 : Memref sig .tc .vmem S256x1 .f32} {harg7 : arg7.IsWhole} {arg8 : Memref sig .tc .vmem S256x1 .f32} {harg8 : arg8.IsWhole} {arg9 : Memref sig .tc .vmem S256x128 .f32} {harg9 : arg9.IsWhole}
  {v1 : FVec Ideal S256x256 .bf16} {v40}
    {x1} {x2} {f7} {f8} {f9} (n : ℕ) (h : n = 0) :
    pb_k0_t2 (F := Ideal) 𝒱 c bd i arg3 harg3 arg4 harg4 arg5 harg5 arg6 harg6 arg7 harg7 arg8 harg8 arg9 harg9 v1 v40 x1 x2 f7 f8 f9 n = ([], [], []) := by
  subst h; rfl

variable (m : (ℓ : Loc nD τ sig) → Buf (Elt Ideal) ℓ)

/-- The keys of the point's own block. -/
abbrev keys0 (c : Dev nD) (t : Fin cfg0.N) : Vec Ideal S1x256x256 .bf16 :=
  View.ld (e' := .bf16) (iblk m c 1 t) (Rect.unit (s := S1x4096x256) (k0_off1 (grid0.coords t)) S1x256x256.size (k0_off1_inb (grid0.coords t)))

/-- The values of the point's own block. -/
abbrev vals0 (c : Dev nD) (t : Fin cfg0.N) : Vec Ideal S1x256x128 .bf16 :=
  View.ld (e' := .bf16) (iblk m c 2 t) (Rect.unit (s := S1x4096x128) (k0_off2 (grid0.coords t)) S1x256x128.size (k0_off2_inb (grid0.coords t)))

/-- The scratch of running maxima after the point's own block. -/
def g7 (c : Dev nD) (t : Fin cfg0.N) : BufTy.Contents (Elt Ideal) (View.whole cc0_scratch0).ty :=
  (View.whole cc0_scratch0).writes (Elt Ideal) (View.whole cc0_scratch0).junk
    [⟨Rect.unit (s := S256x1) ![0, 0] S256x1.size inb_S256x1_S256x1_0_0, k0_pay23 (iblk m c 0 t) (keys0 m c t)⟩]

/-- The scratch of running sums after the point's own block. -/
def g8 (c : Dev nD) (t : Fin cfg0.N) : BufTy.Contents (Elt Ideal) (View.whole cc0_scratch1).ty :=
  (View.whole cc0_scratch1).writes (Elt Ideal) (View.whole cc0_scratch1).junk
    [⟨Rect.unit (s := S256x1) ![0, 0] S256x1.size inb_S256x1_S256x1_0_0, k0_pay24 (iblk m c 0 t) (keys0 m c t)⟩]

/-- The scratch of running numerators after the point's own block. -/
def g9 (c : Dev nD) (t : Fin cfg0.N) : BufTy.Contents (Elt Ideal) (View.whole cc0_scratch2).ty :=
  (View.whole cc0_scratch2).writes (Elt Ideal) (View.whole cc0_scratch2).junk
    [⟨Rect.unit (s := S256x128) ![0, 0] S256x128.size inb_S256x128_S256x128_0_0, k0_pay1 (k0_pay25 (iblk m c 0 t) (keys0 m c t) (vals0 m c t))⟩]

/-- The stores of the first `n` trips at point `t`. -/
abbrev pcs (c : Dev nD) (t : Fin cfg0.N) (n : ℕ) : List (View.Piece (Elt Ideal) S256x1 .f32) × List (View.Piece (Elt Ideal) S256x1 .f32) × List (View.Piece (Elt Ideal) S256x128 .f32) :=
  pb_k0_t1 (F := Ideal) Variants.none c none (grid0.coords t) (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _)
    (k0_pay19 (iblk m c 0 t)) ((hs0_1 t).unread (iblk m c 1 t)) ((hs0_2 t).unread (iblk m c 2 t)) (g7 m c t) (g8 m c t) (g9 m c t) n

/-- The running maxima before trip `n`. -/
def mx (c : Dev nD) (t : Fin cfg0.N) (n : ℕ) : Vec Ideal S256x1 .f32 :=
  (View.whole cc0_scratch0).read (Elt Ideal) ((View.whole cc0_scratch0).writes (Elt Ideal) (g7 m c t) (pcs m c t n).1)

/-- The running sums before trip `n`. -/
def sm (c : Dev nD) (t : Fin cfg0.N) (n : ℕ) : Vec Ideal S256x1 .f32 :=
  (View.whole cc0_scratch1).read (Elt Ideal) ((View.whole cc0_scratch1).writes (Elt Ideal) (g8 m c t) (pcs m c t n).2.1)

/-- The running numerators before trip `n`. -/
def nm (c : Dev nD) (t : Fin cfg0.N) (n : ℕ) : Vec Ideal S256x128 .f32 :=
  (View.whole cc0_scratch2).read (Elt Ideal) ((View.whole cc0_scratch2).writes (Elt Ideal) (g9 m c t) (pcs m c t n).2.2)

theorem mx_zero (c : Dev nD) (t : Fin cfg0.N) : mx m c t 0 = k0_pay23 (iblk m c 0 t) (keys0 m c t) :=
  View.read_writes_full _ _ _ _ _

theorem sm_zero (c : Dev nD) (t : Fin cfg0.N) : sm m c t 0 = k0_pay24 (iblk m c 0 t) (keys0 m c t) :=
  View.read_writes_full _ _ _ _ _

theorem nm_zero (c : Dev nD) (t : Fin cfg0.N) : nm m c t 0 = k0_pay1 (k0_pay25 (iblk m c 0 t) (keys0 m c t) (vals0 m c t)) :=
  View.read_writes_full _ _ _ _ _

theorem mx_succ (c : Dev nD) (t : Fin cfg0.N) (k : Fin (k0_t1_loop (grid0.coords t)).trips) :
    mx m c t (k.val + 1) = k0_pay9 (k0_pay19 (iblk m c 0 t)) (keys (grid0.coords t) (iblk m c 1 t) k) (mx m c t k.val) :=
  succ7 (𝒱 := Variants.none) (c := c) (bd := none) (i := grid0.coords t) (harg3 := hs0_0 t) (harg4 := hs0_1 t) (harg5 := hs0_2 t)
    (harg6 := hs0_3 t) (arg7 := scM0_0) (harg7 := Memref.isWhole_whole _) (arg8 := scM0_1) (harg8 := Memref.isWhole_whole _)
    (arg9 := scM0_2) (harg9 := Memref.isWhole_whole _) (v1 := k0_pay19 (iblk m c 0 t)) (x1 := iblk m c 1 t) (x2 := iblk m c 2 t) (k := k)
    (g7 := g7 m c t) (g8 := g8 m c t) (g9 := g9 m c t)

theorem sm_succ (c : Dev nD) (t : Fin cfg0.N) (k : Fin (k0_t1_loop (grid0.coords t)).trips) :
    sm m c t (k.val + 1) = k0_pay10 (k0_pay19 (iblk m c 0 t)) (keys (grid0.coords t) (iblk m c 1 t) k) (mx m c t k.val) (sm m c t k.val) :=
  succ8 (𝒱 := Variants.none) (c := c) (bd := none) (i := grid0.coords t) (harg3 := hs0_0 t) (harg4 := hs0_1 t) (harg5 := hs0_2 t)
    (harg6 := hs0_3 t) (arg7 := scM0_0) (harg7 := Memref.isWhole_whole _) (arg8 := scM0_1) (harg8 := Memref.isWhole_whole _)
    (arg9 := scM0_2) (harg9 := Memref.isWhole_whole _) (v1 := k0_pay19 (iblk m c 0 t)) (x1 := iblk m c 1 t) (x2 := iblk m c 2 t) (k := k)
    (g7 := g7 m c t) (g8 := g8 m c t) (g9 := g9 m c t)

theorem nm_succ (c : Dev nD) (t : Fin cfg0.N) (k : Fin (k0_t1_loop (grid0.coords t)).trips) :
    nm m c t (k.val + 1) = k0_pay2 (k0_pay11 (k0_pay19 (iblk m c 0 t)) (keys (grid0.coords t) (iblk m c 1 t) k)
      (vals (grid0.coords t) (iblk m c 2 t) k) (mx m c t k.val) (nm m c t k.val)) :=
  succ9 (𝒱 := Variants.none) (c := c) (bd := none) (i := grid0.coords t) (harg3 := hs0_0 t) (harg4 := hs0_1 t) (harg5 := hs0_2 t)
    (harg6 := hs0_3 t) (arg7 := scM0_0) (harg7 := Memref.isWhole_whole _) (arg8 := scM0_1) (harg8 := Memref.isWhole_whole _)
    (arg9 := scM0_2) (harg9 := Memref.isWhole_whole _) (v1 := k0_pay19 (iblk m c 0 t)) (x1 := iblk m c 1 t) (x2 := iblk m c 2 t) (k := k)
    (g7 := g7 m c t) (g8 := g8 m c t) (g9 := g9 m c t)

/-- The block that the point stores. -/
theorem out_open (c : Dev nD) (t : Fin cfg0.N) :
    outsAt0 m c t = k0_pay4 (nm m c t (k0_t1_loop (grid0.coords t)).trips) (sm m c t (k0_t1_loop (grid0.coords t)).trips) := by
  unfold outsAt0
  frame_out
  rw [pb2_zero _ (Nat.le_zero.1 (k0_t2_abs (grid0.coords t)).2.1)]
  unfold View.readCov
  refine congrArg₂ k0_pay4 ?_ ?_
  · refine (rd_wide (Memref.whole cc0_scratch2) _).trans ?_
    rw [List.nil_append, View.writes_append]
    rfl
  · refine (rd_col (Memref.whole cc0_scratch1) _).trans ?_
    rw [List.nil_append, View.writes_append]
    rfl

end Cert.KernelIdeal.Mla

end
-- ==== Proof.Softmax.lean ====
/- Weights of a softmax row over the extended reals: sums of exponentials against one reference, moved to another reference, and the quotient, which does
   not depend on the reference. -/
module

public import Idealize.ShloMosaic.Lib.Pointwise

@[expose] public section

noncomputable section

namespace Cert.Softmax

open Idealize.ShloMosaic

/-- The weight of a score `s` against the reference `M`. -/
def w (s M : EReal) : EReal := Ideal.exp (s - M)

theorem w_bot (M : ℝ) : w ⊥ (M : EReal) = 0 := by
  unfold w
  rw [EReal.bot_sub]
  rfl

theorem w_coe (x M : ℝ) : w (x : EReal) (M : EReal) = ((Real.exp (x - M) : ℝ) : EReal) := by
  unfold w
  rw [← EReal.coe_sub]
  rfl

theorem real_of_ne {s : EReal} (h : s ≠ ⊤) (hb : s ≠ ⊥) : ∃ x : ℝ, s = x := ⟨s.toReal, (EReal.coe_toReal h hb).symm⟩

/-- A weight is a nonnegative real. -/
theorem w_fin {s : EReal} (h : s ≠ ⊤) (M : ℝ) : 0 ≤ w s M ∧ w s M ≠ ⊤ := by
  by_cases hb : s = ⊥
  · subst hb
    rw [w_bot]
    exact ⟨le_rfl, EReal.zero_ne_top⟩
  · obtain ⟨x, rfl⟩ := real_of_ne h hb
    rw [w_coe]
    exact ⟨by exact_mod_cast (Real.exp_pos _).le, EReal.coe_ne_top _⟩

/-- The weight against another reference. -/
theorem w_shift {s : EReal} (h : s ≠ ⊤) (M M' : ℝ) : w M M' * w s M = w s M' := by
  by_cases hb : s = ⊥
  · subst hb
    rw [w_bot, w_bot, mul_zero]
  · obtain ⟨x, rfl⟩ := real_of_ne h hb
    rw [w_coe, w_coe, w_coe, ← EReal.coe_mul, ← Real.exp_add]
    congr 2
    ring

/-- A nonnegative real factor goes into a sum. -/
theorem mul_sum {ι : Type} {a : EReal} (h0 : 0 ≤ a) (ht : a ≠ ⊤) (T : Finset ι) (f : ι → EReal) :
    a * ∑ k ∈ T, f k = ∑ k ∈ T, a * f k := by
  classical
  induction T using Finset.induction_on with
  | empty => simp
  | insert k T hk ih =>
    rw [Finset.sum_insert hk, Finset.sum_insert hk, EReal.left_distrib_of_nonneg_of_ne_top h0 ht, ih]

/-- The sum of the weights over the blocks `B`. -/
def den (s : ℕ → Fin 256 → EReal) (B : Finset ℕ) (M : EReal) : EReal := ∑ b ∈ B, ∑ c, w (s b c) M

/-- The weighted sum over the blocks `B`. -/
def num (s v : ℕ → Fin 256 → EReal) (B : Finset ℕ) (M : EReal) : EReal := ∑ b ∈ B, ∑ c, w (s b c) M * v b c

variable {s v : ℕ → Fin 256 → EReal} {B : Finset ℕ}

theorem den_shift (h : ∀ b ∈ B, ∀ c, s b c ≠ ⊤) (M M' : ℝ) : w M M' * den s B M = den s B M' := by
  obtain ⟨h0, ht⟩ := w_fin (EReal.coe_ne_top M) M'
  unfold den
  rw [mul_sum h0 ht]
  refine Finset.sum_congr rfl fun b hb => ?_
  rw [mul_sum h0 ht]
  exact Finset.sum_congr rfl fun c _ => w_shift (h b hb c) M M'

theorem num_shift (h : ∀ b ∈ B, ∀ c, s b c ≠ ⊤) (M M' : ℝ) : w M M' * num s v B M = num s v B M' := by
  obtain ⟨h0, ht⟩ := w_fin (EReal.coe_ne_top M) M'
  unfold num
  rw [mul_sum h0 ht]
  refine Finset.sum_congr rfl fun b hb => ?_
  rw [mul_sum h0 ht]
  exact Finset.sum_congr rfl fun c _ => by rw [← mul_assoc, w_shift (h b hb c) M M']

/-- The sum of the weights is a positive real when one score is real. -/
theorem den_real (h : ∀ b ∈ B, ∀ c, s b c ≠ ⊤) {b₀ : ℕ} (hb₀ : b₀ ∈ B) {c₀ : Fin 256} (hr : s b₀ c₀ ≠ ⊥) (M : ℝ) :
    ∃ x : ℝ, 0 < x ∧ den s B M = x := by
  have hin : ∀ b ∈ B, 0 ≤ ∑ c, w (s b c) M ∧ ∑ c, w (s b c) M ≠ ⊤ := fun b hb =>
    Finset.sum_induction _ (fun x : EReal => 0 ≤ x ∧ x ≠ ⊤) (fun x y hx hy => ⟨add_nonneg hx.1 hy.1, (EReal.add_lt_top hx.2 hy.2).ne⟩)
      ⟨le_rfl, EReal.zero_ne_top⟩ fun c _ => w_fin (h b hb c) M
  have hout : 0 ≤ den s B M ∧ den s B M ≠ ⊤ :=
    Finset.sum_induction _ (fun x : EReal => 0 ≤ x ∧ x ≠ ⊤) (fun x y hx hy => ⟨add_nonneg hx.1 hy.1, (EReal.add_lt_top hx.2 hy.2).ne⟩)
      ⟨le_rfl, EReal.zero_ne_top⟩ hin
  have hpos : 0 < den s B M := by
    obtain ⟨x, hx⟩ := real_of_ne (h b₀ hb₀ c₀) hr
    have h1 : 0 < w (s b₀ c₀) M := by
      rw [hx, w_coe]
      exact_mod_cast Real.exp_pos _
    refine lt_of_lt_of_le h1 ((Finset.single_le_sum (f := fun c => w (s b₀ c) M) (fun c _ => (w_fin (h b₀ hb₀ c) M).1) (Finset.mem_univ c₀)).trans ?_)
    exact Finset.single_le_sum (f := fun b => ∑ c, w (s b c) M) (fun b hb => (hin b hb).1) hb₀
  obtain ⟨x, hx⟩ := real_of_ne hout.2 (fun e => absurd (e ▸ hout.1) (by simp))
  refine ⟨x, ?_, hx⟩
  rw [hx] at hpos
  exact_mod_cast hpos

/-- The quotient does not depend on the reference. -/
theorem quot_shift (h : ∀ b ∈ B, ∀ c, s b c ≠ ⊤) {b₀ : ℕ} (hb₀ : b₀ ∈ B) {c₀ : Fin 256} (hr : s b₀ c₀ ≠ ⊥) (M M' : ℝ) :
    Ideal.div (num s v B M) (den s B M) = num s v B M' * (den s B M')⁻¹ := by
  obtain ⟨x, hx, ex⟩ := den_real h hb₀ hr M
  have hne : (x : EReal) ≠ 0 := by exact_mod_cast hx.ne'
  rw [← num_shift h M M', ← den_shift h M M', ex, w_coe]
  unfold Ideal.div
  rw [if_neg hne, mul_comm ((Real.exp (M - M') : ℝ) : EReal) (num s v B M), mul_assoc]
  congr 1
  rw [← EReal.coe_mul, ← EReal.coe_inv, ← EReal.coe_inv, ← EReal.coe_mul]
  congr 1
  have := (Real.exp_pos (M - M')).ne'
  field_simp

/-- The state of one row after the blocks `B`: a real reference, the sum of the weights against it, the weighted sum against it. -/
def Inv (s v : ℕ → Fin 256 → EReal) (B : Finset ℕ) (m l a : EReal) : Prop :=
  ∃ M : ℝ, m = M ∧ l = den s B M ∧ a = num s v B M

/-- A maximum over a block with no infinite score and a real one is real. -/
theorem fold_real {n : ℕ} {f : Fin n → EReal} (h : ∀ c, f c ≠ ⊤) {c₀ : Fin n} (hr : f c₀ ≠ ⊥) :
    ∃ M : ℝ, Finset.univ.fold max ⊥ f = M := by
  refine real_of_ne (ne_of_lt ?_) (ne_of_gt ?_)
  · rw [Finset.fold_max_lt]
    exact ⟨bot_lt_top, fun c _ => lt_top_iff_ne_top.2 (h c)⟩
  · rw [Finset.lt_fold_max]
    exact Or.inr ⟨c₀, Finset.mem_univ _, bot_lt_iff_ne_bot.2 hr⟩

/-- The first block. -/
theorem first {i : ℕ} (h : ∀ c, s i c ≠ ⊤) {c₀ : Fin 256} (hr : s i c₀ ≠ ⊥) {m l a : EReal}
    (hm : m = Finset.univ.fold max ⊥ (s i)) (hl : l = ∑ c, w (s i c) m) (ha : a = ∑ c, w (s i c) m * v i c) :
    Inv s v {i} m l a := by
  obtain ⟨M, hM⟩ := fold_real h hr
  rw [hM] at hm
  subst hm
  exact ⟨M, rfl, by rw [hl, den, Finset.sum_singleton], by rw [ha, num, Finset.sum_singleton]⟩

/-- One more block. -/
theorem step {b : ℕ} (hb : b ∉ B) (hB : ∀ b ∈ B, ∀ c, s b c ≠ ⊤) (h : ∀ c, s b c ≠ ⊤) {m l a m' l' a' : EReal} (hI : Inv s v B m l a)
    (hm : m' = max m (Finset.univ.fold max ⊥ (s b))) (hl : l' = w m m' * l + ∑ c, w (s b c) m')
    (ha : a' = w m m' * a + ∑ c, w (s b c) m' * v b c) : Inv s v (insert b B) m' l' a' := by
  obtain ⟨M, rfl, rfl, rfl⟩ := hI
  obtain ⟨M', hM'⟩ : ∃ M' : ℝ, m' = M' := by
    rw [hm]
    refine real_of_ne (ne_of_lt (max_lt (EReal.coe_lt_top M) ?_)) (ne_of_gt (lt_max_of_lt_left (EReal.bot_lt_coe M)))
    rw [Finset.fold_max_lt]
    exact ⟨bot_lt_top, fun c _ => lt_top_iff_ne_top.2 (h c)⟩
  clear hm
  subst hM'
  refine ⟨M', rfl, ?_, ?_⟩
  · rw [hl, den_shift hB, den, den, Finset.sum_insert hb, add_comm]
  · rw [ha, num_shift hB, num, num, Finset.sum_insert hb, add_comm]

/-- The row's value: every score of the row against any real reference, normalised, then weighted. -/
theorem close {S V : Fin 4096 → EReal} {i : ℕ} (hi : i < 16) (hS : ∀ k, S k ≠ ⊤)
    (hs : ∀ (k : Fin 4096), S k = if k.val / 256 ≤ i then s (k.val / 256) ⟨k.val % 256, Nat.mod_lt _ (by norm_num)⟩ else ⊥)
    (hv : ∀ (k : Fin 4096), V k = v (k.val / 256) ⟨k.val % 256, Nat.mod_lt _ (by norm_num)⟩)
    (h : ∀ b ∈ Finset.range (i + 1), ∀ c, s b c ≠ ⊤) {c₀ : Fin 256} (hr : s i c₀ ≠ ⊥) {m l a : EReal}
    (hI : Inv s v (Finset.range (i + 1)) m l a) (M' : ℝ) :
    Ideal.div a l = ∑ k, Ideal.div (w (S k) M') (∑ k, w (S k) M') * V k := by
  obtain ⟨M, rfl, rfl, rfl⟩ := hI
  have tile : ∀ f : ℕ → Fin 256 → EReal,
      (∑ k : Fin 4096, if k.val / 256 ≤ i then f (k.val / 256) ⟨k.val % 256, Nat.mod_lt _ (by norm_num)⟩ else 0)
        = ∑ b ∈ Finset.range (i + 1), ∑ c, f b c := by
    intro f
    have e : (∑ k : Fin 4096, if k.val / 256 ≤ i then f (k.val / 256) ⟨k.val % 256, Nat.mod_lt _ (by norm_num)⟩ else 0)
        = ∑ b : Fin 16, ∑ c : Fin 256, if b.val ≤ i then f b.val c else 0 := by
      rw [← Finset.sum_product']
      refine Finset.sum_nbij' (fun k : Fin 4096 => ((⟨k.val / 256, by omega⟩ : Fin 16), (⟨k.val % 256, Nat.mod_lt _ (by norm_num)⟩ : Fin 256)))
        (fun p => (⟨256 * p.1.val + p.2.val, by omega⟩ : Fin 4096)) (by simp) (by simp) ?_ ?_ ?_
      · intro k _
        ext
        exact Nat.div_add_mod k.val 256
      · rintro ⟨b, c⟩ _
        ext
        · show (256 * b.val + c.val) / 256 = b.val
          omega
        · show (256 * b.val + c.val) % 256 = c.val
          omega
      · intro k _
        rfl
    rw [e, Fin.sum_univ_eq_sum_range (fun b => ∑ c : Fin 256, if b ≤ i then f b c else 0) 16]
    symm
    refine Finset.sum_subset_zero_on_sdiff (fun b hb => ?_) (fun b hb => ?_) (fun b hb => ?_)
    · simp only [Finset.mem_range] at hb ⊢
      omega
    · simp only [Finset.mem_sdiff, Finset.mem_range] at hb
      exact Finset.sum_eq_zero fun c _ => if_neg (by omega)
    · simp only [Finset.mem_range] at hb
      exact Finset.sum_congr rfl fun c _ => (if_pos (by omega)).symm
  have hw : ∀ k : Fin 4096, w (S k) M' = if k.val / 256 ≤ i then w (s (k.val / 256) ⟨k.val % 256, Nat.mod_lt _ (by norm_num)⟩) M' else 0 := by
    intro k
    rw [hs k]
    split
    · rfl
    · exact w_bot M'
  have hden : ∑ k, w (S k) M' = den s (Finset.range (i + 1)) M' := by
    rw [den, ← tile]
    exact Finset.sum_congr rfl fun k _ => hw k
  have hnum : ∑ k, w (S k) M' * V k = num s v (Finset.range (i + 1)) M' := by
    rw [num, ← tile]
    refine Finset.sum_congr rfl fun k _ => ?_
    rw [hw k, hv k]
    split
    · rfl
    · rw [zero_mul]
  have hi' : i ∈ Finset.range (i + 1) := by simp
  rw [quot_shift h hi' hr M M', hden, ← hnum]
  obtain ⟨x, hx, ex⟩ := den_real h hi' hr M'
  have hne : (x : EReal) ≠ 0 := by exact_mod_cast hx.ne'
  rw [ex, ← EReal.coe_inv, mul_comm]
  have h0 : (0 : EReal) ≤ ((x⁻¹ : ℝ) : EReal) := by exact_mod_cast (inv_pos.2 hx).le
  rw [mul_sum h0 (EReal.coe_ne_top _)]
  refine Finset.sum_congr rfl fun k _ => ?_
  unfold Ideal.div
  rw [if_neg hne, ← EReal.coe_inv, ← mul_assoc, mul_comm ((x⁻¹ : ℝ) : EReal)]

end Cert.Softmax

end
-- ==== Proof.MlaSpec.lean ====
/- The attention's scores and row values over the extended reals, in the words in which both programs are read. -/
module

public import proofs.«01_k».proof.Proof.Softmax
public import Idealize.ShloMosaic.Lib.WordCmp

@[expose] public section

noncomputable section

namespace Cert.MlaSpec

open Idealize.ShloMosaic

/-- A score: the product of a query and a key, scaled. -/
def dots (q k : Fin 256 → EReal) : EReal := (∑ d, q d * k d) * Ideal.ofBits .f32 0x3D93CD3A#32

/-- The scores of the query at position `R`: −∞ past it. -/
def score (q : Fin 256 → EReal) (k : Fin 4096 → Fin 256 → EReal) (R : Fin 4096) (K : Fin 4096) : EReal :=
  if K.val ≤ R.val then dots q (k K) else ⊥

/-- The greatest score of a row. -/
def top (S : Fin 4096 → EReal) : EReal := Finset.univ.fold max ⊥ S

/-- The row's value in one column of the values. -/
def value (S V : Fin 4096 → EReal) : EReal :=
  ∑ K, Ideal.div (Softmax.w (S K) (top S)) (∑ K, Softmax.w (S K) (top S)) * V K

/-- Column `d` of head `h` of the queries and keys. -/
def col (h : Fin 8) (d : Fin 256) : Fin 2048 := ⟨h.val * 256 + d.val, by omega⟩

/-- Column `d` of head `h` of the values and the result. -/
def vcol (h : Fin 8) (d : Fin 128) : Fin 1024 := ⟨h.val * 128 + d.val, by omega⟩

theorem neg_inf : (Ideal.ofBits .f32 0xFF800000#32 : EReal) = ⊥ := by
  simp [Ideal.ofBits, Ideal.ieee]

theorem scale_real : ∃ x : ℝ, (Ideal.ofBits .f32 0x3D93CD3A#32 : EReal) = x := by
  simp [Ideal.ofBits, Ideal.ieee]
  exact ⟨_, (EReal.coe_mul _ _).symm⟩

/-- Scores of real queries and keys are real. -/
theorem dots_real {q k : Fin 256 → EReal} (hq : ∀ d, ∃ x : ℝ, q d = x) (hk : ∀ d, ∃ x : ℝ, k d = x) : ∃ x : ℝ, dots q k = x := by
  choose a ha using hq
  choose b hb using hk
  obtain ⟨s, hs⟩ := scale_real
  have e : ∀ T : Finset (Fin 256), ∑ d ∈ T, q d * k d = ((∑ d ∈ T, a d * b d : ℝ) : EReal) := by
    intro T
    induction T using Finset.induction_on with
    | empty => simp
    | insert d T hd ih => rw [Finset.sum_insert hd, Finset.sum_insert hd, ih, ha, hb, EReal.coe_add, EReal.coe_mul]
  exact ⟨(∑ d, a d * b d) * s, by rw [dots, e, hs, EReal.coe_mul]⟩

/-- The causal choice: the score where the key is not past the query, −∞ elsewhere. -/
theorem causal {a b : ℕ} (ha : a < 4096) (hb : b < 4096) (x y : EReal) (hy : y = ⊥) :
    Scalar.select (IntOp.cmpi .sle (BitVec.ofNat 32 a) (BitVec.ofNat 32 b)) x y = if a ≤ b then x else (⊥ : EReal) := by
  rw [WordCmp.cmpi_sle_ofNat (by norm_num; omega) (by norm_num; omega), hy]
  by_cases h : a ≤ b
  · rw [if_pos h, decide_eq_true h]
    rfl
  · rw [if_neg h, decide_eq_false h]
    rfl

end Cert.MlaSpec

end
-- ==== Proof.MlaPay.lean ====
/- What the attention kernel's stored vectors are, element by element. -/
module

public import proofs.«01_k».proof.Proof.Gen.KernelIdeal.Skeleton
public import proofs.«01_k».proof.Proof.MlaSpec

@[expose] public section

set_option maxRecDepth 16384

noncomputable section

namespace Cert.KernelIdeal.Mla

open Cert.KernelIdeal Cert.KernelIdeal.Gen Idealize.ShloMosaic Cert.MlaSpec

/-- A score of an earlier block. -/
theorem pay5_at (q : Vec Ideal S256x256 .bf16) (k : Vec Ideal S1x256x256 .bf16) (r c : Fin 256) :
    k0_pay5 (F := Ideal) q k (ix2 r c) = dots (fun d => q (ix2 r d)) (fun d => k (ix3 0 c d)) := by
  pointwise [k0_pay5, dots]

theorem pay6_at (q : Vec Ideal S256x256 .bf16) (k : Vec Ideal S1x256x256 .bf16) (m : Vec Ideal S256x1 .f32) (r : Fin 256) (z : Fin 1) :
    k0_pay6 (F := Ideal) q k m (ix2 r z) = max (m (ix2 r z)) (Finset.univ.fold max ⊥ fun c => k0_pay5 (F := Ideal) q k (ix2 r c)) := by
  pointwise [k0_pay6, neg_inf]

theorem pay9_at (q : Vec Ideal S256x256 .bf16) (k : Vec Ideal S1x256x256 .bf16) (m : Vec Ideal S256x1 .f32) (r : Fin 256) (z : Fin 1) :
    k0_pay9 (F := Ideal) q k m (ix2 r z) = k0_pay6 (F := Ideal) q k m (ix2 r z) := by
  pointwise [k0_pay9]

theorem pay10_at (q : Vec Ideal S256x256 .bf16) (k : Vec Ideal S1x256x256 .bf16) (m l : Vec Ideal S256x1 .f32) (r : Fin 256) :
    k0_pay10 (F := Ideal) q k m l (ix2 r 0)
      = Softmax.w (m (ix2 r 0)) (k0_pay6 (F := Ideal) q k m (ix2 r 0)) * l (ix2 r 0)
        + ∑ c, Softmax.w (k0_pay5 (F := Ideal) q k (ix2 r c)) (k0_pay6 (F := Ideal) q k m (ix2 r 0)) := by
  pointwise [k0_pay10, k0_pay7, k0_pay8, Softmax.w]

theorem pay11_at (q : Vec Ideal S256x256 .bf16) (k : Vec Ideal S1x256x256 .bf16) (v : Vec Ideal S1x256x128 .bf16) (m : Vec Ideal S256x1 .f32)
    (a : Vec Ideal S256x128 .f32) (r : Fin 256) (d : Fin 128) :
    k0_pay11 (F := Ideal) q k v m a (ix2 r d)
      = Softmax.w (m (ix2 r 0)) (k0_pay6 (F := Ideal) q k m (ix2 r 0)) * a (ix2 r d)
        + ∑ c, Softmax.w (k0_pay5 (F := Ideal) q k (ix2 r c)) (k0_pay6 (F := Ideal) q k m (ix2 r 0)) * v (ix3 0 c d) := by
  pointwise [k0_pay11, k0_pay7, k0_pay8, Softmax.w]

theorem pay2_at (x : Vec Ideal S256x128 .f32) (r : Fin 256) (d : Fin 128) : k0_pay2 (F := Ideal) x (ix2 r d) = x (ix2 r d) := by
  pointwise [k0_pay2]

theorem pay1_at (x : Vec Ideal S256x128 .f32) (r : Fin 256) (d : Fin 128) : k0_pay1 (F := Ideal) x (ix2 r d) = x (ix2 r d) := by
  pointwise [k0_pay1]

theorem pay19_at (q : Vec Ideal S1x256x256 .bf16) (r c : Fin 256) : k0_pay19 (F := Ideal) q (ix2 r c) = q (ix3 0 r c) := by
  pointwise [k0_pay19]

/-- A score of the point's own block. -/
theorem pay20_at (q k : Vec Ideal S1x256x256 .bf16) (r c : Fin 256) :
    k0_pay20 (F := Ideal) q k (ix2 r c) = if c.val ≤ r.val then dots (fun d => q (ix3 0 r d)) (fun d => k (ix3 0 c d)) else ⊥ := by
  pointwise [k0_pay20, k0_pay19, dots]
  exact causal (by omega) (by omega) _ _ (IdealRules.named_const.ideal_named_scalar _ _ _ _ rfl)

theorem pay21_at (q k : Vec Ideal S1x256x256 .bf16) (r : Fin 256) (z : Fin 1) :
    k0_pay21 (F := Ideal) q k (ix2 r z) = Finset.univ.fold max ⊥ fun c => k0_pay20 (F := Ideal) q k (ix2 r c) := by
  pointwise [k0_pay21, neg_inf]

theorem pay23_at (q k : Vec Ideal S1x256x256 .bf16) (r : Fin 256) (z : Fin 1) :
    k0_pay23 (F := Ideal) q k (ix2 r z) = k0_pay21 (F := Ideal) q k (ix2 r z) := by
  pointwise [k0_pay23]

theorem pay24_at (q k : Vec Ideal S1x256x256 .bf16) (r : Fin 256) :
    k0_pay24 (F := Ideal) q k (ix2 r 0) = ∑ c, Softmax.w (k0_pay20 (F := Ideal) q k (ix2 r c)) (k0_pay21 (F := Ideal) q k (ix2 r 0)) := by
  pointwise [k0_pay24, k0_pay22, Softmax.w]

theorem pay25_at (q k : Vec Ideal S1x256x256 .bf16) (v : Vec Ideal S1x256x128 .bf16) (r : Fin 256) (d : Fin 128) :
    k0_pay25 (F := Ideal) q k v (ix2 r d)
      = ∑ c, Softmax.w (k0_pay20 (F := Ideal) q k (ix2 r c)) (k0_pay21 (F := Ideal) q k (ix2 r 0)) * v (ix3 0 c d) := by
  pointwise [k0_pay25, k0_pay22, Softmax.w]

theorem pay4_at (a : Vec Ideal S256x128 .f32) (l : Vec Ideal S256x1 .f32) (r : Fin 256) (d : Fin 128) :
    k0_pay4 (F := Ideal) a l (ix3 0 r d) = Ideal.div (a (ix2 r d)) (l (ix2 r 0)) := by
  pointwise [k0_pay4]

end Cert.KernelIdeal.Mla

end
-- ==== Proof.MlaValue.lean ====
/- The attention kernel's array after the run: the blocks each point reads, the row's state after every block of keys, and the stored quotient. -/
module

public import proofs.«01_k».proof.Proof.MlaOpen
public import proofs.«01_k».proof.Proof.MlaPay

@[expose] public section

set_option maxRecDepth 16384

noncomputable section

namespace Cert.KernelIdeal.Mla

open Cert.KernelIdeal Cert.KernelIdeal.Gen Cert.KernelIdeal.Value Idealize.ShloMosaic Idealize.ShloMosaic.TcCoe Cert.MlaSpec

variable (m : (ℓ : Loc nD τ sig) → Buf (Elt Ideal) ℓ) (c : Dev nD)

/-- The printed index maps, at every point. -/
theorem idx : ∀ t : Fin cfg0.N, win0_0.index t = ![t.val / 128, t.val % 16, t.val / 16 % 8] ∧ win0_1.index t = ![t.val / 128, 0, t.val / 16 % 8]
    ∧ win0_2.index t = ![t.val / 128, 0, t.val / 16 % 8] ∧ win0_3.index t = ![t.val / 128, t.val % 16, t.val / 16 % 8] :=
  (by decide +kernel : ∀ t : Fin grid0.N, _)

/-- The point's own block of queries is also the number of blocks before it. -/
theorem trips_eq : ∀ t : Fin cfg0.N, (k0_t1_loop (grid0.coords t)).trips = t.val % 16 :=
  (by decide +kernel : ∀ t : Fin grid0.N, _)

theorem own_eq : ∀ t : Fin cfg0.N, ((grid0.coords t) 2).val = t.val % 16 :=
  (by decide +kernel : ∀ t : Fin grid0.N, _)

/-- The queries. -/
abbrev Q : FVec Ideal S2x4096x2048 .bf16 := m ((c : Thread nD τ).loc main_arg0)
/-- The keys. -/
abbrev K : FVec Ideal S2x4096x2048 .bf16 := m ((c : Thread nD τ).loc main_arg1)
/-- The values. -/
abbrev U : FVec Ideal S2x4096x1024 .bf16 := m ((c : Thread nD τ).loc main_arg2)

/-- The batch entry point `t` works on. -/
def bat (t : Fin cfg0.N) : Fin 2 :=
  ⟨t.val / 128, by have := lt_of_lt_of_eq t.isLt (show cfg0.N = 256 from N_0); omega⟩

/-- The head point `t` works on. -/
def head (t : Fin cfg0.N) : Fin 8 := ⟨t.val / 16 % 8, by omega⟩

/-- Row `r` of point `t`'s block of queries. -/
def pos (t : Fin cfg0.N) (r : Fin 256) : Fin 4096 := ⟨t.val % 16 * 256 + r.val, by omega⟩

/-- Key `j` of the block numbered `b`. -/
def key (b : ℕ) (j : Fin 256) : Fin 4096 := ⟨(256 * b + j.val) % 4096, Nat.mod_lt _ (by norm_num)⟩

theorem q_at (t : Fin cfg0.N) (r d : Fin 256) :
    (show FVec Ideal S1x256x256 .bf16 from iblk m c 0 t) (ix3 0 r d) = Q m c (ix3 (bat t) (pos t r) (col (head t) d)) := by
  blk_point [iblk, V, idx t, bat, pos, col, head]

theorem k_at (t : Fin cfg0.N) (R : Fin 4096) (d : Fin 256) :
    (show FVec Ideal S1x4096x256 .bf16 from iblk m c 1 t) (ix3 0 R d) = K m c (ix3 (bat t) R (col (head t) d)) := by
  blk_point [iblk, V, idx t, bat, col, head]

theorem v_at (t : Fin cfg0.N) (R : Fin 4096) (d : Fin 128) :
    (show FVec Ideal S1x4096x128 .bf16 from iblk m c 2 t) (ix3 0 R d) = U m c (ix3 (bat t) R (vcol (head t) d)) := by
  blk_point [iblk, V, idx t, bat, vcol, head]

theorem keys_at (i : grid0.Coords) (x : Vec Ideal S1x4096x256 .bf16) (k : Fin (k0_t1_loop i).trips) (j d : Fin 256) :
    keys i x k (ix3 0 j d) = x (ix3 0 (key k.val j) d) := by
  have hk : k.val < 15 := Nat.lt_of_lt_of_le k.isLt (k0_t1_abs i).2.1
  refine View.ld_unit_apply_of x _ _ _ _ _ fun a => ?_
  refine Eq.trans ?_ (congrArg (· + _) (congrFun (k0_off3_eq i k) a).symm)
  match a with
  | ⟨0, _⟩ => rfl
  | ⟨1, _⟩ => exact Nat.mod_eq_of_lt (by omega)
  | ⟨2, _⟩ => exact (Nat.zero_add _).symm

theorem vals_at (i : grid0.Coords) (x : Vec Ideal S1x4096x128 .bf16) (k : Fin (k0_t1_loop i).trips) (j : Fin 256) (d : Fin 128) :
    vals i x k (ix3 0 j d) = x (ix3 0 (key k.val j) d) := by
  have hk : k.val < 15 := Nat.lt_of_lt_of_le k.isLt (k0_t1_abs i).2.1
  refine View.ld_unit_apply_of x _ _ _ _ _ fun a => ?_
  refine Eq.trans ?_ (congrArg (· + _) (congrFun (k0_off4_eq i k) a).symm)
  match a with
  | ⟨0, _⟩ => rfl
  | ⟨1, _⟩ => exact Nat.mod_eq_of_lt (by omega)
  | ⟨2, _⟩ => exact (Nat.zero_add _).symm

theorem keys0_at (t : Fin cfg0.N) (j d : Fin 256) :
    keys0 m c t (ix3 0 j d) = K m c (ix3 (bat t) (key (t.val % 16) j) (col (head t) d)) := by
  refine (View.ld_unit_apply_of _ _ _ _ _ (ix3 0 (key (t.val % 16) j) d) fun a => ?_).trans (k_at m c t _ d)
  refine Eq.trans ?_ (congrArg (· + _) (congrFun (k0_off1_eq (grid0.coords t)) a).symm)
  rw [own_eq]
  match a with
  | ⟨0, _⟩ => rfl
  | ⟨1, _⟩ => exact Nat.mod_eq_of_lt (by omega)
  | ⟨2, _⟩ => exact (Nat.zero_add _).symm

theorem vals0_at (t : Fin cfg0.N) (j : Fin 256) (d : Fin 128) :
    vals0 m c t (ix3 0 j d) = U m c (ix3 (bat t) (key (t.val % 16) j) (vcol (head t) d)) := by
  refine (View.ld_unit_apply_of _ _ _ _ _ (ix3 0 (key (t.val % 16) j) d) fun a => ?_).trans (v_at m c t _ d)
  refine Eq.trans ?_ (congrArg (· + _) (congrFun (k0_off2_eq (grid0.coords t)) a).symm)
  rw [own_eq]
  match a with
  | ⟨0, _⟩ => rfl
  | ⟨1, _⟩ => exact Nat.mod_eq_of_lt (by omega)
  | ⟨2, _⟩ => exact (Nat.zero_add _).symm

/-- The scores of the query at position `R`, over the whole arrays. -/
abbrev line (b : Fin 2) (h : Fin 8) (R : Fin 4096) : Fin 4096 → EReal :=
  score (fun d => Q m c (ix3 b R (col h d))) (fun J d => K m c (ix3 b J (col h d))) R

/-- Those of row `r` of point `t`. -/
abbrev row (t : Fin cfg0.N) (r : Fin 256) : Fin 4096 → EReal := line m c (bat t) (head t) (pos t r)

/-- A score of the point's own block. -/
theorem own_at (t : Fin cfg0.N) (r j : Fin 256) :
    k0_pay20 (F := Ideal) (iblk m c 0 t) (keys0 m c t) (ix2 r j) = row m c t r (key (t.val % 16) j) := by
  refine (pay20_at _ _ r j).trans ?_
  have hle : j.val ≤ r.val ↔ (key (t.val % 16) j).val ≤ (pos t r).val := by
    show _ ↔ (256 * (t.val % 16) + j.val) % 4096 ≤ t.val % 16 * 256 + r.val
    omega
  show _ = if _ then dots _ _ else ⊥
  refine if_congr hle (congrArg₂ dots (funext fun d => q_at m c t r d) (funext fun d => keys0_at m c t j d)) rfl

/-- A score of an earlier block. -/
theorem past_at (t : Fin cfg0.N) (k : Fin (k0_t1_loop (grid0.coords t)).trips) (r j : Fin 256) :
    k0_pay5 (F := Ideal) (k0_pay19 (iblk m c 0 t)) (keys (grid0.coords t) (iblk m c 1 t) k) (ix2 r j) = row m c t r (key k.val j) := by
  refine (pay5_at _ _ r j).trans ?_
  have hk : k.val < t.val % 16 := lt_of_lt_of_eq k.isLt (trips_eq t)
  have hle : (key k.val j).val ≤ (pos t r).val := by
    show (256 * k.val + j.val) % 4096 ≤ t.val % 16 * 256 + r.val
    omega
  show _ = if _ then dots _ _ else ⊥
  rw [if_pos hle]
  exact congrArg₂ dots (funext fun d => (pay19_at _ r d).trans (q_at m c t r d))
    (funext fun d => (keys_at _ _ k j d).trans (k_at m c t _ d))

/-- What the equality asks of queries and keys: no infinity among them. -/
def Finite : Prop := (∀ i, ∃ x : ℝ, Q m c i = x) ∧ ∀ i, ∃ x : ℝ, K m c i = x

variable {m c}

theorem line_top (hf : Finite m c) (b : Fin 2) (h : Fin 8) (R J : Fin 4096) : line m c b h R J ≠ ⊤ := by
  show (if _ then dots _ _ else ⊥) ≠ ⊤
  split
  · obtain ⟨x, hx⟩ := dots_real (q := fun d => Q m c (ix3 b R (col h d))) (k := fun d => K m c (ix3 b J (col h d)))
      (fun d => hf.1 _) (fun d => hf.2 _)
    rw [hx]
    exact EReal.coe_ne_top x
  · exact bot_ne_top

theorem line_bot (hf : Finite m c) (b : Fin 2) (h : Fin 8) (R J : Fin 4096) (hJ : J.val ≤ R.val) : line m c b h R J ≠ ⊥ := by
  show (if _ then dots _ _ else ⊥) ≠ ⊥
  rw [if_pos hJ]
  obtain ⟨x, hx⟩ := dots_real (q := fun d => Q m c (ix3 b R (col h d))) (k := fun d => K m c (ix3 b J (col h d)))
    (fun d => hf.1 _) (fun d => hf.2 _)
  rw [hx]
  exact EReal.coe_ne_bot x

theorem own_bot (hf : Finite m c) (t : Fin cfg0.N) (r : Fin 256) : row m c t r (key (t.val % 16) 0) ≠ ⊥ := by
  refine line_bot hf _ _ _ _ ?_
  show (256 * (t.val % 16) + 0) % 4096 ≤ t.val % 16 * 256 + r.val
  omega

/-- The row's state after the point's own block and the first `n` earlier blocks. -/
theorem state (hf : Finite m c) (t : Fin cfg0.N) (r : Fin 256) (d : Fin 128) :
    ∀ n, n ≤ t.val % 16 → Softmax.Inv (fun b j => row m c t r (key b j)) (fun b j => U m c (ix3 (bat t) (key b j) (vcol (head t) d)))
      (insert (t.val % 16) (Finset.range n)) (mx m c t n (ix2 r 0)) (sm m c t n (ix2 r 0)) (nm m c t n (ix2 r d)) := by
  intro n
  induction n with
  | zero =>
    intro _
    have hm : k0_pay21 (F := Ideal) (iblk m c 0 t) (keys0 m c t) (ix2 r 0) = Finset.univ.fold max ⊥ fun j => row m c t r (key (t.val % 16) j) := by
      rw [pay21_at]
      exact congrArg (Finset.univ.fold max ⊥) (funext fun j => own_at m c t r j)
    have e1 : mx m c t 0 (ix2 r 0) = k0_pay21 (F := Ideal) (iblk m c 0 t) (keys0 m c t) (ix2 r 0) := by
      rw [mx_zero, pay23_at]
    have e2 : sm m c t 0 (ix2 r 0) = ∑ j, Softmax.w (row m c t r (key (t.val % 16) j)) (mx m c t 0 (ix2 r 0)) := by
      rw [e1, sm_zero, pay24_at]
      exact Finset.sum_congr rfl fun j _ => by rw [own_at]
    have e3 : nm m c t 0 (ix2 r d) = ∑ j, Softmax.w (row m c t r (key (t.val % 16) j)) (mx m c t 0 (ix2 r 0))
        * U m c (ix3 (bat t) (key (t.val % 16) j) (vcol (head t) d)) := by
      rw [e1, nm_zero, pay1_at, pay25_at]
      exact Finset.sum_congr rfl fun j _ => by rw [own_at, vals0_at]
    rw [Finset.range_zero, insert_empty_eq]
    exact Softmax.first (s := fun b j => row m c t r (key b j)) (v := fun b j => U m c (ix3 (bat t) (key b j) (vcol (head t) d)))
      (fun j => line_top hf _ _ _ _) (own_bot hf t r) (e1.trans hm) e2 e3
  | succ n ih =>
    intro hn
    have hk : n < (k0_t1_loop (grid0.coords t)).trips := lt_of_lt_of_eq (Nat.lt_of_succ_le hn) (trips_eq t).symm
    have e1 : mx m c t (n + 1) (ix2 r 0)
        = k0_pay6 (F := Ideal) (k0_pay19 (iblk m c 0 t)) (keys (grid0.coords t) (iblk m c 1 t) ⟨n, hk⟩) (mx m c t n) (ix2 r 0) := by
      rw [mx_succ m c t ⟨n, hk⟩, pay9_at]
    have hm : mx m c t (n + 1) (ix2 r 0) = max (mx m c t n (ix2 r 0)) (Finset.univ.fold max ⊥ fun j => row m c t r (key n j)) := by
      rw [e1, pay6_at]
      exact congrArg (fun f => max _ (Finset.univ.fold max ⊥ f)) (funext fun j => past_at m c t ⟨n, hk⟩ r j)
    have e2 : sm m c t (n + 1) (ix2 r 0) = Softmax.w (mx m c t n (ix2 r 0)) (mx m c t (n + 1) (ix2 r 0)) * sm m c t n (ix2 r 0)
        + ∑ j, Softmax.w (row m c t r (key n j)) (mx m c t (n + 1) (ix2 r 0)) := by
      rw [e1, sm_succ m c t ⟨n, hk⟩, pay10_at]
      exact congrArg (_ + ·) (Finset.sum_congr rfl fun j _ => by rw [past_at])
    have e3 : nm m c t (n + 1) (ix2 r d) = Softmax.w (mx m c t n (ix2 r 0)) (mx m c t (n + 1) (ix2 r 0)) * nm m c t n (ix2 r d)
        + ∑ j, Softmax.w (row m c t r (key n j)) (mx m c t (n + 1) (ix2 r 0)) * U m c (ix3 (bat t) (key n j) (vcol (head t) d)) := by
      rw [e1, nm_succ m c t ⟨n, hk⟩, pay2_at, pay11_at]
      exact congrArg (_ + ·) (Finset.sum_congr rfl fun j _ => by
        rw [past_at, vals_at]
        exact congrArg (_ * ·) (v_at m c t (key n j) d))
    rw [Finset.range_add_one, Finset.insert_comm]
    exact Softmax.step (s := fun b j => row m c t r (key b j)) (v := fun b j => U m c (ix3 (bat t) (key b j) (vcol (head t) d)))
      (by simp; omega) (fun b _ j => line_top hf _ _ _ _) (fun j => line_top hf _ _ _ _) (ih (by omega)) hm e2 e3

variable (m c)

/-- The result, as a function of the arguments. -/
def G : FVec Ideal S2x4096x1024 .f32 := fun i =>
  value (line m c (i 0) ⟨(i 2).val / 128, by have : (i 2).val < 1024 := (i 2).isLt; omega⟩ (i 1)) (fun J => U m c (ix3 (i 0) J (i 2)))

variable {m c}

/-- What a point stores. -/
theorem stored (hf : Finite m c) (t : Fin cfg0.N) (r : Fin 256) (d : Fin 128) :
    outsAt0 m c t (ix3 0 r d) = G m c (ix3 (bat t) (pos t r) (vcol (head t) d)) := by
  refine (congrFun (out_open m c t) _).trans ((pay4_at _ _ r d).trans ?_)
  have hs := state hf t r d _ le_rfl
  rw [← Finset.range_add_one, ← trips_eq t] at hs
  have hv : (⟨(vcol (head t) d).val / 128, by have := (vcol (head t) d).isLt; omega⟩ : Fin 8) = head t := Fin.ext (by
    show ((head t).val * 128 + d.val) / 128 = (head t).val
    omega)
  obtain ⟨M, hM⟩ := Softmax.fold_real (fun J => line_top hf (bat t) (head t) (pos t r) J) (own_bot hf t r)
  have hkey : ∀ J : Fin 4096, key (J.val / 256) ⟨J.val % 256, Nat.mod_lt _ (by norm_num)⟩ = J := fun J => Fin.ext (by
    show (256 * (J.val / 256) + J.val % 256) % 4096 = J.val
    omega)
  have hi : (k0_t1_loop (grid0.coords t)).trips = t.val % 16 := trips_eq t
  refine (Softmax.close (S := row m c t r) (V := fun J => U m c (ix3 (bat t) J (vcol (head t) d))) (i := (k0_t1_loop (grid0.coords t)).trips)
    (by omega) (fun J => line_top hf _ _ _ J) (fun J => ?_) (fun J => by rw [hkey]) (fun b _ j => line_top hf _ _ _ _) (c₀ := 0)
    (by rw [hi]; exact own_bot hf t r) hs M).trans ?_
  · rw [hkey]
    split
    · rfl
    · rename_i hJ
      refine if_neg ?_
      show ¬ J.val ≤ t.val % 16 * 256 + r.val
      omega
  · show _ = value (line m c (bat t) ⟨(vcol (head t) d).val / 128, _⟩ (pos t r)) (fun J => U m c (ix3 (bat t) J (vcol (head t) d)))
    rw [hv]
    show _ = ∑ J, Ideal.div (Softmax.w (row m c t r J) (top (row m c t r))) (∑ J, Softmax.w (row m c t r J) (top (row m c t r))) * _
    rw [show top (row m c t r) = M from hM]

/-- Where a point's block lies in the result. -/
theorem emb_at (t : Fin cfg0.N) (x : Fin 1) (r : Fin 256) (d : Fin 128) :
    (((cfg0.win 3).blk t).view.emb (ix3 x r d) : S2x4096x1024.Idx) = ix3 (bat t) (pos t r) (vcol (head t) d) := by
  blk_ext [idx t, bat, pos, vcol, head]

/-- The kernel's array after the run. -/
theorem final (hf : Finite m c) : (dats m 0 c).arrAt 3 cfg0.N = G m c := by
  refine (dats m 0 c).arrAt_eq_of_covers 3 _ (by decide +kernel) fun t _ y => ?_
  blk_simp [idx t]
  rw [after0_3]
  change S1x256x128.Idx at y
  have key : ∀ (x : Fin 1) (r : Fin 256) (d : Fin 128),
      outsAt0 m c t (ix3 x r d) = G m c (((cfg0.win 3).blk t).view.emb (ix3 x r d)) := by
    intro x r d
    rw [emb_at, Subsingleton.elim x 0]
    exact stored hf t r d
  idx_vars y
  exact key _ _ _

end Cert.KernelIdeal.Mla

end
-- ==== Proof.MlaRef.lean ====
/- The attention reference's result, read at an index. -/
module

public import proofs.«01_k».proof.Proof.Gen.ReferenceIdeal.Read
public import proofs.«01_k».proof.Proof.MlaSpec

@[expose] public section

set_option maxRecDepth 16384

noncomputable section

namespace Cert.ReferenceIdeal.Mla

open Cert.ReferenceIdeal Cert.ReferenceIdeal.Gen Cert.ReferenceIdeal.Read Idealize.ShloMosaic Cert.MlaSpec

variable (q k : FVec Ideal S2x4096x2048 .bf16) (v : FVec Ideal S2x4096x1024 .bf16)

/-- The scores of one row. -/
abbrev row (b : Fin 2) (h : Fin 8) (R : Fin 4096) : Fin 4096 → EReal :=
  score (fun d => q (ix3 b R (col h d))) (fun K d => k (ix3 b K (col h d))) R

theorem q_at (b : Fin 2) (h : Fin 8) (R : Fin 4096) (d : Fin 256) :
    val_main_v2 (F := Ideal) q (ix4 b h R d) = q (ix3 b R (col h d)) := by
  pointwise [val_main_v2, val_main_v1, val_main_v0, col]

theorem k_at (b : Fin 2) (h : Fin 8) (R : Fin 4096) (d : Fin 256) :
    val_main_v5 (F := Ideal) k (ix4 b h R d) = k (ix3 b R (col h d)) := by
  pointwise [val_main_v5, val_main_v4, val_main_v3, col]

theorem v_at (b : Fin 2) (h : Fin 8) (R : Fin 4096) (d : Fin 128) :
    val_main_v8 (F := Ideal) v (ix4 b h R d) = v (ix3 b R (vcol h d)) := by
  pointwise [val_main_v8, val_main_v7, val_main_v6, vcol]

theorem dot_at (b : Fin 2) (h : Fin 8) (R K : Fin 4096) :
    val_main_v12 (F := Ideal) q k (ix4 b h R K) = dots (fun d => q (ix3 b R (col h d))) (fun d => k (ix3 b K (col h d))) := by
  pointwise [val_main_v12, val_main_v11, val_main_v10, val_main_cst, q_at, k_at, dots]

theorem score_at (b : Fin 2) (h : Fin 8) (R K : Fin 4096) :
    val_main_v18 (F := Ideal) q k (ix4 b h R K) = row q k b h R K := by
  pointwise [val_main_v18, val_main_call0_v2, val_main_call0_v1, val_main_call0_v0, val_main_cst_0, val_main_v17, val_main_v16, val_main_v15,
    val_main_v14, val_main_v13, val_main_v9, dot_at]
  exact causal (by omega) (by omega) _ _ neg_inf

/-- The maximum along a row of scores. -/
theorem max_at (x : FVec Ideal S2x8x4096x4096 .f32) (y : FVec Ideal S_ .f32) (b : Fin 2) (h : Fin 8) (R : Fin 4096) :
    Host.reduce FloatOps.maximumf x y reducesTo_S2x8x4096x4096_S2x8x4096_d3 h_S_ (ix3 b h R)
      = Finset.univ.fold max (y (Shape.Idx.first h_S_)) (fun K => x (ix4 b h R K)) := by
  pointwise []

theorem max_row (b : Fin 2) (h : Fin 8) (R : Fin 4096) :
    val_main_v19 (F := Ideal) q k (ix3 b h R) = top (row q k b h R) := by
  unfold val_main_v19
  rw [max_at, val_main_cst_1_apply, show (FloatOps.ofBits .f32 0xFF800000#32 : Ideal .f32) = (⊥ : EReal) from neg_inf]
  simp only [score_at]
  rfl

theorem top_at (b : Fin 2) (h : Fin 8) (R : Fin 4096) :
    val_main_v21 (F := Ideal) q k (ix3 b h R) = top (row q k b h R) := by
  rw [val_main_v21_apply, val_main_v20_apply, val_main_cst_2_apply, max_row]
  show max (Ideal.ofBits .f32 0xFF800000#32) _ = _
  rw [neg_inf, max_bot_left]

theorem weight_at (b : Fin 2) (h : Fin 8) (R K : Fin 4096) :
    val_main_v25 (F := Ideal) q k (ix4 b h R K) = Softmax.w (row q k b h R K) (top (row q k b h R)) := by
  pointwise [val_main_v25, val_main_v24, val_main_v23, val_main_v22, score_at, top_at, Softmax.w]

theorem share_at (b : Fin 2) (h : Fin 8) (R K : Fin 4096) :
    val_main_v29 (F := Ideal) q k (ix4 b h R K)
      = Ideal.div (Softmax.w (row q k b h R K) (top (row q k b h R))) (∑ K, Softmax.w (row q k b h R K) (top (row q k b h R))) := by
  pointwise [val_main_v29, val_main_v28, val_main_v27, val_main_v26, val_main_cst_3, weight_at]

theorem out_at (b : Fin 2) (h : Fin 8) (R : Fin 4096) (d : Fin 128) :
    val_main_v32 (F := Ideal) q k v (ix3 b R (vcol h d)) = value (row q k b h R) (fun K => v (ix3 b K (vcol h d))) := by
  pointwise [val_main_v32, val_main_v31, val_main_v30, share_at, v_at, value, vcol]

end Cert.ReferenceIdeal.Mla

end
-- ==== Proof.MlaClaim.lean ====
/- The attention pair's claims: the precondition read as finiteness of queries and keys, and the equality under it. -/
module

public import proofs.«01_k».proof.Defs
public import proofs.«01_k».proof.Proof.Gen.Pre_finite_qk
public import proofs.«01_k».proof.Proof.Gen.ReferenceIdeal.Run
public import proofs.«01_k».proof.Proof.MlaValue
public import proofs.«01_k».proof.Proof.MlaRef
public import Idealize.ShloMosaic.Lib.Claim
public import Idealize.ShloMosaic.Lib.ReduceAll

@[expose] public section

set_option maxRecDepth 16384

noncomputable section

namespace Cert.MlaClaim

open Idealize.ShloMosaic Idealize.SL.Sem

instance : Cert.KernelIdeal.Facts := Cert.KernelIdeal.Gen.facts
instance : Cert.ReferenceIdeal.Facts := Cert.ReferenceIdeal.Gen.facts
instance : Cert.Pre_finite_qk.Facts := Cert.Pre_finite_qk.Gen.facts

/-- The reference runs and leaves its arguments alone. -/
theorem frame_ri : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

/-- The same, of the arguments the equality is claimed for. -/
theorem frame_ri_pre : Cert.quiescent_ReferenceIdeal_pre_finite_qk := by
  intro m g _
  exact (θ_run Cert.ReferenceIdeal.defs _ _).mono (fun r h => ⟨fun c => (h c).2, sem_eq_zero_of_no_sems (by decide) r.2⟩)
    (Cert.ReferenceIdeal.Value.run (F := Ideal) m g)

theorem inf_eq : (Ideal.ofBits .f32 0x7F800000#32 : EReal) = ⊤ := by
  simp [Ideal.ofBits, Ideal.ieee]

/-- A value whose magnitude is below +∞ is real. -/
theorem real_of_lt {x : EReal} (h : Ideal.cmp .olt (max x (-x)) (Ideal.ofBits .f32 0x7F800000#32) = 1#1) : ∃ y : ℝ, x = y := by
  rw [inf_eq] at h
  unfold Ideal.cmp at h
  have hlt : max x (-x) < ⊤ := by
    by_contra hn
    simp [hn] at h
  rw [max_lt_iff] at hlt
  refine Softmax.real_of_ne hlt.1.ne fun e => ?_
  rw [e] at hlt
  simp at hlt

/-- The precondition: every query and every key is real. -/
theorem finite {m : (ℓ : Loc Cert.KernelIdeal.nD Cert.KernelIdeal.τ Cert.KernelIdeal.sig) → Buf (Elt Ideal) ℓ}
    (h : Cert.Pre_KernelIdeal_finite_qk m) (c : Dev Cert.KernelIdeal.nD) : Cert.KernelIdeal.Mla.Finite m c := by
  have h0 := congrFun (h c) ix0
  obtain ⟨hq, hk⟩ := IntOp.andi_eq_one.1 h0
  haveI : Subsingleton Cert.Pre_finite_qk.S_.Idx := ⟨fun a b => funext fun x => x.elim0⟩
  exact ⟨fun i => real_of_lt (Host.reduce_andi_all _ _ _ _ _ hq i), fun i => real_of_lt (Host.reduce_andi_all _ _ _ _ _ hk i)⟩

/-- The reference's result is the kernel's. -/
theorem result (m : (ℓ : Loc Cert.KernelIdeal.nD Cert.KernelIdeal.τ Cert.KernelIdeal.sig) → Buf (Elt Ideal) ℓ) (c : Dev Cert.KernelIdeal.nD) :
    Cert.ReferenceIdeal.Read.val_main_v32 (F := Ideal) (Cert.KernelIdeal.Mla.Q m c) (Cert.KernelIdeal.Mla.K m c) (Cert.KernelIdeal.Mla.U m c)
      = Cert.KernelIdeal.Mla.G m c := by
  have key : ∀ (b : Fin 2) (R : Fin 4096) (e : Fin 1024),
      Cert.ReferenceIdeal.Read.val_main_v32 (F := Ideal) (Cert.KernelIdeal.Mla.Q m c) (Cert.KernelIdeal.Mla.K m c) (Cert.KernelIdeal.Mla.U m c) (ix3 b R e)
        = Cert.KernelIdeal.Mla.G m c (ix3 b R e) := by
    intro b R e
    have he : e = Cert.MlaSpec.vcol ⟨e.val / 128, by omega⟩ ⟨e.val % 128, by omega⟩ := Fin.ext (by
      show e.val = e.val / 128 * 128 + e.val % 128
      omega)
    have h := Cert.ReferenceIdeal.Mla.out_at (Cert.KernelIdeal.Mla.Q m c) (Cert.KernelIdeal.Mla.K m c) (Cert.KernelIdeal.Mla.U m c)
      b ⟨e.val / 128, by omega⟩ R ⟨e.val % 128, by omega⟩
    rw [← he] at h
    exact h
  funext i
  idx_vars i
  exact key _ _ _

/-- The kernel and the reference end equal, every operation exact. -/
theorem algebraic : Cert.algebraic_KernelIdeal_ReferenceIdeal_pre_finite_qk := by
  intro m g m' g' hpre hag
  refine ⟨fun c => Cert.KernelIdeal.Mla.G m c, ?_, ?_⟩
  · refine (θ_run _ _ _).mono (fun r h c => ?_) (Cert.KernelIdeal.Value.run_blocks m g)
    exact ⟨(h c).1.trans (Cert.KernelIdeal.Mla.final (finite hpre c)), (h c).2⟩
  · refine (θ_run _ _ _).mono (fun r h c => ?_) (Cert.ReferenceIdeal.Value.run m' g')
    refine ⟨(h c).1.trans ?_, (h c).2⟩
    rw [Cert.ReferenceIdeal.Read.val_main_v32_eq, (hag c).1, (hag c).2.1, (hag c).2.2]
    exact result m c

end Cert.MlaClaim

end
-- ==== Proof.MobaOpen.lean ====
/- The block attention kernel's body opened: the state after the point's own block, one step for each earlier block, and the block that the point
   stores. -/
module

public import proofs.«01_k».proof.Proof.Gen.Kernel5Ideal.Value
public import Idealize.ShloMosaic.Lib.Pipeline.ValueKit
public import Idealize.ShloMosaic.Lib.Pipeline.ReadBack
public import Idealize.ShloMosaic.Lib.VecWindow

@[expose] public section

set_option maxRecDepth 16384

noncomputable section

namespace Cert.Kernel5Ideal.Moba

open Cert.Kernel5Ideal Cert.Kernel5Ideal.Gen Idealize.ShloMosaic Idealize.ShloMosaic.TcCoe

/-- The 256 rows from row `o` on. -/
def blkAt (x : Vec Ideal S1x4096x128 .bf16) (o : ℕ) : Vec Ideal S1x256x128 .bf16 := fun y =>
  x (ix3 0 ⟨(o + (y 1).val) % 4096, Nat.mod_lt _ (by norm_num)⟩ (y 2))

theorem ld_blk (x : Vec Ideal S1x4096x128 .bf16) (o : ℕ) (h : ∀ a, (![0, o, 0] : Fin 3 → ℕ) a + S1x256x128.size a ≤ S1x4096x128.size a) :
    View.ld (e' := .bf16) x (Rect.unit (s := S1x4096x128) ![0, o, 0] ![1, 256, 128] h) = blkAt x o := by
  funext y
  have h1 : o + 256 ≤ 4096 := h 1
  have hy : (y 1).val < 256 := (y 1).isLt
  have hz : (y 0).val < 1 := (y 0).isLt
  refine View.ld_unit_apply_of x _ _ _ y _ fun a => ?_
  match a with
  | ⟨0, _⟩ => show 0 = 0 + (y 0).val; omega
  | ⟨1, _⟩ => exact Nat.mod_eq_of_lt (by omega)
  | ⟨2, _⟩ => exact (Nat.zero_add _).symm

/-- The column numbered `n`. -/
def colAt (f : Vec Ideal S256x128 .f32) (n : ℕ) : Vec Ideal S256x1 .f32 := fun y => f (ix2 (y 0) ⟨n % 128, Nat.mod_lt _ (by norm_num)⟩)

theorem rd_sel (f : Vec Ideal S256x128 .f32) (n : ℕ) (h : ∀ a, (![0, n] : Fin 2 → ℕ) a + S256x1.size a ≤ S256x128.size a) :
    (View.whole cc0_scratch0).readCov (Val := Elt Ideal) [⟨Rect.unit (s := S256x128) ![0, 0] ![256, 128] inb_S256x128_S256x128_0_0, f⟩]
      (Rect.unit (s := S256x128) ![0, n] ![256, 1] h).toLoadRect = colAt f n := by
  refine (View.readCov_fill _ inb_S256x128_S256x128_0_0 f [] (Rect.unit (s := S256x128) ![0, n] S256x1.size h) (by decide)).trans ?_
  funext y
  have h1 : n + 1 ≤ 128 := h 1
  have hy : (y 1).val < 1 := (y 1).isLt
  refine View.ld_unit_apply_of f _ _ _ y _ fun a => ?_
  match a with
  | ⟨0, _⟩ => exact (Nat.zero_add _).symm
  | ⟨1, _⟩ => show n % 128 = n + (y 1).val; rw [Nat.mod_eq_of_lt (by omega)]; omega

theorem e10 : k0_pay10 (F := Ideal) = k0_pay3 := rfl
theorem e13 : k0_pay13 (F := Ideal) = k0_pay6 := rfl
theorem e14 : k0_pay14 (F := Ideal) = k0_pay7 := rfl
theorem e15 : k0_pay15 (F := Ideal) = k0_pay8 := rfl
theorem e16 : k0_pay16 (F := Ideal) = k0_pay9 := rfl
theorem e17 : k0_pay17 (F := Ideal) = k0_pay3 := rfl
theorem e20 : k0_pay20 (F := Ideal) = k0_pay6 := rfl
theorem e21 : k0_pay21 (F := Ideal) = k0_pay7 := rfl
theorem e22 : k0_pay22 (F := Ideal) = k0_pay8 := rfl
theorem e23 : k0_pay23 (F := Ideal) = k0_pay9 := rfl
theorem e24 : k0_pay24 (F := Ideal) = k0_pay3 := rfl
theorem e27 : k0_pay27 (F := Ideal) = k0_pay6 := rfl
theorem e28 : k0_pay28 (F := Ideal) = k0_pay7 := rfl
theorem e29 : k0_pay29 (F := Ideal) = k0_pay8 := rfl
theorem e30 : k0_pay30 (F := Ideal) = k0_pay9 := rfl
theorem e31 : k0_pay31 (F := Ideal) = k0_pay3 := rfl
theorem e34 : k0_pay34 (F := Ideal) = k0_pay6 := rfl
theorem e35 : k0_pay35 (F := Ideal) = k0_pay7 := rfl
theorem e36 : k0_pay36 (F := Ideal) = k0_pay8 := rfl
theorem e37 : k0_pay37 (F := Ideal) = k0_pay9 := rfl
theorem e38 : k0_pay38 (F := Ideal) = k0_pay3 := rfl
theorem e41 : k0_pay41 (F := Ideal) = k0_pay6 := rfl
theorem e42 : k0_pay42 (F := Ideal) = k0_pay7 := rfl
theorem e43 : k0_pay43 (F := Ideal) = k0_pay8 := rfl
theorem e44 : k0_pay44 (F := Ideal) = k0_pay9 := rfl
theorem e45 : k0_pay45 (F := Ideal) = k0_pay3 := rfl
theorem e48 : k0_pay48 (F := Ideal) = k0_pay6 := rfl
theorem e49 : k0_pay49 (F := Ideal) = k0_pay7 := rfl
theorem e50 : k0_pay50 (F := Ideal) = k0_pay8 := rfl
theorem e51 : k0_pay51 (F := Ideal) = k0_pay9 := rfl
theorem e52 : k0_pay52 (F := Ideal) = k0_pay3 := rfl
theorem e55 : k0_pay55 (F := Ideal) = k0_pay6 := rfl
theorem e56 : k0_pay56 (F := Ideal) = k0_pay7 := rfl
theorem e57 : k0_pay57 (F := Ideal) = k0_pay8 := rfl
theorem e58 : k0_pay58 (F := Ideal) = k0_pay9 := rfl
theorem e59 : k0_pay59 (F := Ideal) = k0_pay3 := rfl
theorem e62 : k0_pay62 (F := Ideal) = k0_pay6 := rfl
theorem e63 : k0_pay63 (F := Ideal) = k0_pay7 := rfl
theorem e64 : k0_pay64 (F := Ideal) = k0_pay8 := rfl
theorem e65 : k0_pay65 (F := Ideal) = k0_pay9 := rfl
theorem e66 : k0_pay66 (F := Ideal) = k0_pay3 := rfl
theorem e69 : k0_pay69 (F := Ideal) = k0_pay6 := rfl
theorem e70 : k0_pay70 (F := Ideal) = k0_pay7 := rfl
theorem e71 : k0_pay71 (F := Ideal) = k0_pay8 := rfl
theorem e72 : k0_pay72 (F := Ideal) = k0_pay9 := rfl
theorem e73 : k0_pay73 (F := Ideal) = k0_pay3 := rfl
theorem e76 : k0_pay76 (F := Ideal) = k0_pay6 := rfl
theorem e77 : k0_pay77 (F := Ideal) = k0_pay7 := rfl
theorem e78 : k0_pay78 (F := Ideal) = k0_pay8 := rfl
theorem e79 : k0_pay79 (F := Ideal) = k0_pay9 := rfl
theorem e80 : k0_pay80 (F := Ideal) = k0_pay3 := rfl
theorem e83 : k0_pay83 (F := Ideal) = k0_pay6 := rfl
theorem e84 : k0_pay84 (F := Ideal) = k0_pay7 := rfl
theorem e85 : k0_pay85 (F := Ideal) = k0_pay8 := rfl
theorem e86 : k0_pay86 (F := Ideal) = k0_pay9 := rfl
theorem e87 : k0_pay87 (F := Ideal) = k0_pay3 := rfl
theorem e90 : k0_pay90 (F := Ideal) = k0_pay6 := rfl
theorem e91 : k0_pay91 (F := Ideal) = k0_pay7 := rfl
theorem e92 : k0_pay92 (F := Ideal) = k0_pay8 := rfl
theorem e93 : k0_pay93 (F := Ideal) = k0_pay9 := rfl
theorem e94 : k0_pay94 (F := Ideal) = k0_pay3 := rfl
theorem e97 : k0_pay97 (F := Ideal) = k0_pay6 := rfl
theorem e98 : k0_pay98 (F := Ideal) = k0_pay7 := rfl
theorem e99 : k0_pay99 (F := Ideal) = k0_pay8 := rfl
theorem e100 : k0_pay100 (F := Ideal) = k0_pay9 := rfl
theorem e101 : k0_pay101 (F := Ideal) = k0_pay3 := rfl
theorem e104 : k0_pay104 (F := Ideal) = k0_pay6 := rfl
theorem e105 : k0_pay105 (F := Ideal) = k0_pay7 := rfl
theorem e106 : k0_pay106 (F := Ideal) = k0_pay8 := rfl
theorem e107 : k0_pay107 (F := Ideal) = k0_pay9 := rfl
theorem e125 : k0_pay125 (F := Ideal) = k0_pay1 := rfl
theorem e126 : k0_pay126 (F := Ideal) = k0_pay1 := rfl
theorem e127 : k0_pay127 (F := Ideal) = k0_pay1 := rfl
theorem e128 : k0_pay128 (F := Ideal) = k0_pay1 := rfl
theorem e129 : k0_pay129 (F := Ideal) = k0_pay1 := rfl
theorem e130 : k0_pay130 (F := Ideal) = k0_pay1 := rfl
theorem e131 : k0_pay131 (F := Ideal) = k0_pay1 := rfl
theorem e132 : k0_pay132 (F := Ideal) = k0_pay1 := rfl
theorem e133 : k0_pay133 (F := Ideal) = k0_pay1 := rfl
theorem e134 : k0_pay134 (F := Ideal) = k0_pay1 := rfl
theorem e135 : k0_pay135 (F := Ideal) = k0_pay1 := rfl
theorem e136 : k0_pay136 (F := Ideal) = k0_pay1 := rfl
theorem e137 : k0_pay137 (F := Ideal) = k0_pay1 := rfl
theorem e138 : k0_pay138 (F := Ideal) = k0_pay1 := rfl

variable (m : (ℓ : Loc nD τ sig) → Buf (Elt Ideal) ℓ) (c : Dev nD) (t : Fin cfg0.N)

/-- The queries of the point's block. -/
abbrev qs : FVec Ideal S256x128 .bf16 := k0_pay108 (iblk m c 0 t)

/-- The selection: one column for each earlier block. -/
abbrev sel : FVec Ideal S256x128 .f32 :=
  k0_pay115 (iota Kind.tc S256x128 32 [1] iota_S256x128_d1_w32) (k0_pay111 (grid0.coords t) (iblk m c 0 t) (iblk m c 3 t))
    (k0_pay112 (grid0.coords t) (iblk m c 0 t) (iblk m c 3 t)) (k0_pay113 (grid0.coords t) (iblk m c 0 t) (iblk m c 3 t))
    (k0_pay114 (grid0.coords t) (iblk m c 0 t) (iblk m c 3 t))

/-- The keys of the point's own block. -/
abbrev keys0 : Vec Ideal S1x256x128 .bf16 :=
  View.ld (e' := .bf16) (iblk m c 1 t) (Rect.unit (s := S1x4096x128) (k0_off1 (grid0.coords t)) S1x256x128.size (k0_off1_inb (grid0.coords t)))

/-- The values of the point's own block. -/
abbrev vals0 : Vec Ideal S1x256x128 .bf16 :=
  View.ld (e' := .bf16) (iblk m c 2 t) (Rect.unit (s := S1x4096x128) (k0_off1 (grid0.coords t)) S1x256x128.size (k0_off1_inb (grid0.coords t)))

/-- The running maxima after the own block and `n` earlier blocks. -/
def mx : ℕ → Vec Ideal S256x1 .f32
  | 0 => k0_pay122 (k0_pay117 (qs m c t) (keys0 m c t)) k0_pay118 (Named.named κ "mask" 4048155338#32)
  | n + 1 => k0_pay8 (qs m c t) (blkAt (iblk m c 1 t) (256 * n)) (colAt (sel m c t) n) (mx n)

/-- The running sums after the own block and `n` earlier blocks. -/
def sm : ℕ → Vec Ideal S256x1 .f32
  | 0 => k0_pay123 (k0_pay117 (qs m c t) (keys0 m c t)) k0_pay118 (Named.named κ "mask" 4048155338#32)
  | n + 1 => k0_pay9 (qs m c t) (blkAt (iblk m c 1 t) (256 * n)) (colAt (sel m c t) n) (mx m c t n) (sm n)

/-- The running numerators after the own block and `n` earlier blocks. -/
def nm : ℕ → Vec Ideal S256x128 .f32
  | 0 => k0_pay124 (k0_pay116 (vals0 m c t)) (k0_pay117 (qs m c t) (keys0 m c t)) k0_pay118 (Named.named κ "mask" 4048155338#32)
  | n + 1 => k0_pay1 (k0_pay3 (blkAt (iblk m c 2 t) (256 * n)))
      (k0_pay6 (qs m c t) (blkAt (iblk m c 1 t) (256 * n)) (colAt (sel m c t) n) (mx m c t n))
      (k0_pay7 (qs m c t) (blkAt (iblk m c 1 t) (256 * n)) (colAt (sel m c t) n) (mx m c t n)) (nm n)

theorem open_A (h : t.val % 16 = 0) : outsAt0 m c t.val t.isLt = k0_pay2 (nm m c t 0) (sm m c t 0) := by
  rw [outsAt0_A m c t (by omega) (by omega) (by omega) (by omega) (by omega) (by omega) (by omega) (by omega) (by omega) (by omega) (by omega) (by omega) (by omega) (by omega) (by omega)]
  frame_out
  simp only [nm, sm, mx]
  rfl

theorem open_B (h : t.val % 16 = 1) : outsAt0 m c t.val t.isLt = k0_pay2 (nm m c t 1) (sm m c t 1) := by
  rw [outsAt0_B m c t (by omega) (by omega) (by omega) (by omega) (by omega) (by omega) (by omega) (by omega) (by omega) (by omega) (by omega) (by omega) (by omega) (by omega) (by omega)]
  frame_out
  rw [rd_sel (sel m c t) 0 inb_S256x128_S256x1_0_0]
  simp only [e125, ld_blk]
  simp only [nm, sm, mx]
  rfl

theorem open_C (h : t.val % 16 = 2) : outsAt0 m c t.val t.isLt = k0_pay2 (nm m c t 2) (sm m c t 2) := by
  rw [outsAt0_C m c t (by omega) (by omega) (by omega) (by omega) (by omega) (by omega) (by omega) (by omega) (by omega) (by omega) (by omega) (by omega) (by omega) (by omega) (by omega)]
  frame_out
  rw [rd_sel (sel m c t) 0 inb_S256x128_S256x1_0_0, rd_sel (sel m c t) 1 inb_S256x128_S256x1_0_1]
  simp only [e10, e13, e14, e16, e125, e126, ld_blk]
  simp only [nm, sm, mx]
  rfl

theorem open_D (h : t.val % 16 = 3) : outsAt0 m c t.val t.isLt = k0_pay2 (nm m c t 3) (sm m c t 3) := by
  rw [outsAt0_D m c t (by omega) (by omega) (by omega) (by omega) (by omega) (by omega) (by omega) (by omega) (by omega) (by omega) (by omega) (by omega) (by omega) (by omega) (by omega)]
  frame_out
  rw [rd_sel (sel m c t) 0 inb_S256x128_S256x1_0_0, rd_sel (sel m c t) 1 inb_S256x128_S256x1_0_1, rd_sel (sel m c t) 2 inb_S256x128_S256x1_0_2]
  simp only [e10, e13, e14, e15, e16, e17, e20, e21, e23, e125, e126, e127, ld_blk]
  simp only [nm, sm, mx]
  rfl

theorem open_E (h : t.val % 16 = 4) : outsAt0 m c t.val t.isLt = k0_pay2 (nm m c t 4) (sm m c t 4) := by
  rw [outsAt0_E m c t (by omega) (by omega) (by omega) (by omega) (by omega) (by omega) (by omega) (by omega) (by omega) (by omega) (by omega) (by omega) (by omega) (by omega) (by omega)]
  frame_out
  rw [rd_sel (sel m c t) 0 inb_S256x128_S256x1_0_0, rd_sel (sel m c t) 1 inb_S256x128_S256x1_0_1, rd_sel (sel m c t) 2 inb_S256x128_S256x1_0_2, rd_sel (sel m c t) 3 inb_S256x128_S256x1_0_3]
  simp only [e10, e13, e14, e15, e16, e17, e20, e21, e22, e23, e24, e27, e28, e30, e125, e126, e127, e128, ld_blk]
  simp only [nm, sm, mx]
  rfl

theorem open_F (h : t.val % 16 = 5) : outsAt0 m c t.val t.isLt = k0_pay2 (nm m c t 5) (sm m c t 5) := by
  rw [outsAt0_F m c t (by omega) (by omega) (by omega) (by omega) (by omega) (by omega) (by omega) (by omega) (by omega) (by omega) (by omega) (by omega) (by omega) (by omega) (by omega)]
  frame_out
  rw [rd_sel (sel m c t) 0 inb_S256x128_S256x1_0_0, rd_sel (sel m c t) 1 inb_S256x128_S256x1_0_1, rd_sel (sel m c t) 2 inb_S256x128_S256x1_0_2, rd_sel (sel m c t) 3 inb_S256x128_S256x1_0_3, rd_sel (sel m c t) 4 inb_S256x128_S256x1_0_4]
  simp only [e10, e13, e14, e15, e16, e17, e20, e21, e22, e23, e24, e27, e28, e29, e30, e31, e34, e35, e37, e125, e126, e127, e128, e129, ld_blk]
  simp only [nm, sm, mx]
  rfl

theorem open_G (h : t.val % 16 = 6) : outsAt0 m c t.val t.isLt = k0_pay2 (nm m c t 6) (sm m c t 6) := by
  rw [outsAt0_G m c t (by omega) (by omega) (by omega) (by omega) (by omega) (by omega) (by omega) (by omega) (by omega) (by omega) (by omega) (by omega) (by omega) (by omega) (by omega)]
  frame_out
  rw [rd_sel (sel m c t) 0 inb_S256x128_S256x1_0_0, rd_sel (sel m c t) 1 inb_S256x128_S256x1_0_1, rd_sel (sel m c t) 2 inb_S256x128_S256x1_0_2, rd_sel (sel m c t) 3 inb_S256x128_S256x1_0_3, rd_sel (sel m c t) 4 inb_S256x128_S256x1_0_4, rd_sel (sel m c t) 5 inb_S256x128_S256x1_0_5]
  simp only [e10, e13, e14, e15, e16, e17, e20, e21, e22, e23, e24, e27, e28, e29, e30, e31, e34, e35, e36, e37, e38, e41, e42, e44, e125, e126, e127, e128, e129, e130, ld_blk]
  simp only [nm, sm, mx]
  rfl

theorem open_H (h : t.val % 16 = 7) : outsAt0 m c t.val t.isLt = k0_pay2 (nm m c t 7) (sm m c t 7) := by
  rw [outsAt0_H m c t (by omega) (by omega) (by omega) (by omega) (by omega) (by omega) (by omega) (by omega) (by omega) (by omega) (by omega) (by omega) (by omega) (by omega) (by omega)]
  frame_out
  rw [rd_sel (sel m c t) 0 inb_S256x128_S256x1_0_0, rd_sel (sel m c t) 1 inb_S256x128_S256x1_0_1, rd_sel (sel m c t) 2 inb_S256x128_S256x1_0_2, rd_sel (sel m c t) 3 inb_S256x128_S256x1_0_3, rd_sel (sel m c t) 4 inb_S256x128_S256x1_0_4, rd_sel (sel m c t) 5 inb_S256x128_S256x1_0_5, rd_sel (sel m c t) 6 inb_S256x128_S256x1_0_6]
  simp only [e10, e13, e14, e15, e16, e17, e20, e21, e22, e23, e24, e27, e28, e29, e30, e31, e34, e35, e36, e37, e38, e41, e42, e43, e44, e45, e48, e49, e51, e125, e126, e127, e128, e129, e130, e131, ld_blk]
  simp only [nm, sm, mx]
  rfl

theorem open_I (h : t.val % 16 = 8) : outsAt0 m c t.val t.isLt = k0_pay2 (nm m c t 8) (sm m c t 8) := by
  rw [outsAt0_I m c t (by omega) (by omega) (by omega) (by omega) (by omega) (by omega) (by omega) (by omega) (by omega) (by omega) (by omega) (by omega) (by omega) (by omega) (by omega)]
  frame_out
  rw [rd_sel (sel m c t) 0 inb_S256x128_S256x1_0_0, rd_sel (sel m c t) 1 inb_S256x128_S256x1_0_1, rd_sel (sel m c t) 2 inb_S256x128_S256x1_0_2, rd_sel (sel m c t) 3 inb_S256x128_S256x1_0_3, rd_sel (sel m c t) 4 inb_S256x128_S256x1_0_4, rd_sel (sel m c t) 5 inb_S256x128_S256x1_0_5, rd_sel (sel m c t) 6 inb_S256x128_S256x1_0_6, rd_sel (sel m c t) 7 inb_S256x128_S256x1_0_7]
  simp only [e10, e13, e14, e15, e16, e17, e20, e21, e22, e23, e24, e27, e28, e29, e30, e31, e34, e35, e36, e37, e38, e41, e42, e43, e44, e45, e48, e49, e50, e51, e52, e55, e56, e58, e125, e126, e127, e128, e129, e130, e131, e132, ld_blk]
  simp only [nm, sm, mx]
  rfl

theorem open_J (h : t.val % 16 = 9) : outsAt0 m c t.val t.isLt = k0_pay2 (nm m c t 9) (sm m c t 9) := by
  rw [outsAt0_J m c t (by omega) (by omega) (by omega) (by omega) (by omega) (by omega) (by omega) (by omega) (by omega) (by omega) (by omega) (by omega) (by omega) (by omega) (by omega)]
  frame_out
  rw [rd_sel (sel m c t) 0 inb_S256x128_S256x1_0_0, rd_sel (sel m c t) 1 inb_S256x128_S256x1_0_1, rd_sel (sel m c t) 2 inb_S256x128_S256x1_0_2, rd_sel (sel m c t) 3 inb_S256x128_S256x1_0_3, rd_sel (sel m c t) 4 inb_S256x128_S256x1_0_4, rd_sel (sel m c t) 5 inb_S256x128_S256x1_0_5, rd_sel (sel m c t) 6 inb_S256x128_S256x1_0_6, rd_sel (sel m c t) 7 inb_S256x128_S256x1_0_7, rd_sel (sel m c t) 8 inb_S256x128_S256x1_0_8]
  simp only [e10, e13, e14, e15, e16, e17, e20, e21, e22, e23, e24, e27, e28, e29, e30, e31, e34, e35, e36, e37, e38, e41, e42, e43, e44, e45, e48, e49, e50, e51, e52, e55, e56, e57, e58, e59, e62, e63, e65, e125, e126, e127, e128, e129, e130, e131, e132, e133, ld_blk]
  simp only [nm, sm, mx]
  rfl

theorem open_K (h : t.val % 16 = 10) : outsAt0 m c t.val t.isLt = k0_pay2 (nm m c t 10) (sm m c t 10) := by
  rw [outsAt0_K m c t (by omega) (by omega) (by omega) (by omega) (by omega) (by omega) (by omega) (by omega) (by omega) (by omega) (by omega) (by omega) (by omega) (by omega) (by omega)]
  frame_out
  rw [rd_sel (sel m c t) 0 inb_S256x128_S256x1_0_0, rd_sel (sel m c t) 1 inb_S256x128_S256x1_0_1, rd_sel (sel m c t) 2 inb_S256x128_S256x1_0_2, rd_sel (sel m c t) 3 inb_S256x128_S256x1_0_3, rd_sel (sel m c t) 4 inb_S256x128_S256x1_0_4, rd_sel (sel m c t) 5 inb_S256x128_S256x1_0_5, rd_sel (sel m c t) 6 inb_S256x128_S256x1_0_6, rd_sel (sel m c t) 7 inb_S256x128_S256x1_0_7, rd_sel (sel m c t) 8 inb_S256x128_S256x1_0_8, rd_sel (sel m c t) 9 inb_S256x128_S256x1_0_9]
  simp only [e10, e13, e14, e15, e16, e17, e20, e21, e22, e23, e24, e27, e28, e29, e30, e31, e34, e35, e36, e37, e38, e41, e42, e43, e44, e45, e48, e49, e50, e51, e52, e55, e56, e57, e58, e59, e62, e63, e64, e65, e66, e69, e70, e72, e125, e126, e127, e128, e129, e130, e131, e132, e133, e134, ld_blk]
  simp only [nm, sm, mx]
  rfl

theorem open_L (h : t.val % 16 = 11) : outsAt0 m c t.val t.isLt = k0_pay2 (nm m c t 11) (sm m c t 11) := by
  rw [outsAt0_L m c t (by omega) (by omega) (by omega) (by omega) (by omega) (by omega) (by omega) (by omega) (by omega) (by omega) (by omega) (by omega) (by omega) (by omega) (by omega)]
  frame_out
  rw [rd_sel (sel m c t) 0 inb_S256x128_S256x1_0_0, rd_sel (sel m c t) 1 inb_S256x128_S256x1_0_1, rd_sel (sel m c t) 2 inb_S256x128_S256x1_0_2, rd_sel (sel m c t) 3 inb_S256x128_S256x1_0_3, rd_sel (sel m c t) 4 inb_S256x128_S256x1_0_4, rd_sel (sel m c t) 5 inb_S256x128_S256x1_0_5, rd_sel (sel m c t) 6 inb_S256x128_S256x1_0_6, rd_sel (sel m c t) 7 inb_S256x128_S256x1_0_7, rd_sel (sel m c t) 8 inb_S256x128_S256x1_0_8, rd_sel (sel m c t) 9 inb_S256x128_S256x1_0_9, rd_sel (sel m c t) 10 inb_S256x128_S256x1_0_10]
  simp only [e10, e13, e14, e15, e16, e17, e20, e21, e22, e23, e24, e27, e28, e29, e30, e31, e34, e35, e36, e37, e38, e41, e42, e43, e44, e45, e48, e49, e50, e51, e52, e55, e56, e57, e58, e59, e62, e63, e64, e65, e66, e69, e70, e71, e72, e73, e76, e77, e79, e125, e126, e127, e128, e129, e130, e131, e132, e133, e134, e135, ld_blk]
  simp only [nm, sm, mx]
  rfl

theorem open_M (h : t.val % 16 = 12) : outsAt0 m c t.val t.isLt = k0_pay2 (nm m c t 12) (sm m c t 12) := by
  rw [outsAt0_M m c t (by omega) (by omega) (by omega) (by omega) (by omega) (by omega) (by omega) (by omega) (by omega) (by omega) (by omega) (by omega) (by omega) (by omega) (by omega)]
  frame_out
  rw [rd_sel (sel m c t) 0 inb_S256x128_S256x1_0_0, rd_sel (sel m c t) 1 inb_S256x128_S256x1_0_1, rd_sel (sel m c t) 2 inb_S256x128_S256x1_0_2, rd_sel (sel m c t) 3 inb_S256x128_S256x1_0_3, rd_sel (sel m c t) 4 inb_S256x128_S256x1_0_4, rd_sel (sel m c t) 5 inb_S256x128_S256x1_0_5, rd_sel (sel m c t) 6 inb_S256x128_S256x1_0_6, rd_sel (sel m c t) 7 inb_S256x128_S256x1_0_7, rd_sel (sel m c t) 8 inb_S256x128_S256x1_0_8, rd_sel (sel m c t) 9 inb_S256x128_S256x1_0_9, rd_sel (sel m c t) 10 inb_S256x128_S256x1_0_10, rd_sel (sel m c t) 11 inb_S256x128_S256x1_0_11]
  simp only [e10, e13, e14, e15, e16, e17, e20, e21, e22, e23, e24, e27, e28, e29, e30, e31, e34, e35, e36, e37, e38, e41, e42, e43, e44, e45, e48, e49, e50, e51, e52, e55, e56, e57, e58, e59, e62, e63, e64, e65, e66, e69, e70, e71, e72, e73, e76, e77, e78, e79, e80, e83, e84, e86, e125, e126, e127, e128, e129, e130, e131, e132, e133, e134, e135, e136, ld_blk]
  simp only [nm, sm, mx]
  rfl

theorem open_N (h : t.val % 16 = 13) : outsAt0 m c t.val t.isLt = k0_pay2 (nm m c t 13) (sm m c t 13) := by
  rw [outsAt0_N m c t (by omega) (by omega) (by omega) (by omega) (by omega) (by omega) (by omega) (by omega) (by omega) (by omega) (by omega) (by omega) (by omega) (by omega) (by omega)]
  frame_out
  rw [rd_sel (sel m c t) 0 inb_S256x128_S256x1_0_0, rd_sel (sel m c t) 1 inb_S256x128_S256x1_0_1, rd_sel (sel m c t) 2 inb_S256x128_S256x1_0_2, rd_sel (sel m c t) 3 inb_S256x128_S256x1_0_3, rd_sel (sel m c t) 4 inb_S256x128_S256x1_0_4, rd_sel (sel m c t) 5 inb_S256x128_S256x1_0_5, rd_sel (sel m c t) 6 inb_S256x128_S256x1_0_6, rd_sel (sel m c t) 7 inb_S256x128_S256x1_0_7, rd_sel (sel m c t) 8 inb_S256x128_S256x1_0_8, rd_sel (sel m c t) 9 inb_S256x128_S256x1_0_9, rd_sel (sel m c t) 10 inb_S256x128_S256x1_0_10, rd_sel (sel m c t) 11 inb_S256x128_S256x1_0_11, rd_sel (sel m c t) 12 inb_S256x128_S256x1_0_12]
  simp only [e10, e13, e14, e15, e16, e17, e20, e21, e22, e23, e24, e27, e28, e29, e30, e31, e34, e35, e36, e37, e38, e41, e42, e43, e44, e45, e48, e49, e50, e51, e52, e55, e56, e57, e58, e59, e62, e63, e64, e65, e66, e69, e70, e71, e72, e73, e76, e77, e78, e79, e80, e83, e84, e85, e86, e87, e90, e91, e93, e125, e126, e127, e128, e129, e130, e131, e132, e133, e134, e135, e136, e137, ld_blk]
  simp only [nm, sm, mx]
  rfl

theorem open_O (h : t.val % 16 = 14) : outsAt0 m c t.val t.isLt = k0_pay2 (nm m c t 14) (sm m c t 14) := by
  rw [outsAt0_O m c t (by omega) (by omega) (by omega) (by omega) (by omega) (by omega) (by omega) (by omega) (by omega) (by omega) (by omega) (by omega) (by omega) (by omega) (by omega)]
  frame_out
  rw [rd_sel (sel m c t) 0 inb_S256x128_S256x1_0_0, rd_sel (sel m c t) 1 inb_S256x128_S256x1_0_1, rd_sel (sel m c t) 2 inb_S256x128_S256x1_0_2, rd_sel (sel m c t) 3 inb_S256x128_S256x1_0_3, rd_sel (sel m c t) 4 inb_S256x128_S256x1_0_4, rd_sel (sel m c t) 5 inb_S256x128_S256x1_0_5, rd_sel (sel m c t) 6 inb_S256x128_S256x1_0_6, rd_sel (sel m c t) 7 inb_S256x128_S256x1_0_7, rd_sel (sel m c t) 8 inb_S256x128_S256x1_0_8, rd_sel (sel m c t) 9 inb_S256x128_S256x1_0_9, rd_sel (sel m c t) 10 inb_S256x128_S256x1_0_10, rd_sel (sel m c t) 11 inb_S256x128_S256x1_0_11, rd_sel (sel m c t) 12 inb_S256x128_S256x1_0_12, rd_sel (sel m c t) 13 inb_S256x128_S256x1_0_13]
  simp only [e10, e13, e14, e15, e16, e17, e20, e21, e22, e23, e24, e27, e28, e29, e30, e31, e34, e35, e36, e37, e38, e41, e42, e43, e44, e45, e48, e49, e50, e51, e52, e55, e56, e57, e58, e59, e62, e63, e64, e65, e66, e69, e70, e71, e72, e73, e76, e77, e78, e79, e80, e83, e84, e85, e86, e87, e90, e91, e92, e93, e94, e97, e98, e100, e125, e126, e127, e128, e129, e130, e131, e132, e133, e134, e135, e136, e137, e138, ld_blk]
  simp only [nm, sm, mx]
  rfl

theorem open_P (h : t.val % 16 = 15) : outsAt0 m c t.val t.isLt = k0_pay2 (nm m c t 15) (sm m c t 15) := by
  rw [outsAt0_P m c t (by omega) (by omega) (by omega) (by omega) (by omega) (by omega) (by omega) (by omega) (by omega) (by omega) (by omega) (by omega) (by omega) (by omega) (by omega)]
  frame_out
  rw [rd_sel (sel m c t) 0 inb_S256x128_S256x1_0_0, rd_sel (sel m c t) 1 inb_S256x128_S256x1_0_1, rd_sel (sel m c t) 2 inb_S256x128_S256x1_0_2, rd_sel (sel m c t) 3 inb_S256x128_S256x1_0_3, rd_sel (sel m c t) 4 inb_S256x128_S256x1_0_4, rd_sel (sel m c t) 5 inb_S256x128_S256x1_0_5, rd_sel (sel m c t) 6 inb_S256x128_S256x1_0_6, rd_sel (sel m c t) 7 inb_S256x128_S256x1_0_7, rd_sel (sel m c t) 8 inb_S256x128_S256x1_0_8, rd_sel (sel m c t) 9 inb_S256x128_S256x1_0_9, rd_sel (sel m c t) 10 inb_S256x128_S256x1_0_10, rd_sel (sel m c t) 11 inb_S256x128_S256x1_0_11, rd_sel (sel m c t) 12 inb_S256x128_S256x1_0_12, rd_sel (sel m c t) 13 inb_S256x128_S256x1_0_13, rd_sel (sel m c t) 14 inb_S256x128_S256x1_0_14]
  simp only [e10, e13, e14, e15, e16, e17, e20, e21, e22, e23, e24, e27, e28, e29, e30, e31, e34, e35, e36, e37, e38, e41, e42, e43, e44, e45, e48, e49, e50, e51, e52, e55, e56, e57, e58, e59, e62, e63, e64, e65, e66, e69, e70, e71, e72, e73, e76, e77, e78, e79, e80, e83, e84, e85, e86, e87, e90, e91, e92, e93, e94, e97, e98, e99, e100, e101, e104, e105, e107, e125, e126, e127, e128, e129, e130, e131, e132, e133, e134, e135, e136, e137, e138, ld_blk]
  simp only [nm, sm, mx]
  rfl

/-- The block that the point stores. -/
theorem out_open : outsAt0 m c t.val t.isLt = k0_pay2 (nm m c t (t.val % 16)) (sm m c t (t.val % 16)) := by
  have hlt : t.val % 16 < 16 := Nat.mod_lt _ (by norm_num)
  obtain ⟨k, hk⟩ : ∃ k, t.val % 16 = k := ⟨_, rfl⟩
  rw [hk] at hlt ⊢
  interval_cases k
  · exact open_A m c t hk
  · exact open_B m c t hk
  · exact open_C m c t hk
  · exact open_D m c t hk
  · exact open_E m c t hk
  · exact open_F m c t hk
  · exact open_G m c t hk
  · exact open_H m c t hk
  · exact open_I m c t hk
  · exact open_J m c t hk
  · exact open_K m c t hk
  · exact open_L m c t hk
  · exact open_M m c t hk
  · exact open_N m c t hk
  · exact open_O m c t hk
  · exact open_P m c t hk

end Cert.Kernel5Ideal.Moba

end
-- ==== Proof.MobaPick.lean ====
/- Three rounds of "the greatest entry, the lowest lane that holds it, that lane struck out" over 128 lanes, and the first three places of a
   sort by the greater entry, then the lower place: the same lanes are taken. -/
module

public import Idealize.ShloMosaic.Lib.Pointwise
public import Idealize.ShloMosaic.Lib.SortNet.Extract
public import Idealize.ShloMosaic.Lib.SortPrefix
public import Idealize.ShloMosaic.Lib.PlanTiles.StableSort

@[expose] public section

noncomputable section

namespace Cert.MobaPick

open Idealize.ShloMosaic

/-- The greatest entry. -/
def best (c : Fin 128 → EReal) : EReal := Finset.univ.fold max ⊥ c

/-- The lowest lane holding the greatest entry. -/
def first (c : Fin 128 → EReal) : BitVec 32 :=
  Finset.univ.fold IntOp.minsi 2147483647#32 fun x : Fin 128 => if c x = best c then BitVec.ofNat 32 x.val else 128#32

theorem best_eq {c : Fin 128 → EReal} {s : Fin 128} (ha : ∀ L, c L ≤ c s) : best c = c s := by
  refine le_antisymm ?_ ?_
  · unfold best
    rw [Finset.fold_max_le]
    exact ⟨bot_le, fun L _ => ha L⟩
  · unfold best
    rw [Finset.le_fold_max]
    exact Or.inr ⟨s, Finset.mem_univ _, le_rfl⟩

theorem toInt_lane (L : Fin 128) : (BitVec.ofNat 32 L.val).toInt = L.val := by
  have := L.isLt
  rw [BitVec.toInt_eq_toNat_cond, BitVec.toNat_ofNat, Nat.mod_eq_of_lt (by omega), if_pos (by omega)]

theorem first_eq {c : Fin 128 → EReal} {s : Fin 128} (ha : ∀ L, c L ≤ c s) (hb : ∀ L, c L = c s → s ≤ L) :
    first c = BitVec.ofNat 32 s.val := by
  apply BitVec.eq_of_toInt_eq
  have h := Finset.fold_hom (s := (Finset.univ : Finset (Fin 128))) (op := IntOp.minsi) (op' := (min : ℤ → ℤ → ℤ)) (m := BitVec.toInt)
    (f := fun x : Fin 128 => if c x = best c then BitVec.ofNat 32 x.val else 128#32) (b := 2147483647#32)
    (fun x y => SortNet.toInt_minsi x y)
  unfold first
  rw [← h, toInt_lane]
  have hs := s.isLt
  have hval : ∀ x : Fin 128, (s.val : ℤ) ≤ (if c x = best c then BitVec.ofNat 32 x.val else 128#32).toInt := by
    intro x
    split
    · next e =>
      rw [toInt_lane]
      have := hb x (e.trans (best_eq ha))
      exact_mod_cast this
    · show (s.val : ℤ) ≤ 128
      omega
  refine le_antisymm ?_ ?_
  · rw [Finset.fold_min_le]
    refine Or.inr ⟨s, Finset.mem_univ _, ?_⟩
    rw [if_pos (best_eq ha).symm, toInt_lane]
  · rw [Finset.le_fold_min]
    refine ⟨?_, fun x _ => hval x⟩
    show (s.val : ℤ) ≤ 2147483647
    omega

theorem ofNat_lane (L s : Fin 128) : BitVec.ofNat 32 L.val = BitVec.ofNat 32 s.val ↔ L = s := by
  refine ⟨fun h => ?_, fun h => by rw [h]⟩
  have := congrArg BitVec.toInt h
  rw [toInt_lane, toInt_lane] at this
  exact Fin.ext (by exact_mod_cast this)

/-- One round takes the lane `s`, if its entry is above `⊥`. -/
theorem pick_iff {c : Fin 128 → EReal} {s : Fin 128} (ha : ∀ L, c L ≤ c s) (hb : c s ≠ ⊥ → ∀ L, c L = c s → s ≤ L) (L : Fin 128) :
    (BitVec.ofNat 32 L.val = first c ∧ ⊥ < best c) ↔ (L = s ∧ c s ≠ ⊥) := by
  rw [best_eq ha, bot_lt_iff_ne_bot]
  by_cases h : c s = ⊥
  · simp [h]
  · rw [first_eq ha (hb h), ofNat_lane]

variable (G : Fin 16 → EReal) (σ : Fin 3 → Fin 16)

/-- `a` stands before `b`: the greater entry, of equal entries the lower place. -/
def Before (a b : Fin 16) : Prop := G b < G a ∨ (G a = G b ∧ a < b)

/-- `σ` lists the three first places. -/
structure Firsts : Prop where
  inj : Function.Injective σ
  ord : ∀ (r : Fin 3) (p : Fin 16), p ≠ σ r → (∀ j, j < r → p ≠ σ j) → Before G (σ r) p

/-- A place as a lane. -/
def lane (n : Fin 16) : Fin 128 := ⟨n.val, by omega⟩

theorem lane_inj {a b : Fin 16} : lane a = lane b ↔ a = b := by
  unfold lane
  simp [Fin.ext_iff]

/-- The entries over the lanes, `⊥` past the sixteenth. -/
def lanes (L : Fin 128) : EReal := if h : L.val < 16 then G ⟨L.val, h⟩ else ⊥

theorem lanes_lane (n : Fin 16) : lanes G (lane n) = G n := by
  unfold lanes lane
  exact dif_pos n.isLt

theorem eq_lane {L : Fin 128} (h : L.val < 16) : L = lane ⟨L.val, h⟩ := rfl

/-- The entries after `r` rounds. -/
def rest (r : ℕ) (L : Fin 128) : EReal := if ∃ j : Fin 3, j.val < r ∧ L = lane (σ j) then ⊥ else lanes G L

variable {G σ}

theorem rest_zero : rest G σ 0 = lanes G := by
  funext L
  unfold rest
  exact if_neg (by simp)

theorem rest_self (h : Firsts G σ) (r : Fin 3) : rest G σ r.val (lane (σ r)) = G (σ r) := by
  unfold rest
  rw [if_neg, lanes_lane]
  rintro ⟨j, hj, e⟩
  have := h.inj (lane_inj.1 e)
  omega

theorem rest_cases (r : ℕ) (L : Fin 128) :
    rest G σ r L = ⊥ ∨ ∃ p : Fin 16, L = lane p ∧ rest G σ r L = G p ∧ ∀ j : Fin 3, j.val < r → p ≠ σ j := by
  unfold rest
  split
  · exact Or.inl rfl
  · next hn =>
    by_cases hL : L.val < 16
    · refine Or.inr ⟨⟨L.val, hL⟩, rfl, dif_pos hL, fun j hj e => hn ⟨j, hj, ?_⟩⟩
      rw [eq_lane hL, e]
    · exact Or.inl (dif_neg hL)

/-- Round `r` takes the lane of the `r`-th place, if its entry is above `⊥`. -/
theorem pick_rest (h : Firsts G σ) (r : Fin 3) (L : Fin 128) :
    (BitVec.ofNat 32 L.val = first (rest G σ r.val) ∧ ⊥ < best (rest G σ r.val)) ↔ (L = lane (σ r) ∧ G (σ r) ≠ ⊥) := by
  rw [← rest_self h r]
  refine pick_iff (fun L => ?_) (fun hne L e => ?_) L
  · rcases rest_cases (G := G) (σ := σ) r.val L with hL | ⟨p, rfl, hp, hj⟩
    · rw [hL]; exact bot_le
    · rw [hp, rest_self h]
      by_cases e : p = σ r
      · rw [e]
      · rcases h.ord r p e (fun j hjr => hj j hjr) with h1 | ⟨h1, -⟩
        · exact h1.le
        · exact h1.ge
  · rcases rest_cases (G := G) (σ := σ) r.val L with hL | ⟨p, rfl, hp, hj⟩
    · exact absurd (e.symm.trans hL) hne
    · rw [hp, rest_self h] at e
      by_cases e' : p = σ r
      · rw [e']
      · rcases h.ord r p e' (fun j hjr => hj j hjr) with h1 | ⟨-, h1⟩
        · exact absurd e h1.ne
        · exact h1.le

/-- The entries after one more round. -/
theorem rest_succ (h : Firsts G σ) (r : Fin 3) (L : Fin 128) :
    rest G σ (r.val + 1) L = if L = lane (σ r) ∧ G (σ r) ≠ ⊥ then ⊥ else rest G σ r.val L := by
  by_cases e : L = lane (σ r)
  · have e1 : rest G σ (r.val + 1) L = ⊥ := by
      unfold rest
      exact if_pos ⟨r, by omega, e⟩
    rw [e1]
    split
    · rfl
    · next hn =>
      rw [e, rest_self h]
      by_contra hb
      exact hn ⟨e, fun hb' => hb hb'.symm⟩
  · rw [if_neg (fun hh => e hh.1)]
    unfold rest
    refine if_congr ⟨?_, ?_⟩ rfl rfl
    · rintro ⟨j, hj, ej⟩
      refine ⟨j, ?_, ej⟩
      rcases Nat.lt_succ_iff_lt_or_eq.1 hj with h1 | h1
      · exact h1
      · exact absurd (ej.trans (by rw [Fin.ext h1])) e
    · rintro ⟨j, hj, ej⟩
      exact ⟨j, by omega, ej⟩

/-- With real entries at the places below `i` alone, the `r`-th place is one of these exactly for `r < i`. -/
theorem valid_iff (h : Firsts G σ) {i : ℕ} (hi : i ≤ 16) (hG : ∀ n : Fin 16, G n ≠ ⊥ ↔ n.val < i) (r : Fin 3) : (σ r).val < i ↔ r.val < i := by
  constructor
  · intro hr
    by_contra hri
    have hall : ∀ j : Fin 3, j ≤ r → (σ j).val < i := by
      intro j hj
      by_contra hji
      have e1 : G (σ j) = ⊥ := by
        by_contra hb
        exact hji ((hG _).1 hb)
      rcases eq_or_lt_of_le hj with rfl | hlt
      · exact hji hr
      · rcases h.ord j (σ r) (fun e => by have := h.inj e; omega) (fun k hk e => by have := h.inj e; omega) with h1 | ⟨h1, -⟩
        · rw [e1] at h1
          exact absurd h1 not_lt_bot
        · rw [e1] at h1
          exact (hG _).2 hr h1.symm
    have hc := Finset.card_le_card_of_injOn (s := Finset.Iic r) (t := Finset.univ.filter fun n : Fin 16 => n.val < i) σ
      (fun j hj => by simpa using hall j (by simpa using hj)) (h.inj.injOn)
    have h2 : (Finset.univ.filter fun n : Fin 16 => n.val < i).card ≤ i := by
      calc _ = ((Finset.univ.filter fun n : Fin 16 => n.val < i).map Fin.valEmbedding).card := (Finset.card_map _).symm
        _ ≤ (Finset.range i).card := Finset.card_le_card (fun n hn => by
            simp only [Finset.mem_map, Finset.mem_filter, Finset.mem_univ, true_and] at hn
            obtain ⟨a, ha, rfl⟩ := hn
            simpa using ha)
        _ = i := Finset.card_range i
    rw [Fin.card_Iic] at hc
    omega
  · intro hr
    by_contra hn
    have e1 : G (σ r) = ⊥ := by
      by_contra hb
      exact hn ((hG _).1 hb)
    have hex : ∃ p : Fin 16, p.val < i ∧ ∀ j, j < r → p ≠ σ j := by
      by_contra hno
      push Not at hno
      have hc := Finset.card_le_card (s := Finset.univ.filter fun n : Fin 16 => n.val < i) (t := (Finset.Iio r).image σ) (fun p hp => by
        simp only [Finset.mem_filter, Finset.mem_univ, true_and] at hp
        obtain ⟨j, hj, e⟩ := hno p hp
        exact Finset.mem_image.2 ⟨j, by simpa using hj, e.symm⟩)
      have h2 : i ≤ (Finset.univ.filter fun n : Fin 16 => n.val < i).card := by
        calc i = (Finset.univ : Finset (Fin i)).card := by simp
          _ ≤ _ := Finset.card_le_card_of_injOn (fun a : Fin i => (⟨a.val, by omega⟩ : Fin 16)) (fun a _ => by simp)
            (fun a _ b _ e => by simpa [Fin.ext_iff] using e)
      have h3 := Finset.card_image_le (s := Finset.Iio r) (f := σ)
      rw [Fin.card_Iio] at h3
      omega
    obtain ⟨p, hp, hj⟩ := hex
    rcases h.ord r p (fun e => hn (e ▸ hp)) hj with h1 | ⟨h1, -⟩
    · rw [e1] at h1
      exact absurd h1 not_lt_bot
    · exact (hG p).2 hp (h1.symm.trans e1)

/-- The number of entries below an entry. -/
def rank (G : Fin 16 → EReal) (n : Fin 16) : ℕ := (Finset.univ.filter fun p => G p < G n).card

theorem rank_lt (G : Fin 16 → EReal) (a b : Fin 16) : rank G b < rank G a ↔ G b < G a := by
  constructor
  · intro h
    by_contra hn
    have : rank G a ≤ rank G b := Finset.card_le_card fun p hp => by
      simp only [Finset.mem_filter, Finset.mem_univ, true_and] at hp ⊢
      exact hp.trans_le (not_lt.1 hn)
    omega
  · intro h
    refine Finset.card_lt_card ⟨fun p hp => ?_, fun hs => ?_⟩
    · simp only [Finset.mem_filter, Finset.mem_univ, true_and] at hp ⊢
      exact hp.trans h
    · have := hs (Finset.mem_filter.2 ⟨Finset.mem_univ b, h⟩)
      simp at this

/-- The first three entries of a list of all the places, in the order "the greater entry, then the lower place". -/
theorem firsts_list (G : Fin 16 → EReal) (l : List (Fin 16)) (hl : l.length = 16) (hpw : l.Pairwise (PlanTiles.Lex (rank G) (· < ·)))
    (hnd : l.Nodup) (hmem : ∀ p, p ∈ l) (σ : Fin 3 → Fin 16) (hσ : ∀ r : Fin 3, σ r = l[r.val]'(by omega)) : Firsts G σ := by
  refine ⟨fun r r' e => ?_, fun r p hp hj => ?_⟩
  · rw [hσ, hσ] at e
    exact Fin.ext ((List.Nodup.getElem_inj_iff hnd).1 e)
  · obtain ⟨q, hq, e⟩ := List.getElem_of_mem (hmem p)
    have hrq : r.val < q := by
      by_contra hn
      rcases Nat.lt_or_eq_of_le (not_lt.1 hn) with h1 | h1
      · exact hj ⟨q, by omega⟩ h1 (by rw [hσ]; exact e.symm)
      · subst h1
        exact hp (by rw [hσ]; exact e.symm)
    have h2 := List.pairwise_iff_getElem.1 hpw r.val q (by omega) hq hrq
    rw [e, ← hσ] at h2
    rcases h2 with h2 | ⟨h2, h3⟩
    · exact Or.inl ((rank_lt G _ _).1 h2)
    · refine Or.inr ⟨?_, h3⟩
      refine le_antisymm ?_ ?_
      · by_contra hh
        exact absurd ((rank_lt G _ _).2 (not_le.1 hh)) (by omega)
      · by_contra hh
        exact absurd ((rank_lt G _ _).2 (not_le.1 hh)) (by omega)

/-- The first three places of the sort by the greater entry. -/
theorem firsts_sorted (G : Fin 16 → EReal) (B : Fin 16 → Fin 16 → Bool) (hB : ∀ a b, B a b = decide (G b < G a)) :
    Firsts G fun r : Fin 3 => sortedFrom B ⟨r.val, by omega⟩ := by
  have eB : B = fun a b => decide (rank G b < rank G a) := by
    funext a b
    rw [hB]
    exact decide_eq_decide.2 (rank_lt G a b).symm
  have hpw : (sortPositions 16 B).Pairwise (PlanTiles.Lex (rank G) (· < ·)) := by
    rw [eB]
    exact PlanTiles.pairwise_stableSort_lex (rank G) (· < ·) (List.finRange 16) (List.pairwise_lt_finRange 16)
  have hperm : (sortPositions 16 B).Perm (List.finRange 16) := perm_stableSort B _
  have hnd : (sortPositions 16 B).Nodup := hperm.nodup_iff.2 (List.nodup_finRange 16)
  exact firsts_list G _ (length_sortPositions 16 B) hpw hnd (fun p => hperm.mem_iff.2 (List.mem_finRange p)) _ fun r => rfl

end Cert.MobaPick

end
-- ==== Proof.MobaSpec.lean ====
/- The block attention's scores and gates over the extended reals, in the words in which both programs are read. -/
module

public import proofs.«01_k».proof.Proof.MlaSpec
public import proofs.«01_k».proof.Proof.MobaPick

@[expose] public section

noncomputable section

namespace Cert.MobaSpec

open Idealize.ShloMosaic

/-- The product of a query with a key or with a block's mean key. -/
def gate (q k : Fin 128 → EReal) : EReal := ∑ d, q d * k d

/-- A score: the product, scaled. -/
def dots (q k : Fin 128 → EReal) : EReal := gate q k * Ideal.ofBits .f32 0x3DB504F3#32

/-- The gates of the blocks before block `i`: `⊥` at the others. -/
def past (i : ℕ) (g : Fin 16 → EReal) (n : Fin 16) : EReal := if n.val < i then g n else ⊥

theorem gate_real {q k : Fin 128 → EReal} (hq : ∀ d, ∃ x : ℝ, q d = x) (hk : ∀ d, ∃ x : ℝ, k d = x) : ∃ x : ℝ, gate q k = x := by
  choose a ha using hq
  choose b hb using hk
  have e : ∀ T : Finset (Fin 128), ∑ d ∈ T, q d * k d = ((∑ d ∈ T, a d * b d : ℝ) : EReal) := by
    intro T
    induction T using Finset.induction_on with
    | empty => simp
    | insert d T hd ih => rw [Finset.sum_insert hd, Finset.sum_insert hd, ih, ha, hb, EReal.coe_add, EReal.coe_mul]
  exact ⟨_, e _⟩

theorem scale_real : ∃ x : ℝ, (Ideal.ofBits .f32 0x3DB504F3#32 : EReal) = x := by
  simp [Ideal.ofBits, Ideal.ieee]
  exact ⟨_, (EReal.coe_mul _ _).symm⟩

theorem dots_real {q k : Fin 128 → EReal} (hq : ∀ d, ∃ x : ℝ, q d = x) (hk : ∀ d, ∃ x : ℝ, k d = x) : ∃ x : ℝ, dots q k = x := by
  obtain ⟨x, hx⟩ := gate_real hq hk
  obtain ⟨s, hs⟩ := scale_real
  exact ⟨x * s, by rw [dots, hx, hs, EReal.coe_mul]⟩

/-- The word a round's choice is printed as. -/
def pickw (c : Fin 128 → EReal) (L : Fin 128) : BitVec 1 :=
  IntOp.andi (IntOp.cmpi .eq (BitVec.ofNat 32 L.val) (MobaPick.first c)) (BitVec.ofBool (decide (⊥ < MobaPick.best c)))

theorem select_pickw {α : Type} (c : Fin 128 → EReal) (L : Fin 128) (x y : α) :
    Scalar.select (pickw c L) x y = if BitVec.ofNat 32 L.val = MobaPick.first c ∧ ⊥ < MobaPick.best c then x else y := by
  unfold pickw
  by_cases h1 : BitVec.ofNat 32 L.val = MobaPick.first c
  · by_cases h2 : ⊥ < MobaPick.best c <;> simp [h1, h2, Scalar.select, IntOp.andi, IntOp.cmpi]
  · have h1' : (BitVec.ofNat 32 L.val == MobaPick.first c) = false := beq_eq_false_iff_ne.2 h1
    by_cases h2 : ⊥ < MobaPick.best c <;> simp [h1, h1', h2, Scalar.select, IntOp.andi, IntOp.cmpi]

end Cert.MobaSpec

end
-- ==== Proof.MobaPay.lean ====
/- The block attention kernel's payloads at one index, over the extended reals: gates, the three rounds of the selection, scores, maxima, sums and
   weighted sums. -/
module

public import proofs.«01_k».proof.Proof.Gen.Kernel5Ideal.Skeleton
public import proofs.«01_k».proof.Proof.MobaSpec
public import Idealize.ShloMosaic.Lib.Pipeline.ValueKit

@[expose] public section

set_option maxRecDepth 16384

noncomputable section

namespace Cert.Kernel5Ideal.Moba

open Cert.Kernel5Ideal Cert.Kernel5Ideal.Gen Idealize.ShloMosaic Cert.MobaSpec

theorem mask_bot : (Named.named κ "mask" 4048155338#32 : Ideal .f32) = (⊥ : EReal) := IdealRules.named_const.ideal_named_scalar _ _ _ _ rfl

/-! ## Gates and selection -/

theorem pay108_at (q : Vec Ideal S1x256x128 .bf16) (r : Fin 256) (d : Fin 128) : k0_pay108 (F := Ideal) q (ix2 r d) = q (ix3 0 r d) := by
  pointwise [k0_pay108]

theorem pay109_at (i : grid0.Coords) (q : Vec Ideal S1x256x128 .bf16) (g : Vec Ideal S1x128x128 .f32) (r : Fin 256) (L : Fin 128) :
    k0_pay109 (F := Ideal) i q g (ix2 r L)
      = if L.val < (i 2).val then gate (fun d => q (ix3 0 r d)) (fun d => g (ix3 0 L d)) else ⊥ := by
  have hi : (i 2).val < 16 := (i 2).isLt
  pointwise [k0_pay109, k0_pay108, MlaSpec.neg_inf, gate]
  rw [WordCmp.cmpi_slt_ofNat (by norm_num; omega) (by norm_num; omega)]
  by_cases h : L.val < (i 2).val
  · rw [if_pos h, decide_eq_true h]
    rfl
  · rw [if_neg h, decide_eq_false h]
    rfl

theorem pay110_at (i : grid0.Coords) (v0 : Vec Ideal S1x256x128 .bf16) (v2 : Vec Ideal S1x128x128 .f32) (r : Fin 256) (L : Fin 128) :
    k0_pay110 (F := Ideal) i v0 v2 (ix2 r L) = pickw (fun x => k0_pay109 (F := Ideal) i v0 v2 (ix2 r x)) L := by
  unfold k0_pay110
  generalize k0_pay109 i v0 v2 = c
  pointwise [MlaSpec.neg_inf]
  rfl

theorem pay111_at (i : grid0.Coords) (v0 : Vec Ideal S1x256x128 .bf16) (v2 : Vec Ideal S1x128x128 .f32) (r : Fin 256) (L : Fin 128) :
    k0_pay111 (F := Ideal) i v0 v2 (ix2 r L) = Scalar.select (pickw (fun x => k0_pay109 (F := Ideal) i v0 v2 (ix2 r x)) L) (1 : EReal) 0 := by
  pointwise [k0_pay111, pay110_at]

theorem pay112_at (i : grid0.Coords) (v0 : Vec Ideal S1x256x128 .bf16) (v2 : Vec Ideal S1x128x128 .f32) (r : Fin 256) (L : Fin 128) :
    k0_pay112 (F := Ideal) i v0 v2 (ix2 r L)
      = Scalar.select (pickw (fun x => k0_pay109 (F := Ideal) i v0 v2 (ix2 r x)) L) (⊥ : EReal) (k0_pay109 (F := Ideal) i v0 v2 (ix2 r L)) := by
  pointwise [k0_pay112, pay110_at, MlaSpec.neg_inf]

theorem pay113_at (i : grid0.Coords) (v0 : Vec Ideal S1x256x128 .bf16) (v2 : Vec Ideal S1x128x128 .f32) (r : Fin 256) (z : Fin 1) :
    k0_pay113 (F := Ideal) i v0 v2 (ix2 r z) = MobaPick.best fun x => k0_pay112 (F := Ideal) i v0 v2 (ix2 r x) := by
  unfold k0_pay113
  generalize k0_pay112 i v0 v2 = c
  pointwise [MlaSpec.neg_inf]
  rfl

theorem pay114_at (i : grid0.Coords) (v0 : Vec Ideal S1x256x128 .bf16) (v2 : Vec Ideal S1x128x128 .f32) (r : Fin 256) (L : Fin 128) :
    k0_pay114 (F := Ideal) i v0 v2 (ix2 r L) = MobaPick.first fun x => k0_pay112 (F := Ideal) i v0 v2 (ix2 r x) := by
  unfold k0_pay114 k0_pay113
  generalize k0_pay112 i v0 v2 = c
  pointwise [MlaSpec.neg_inf]
  rfl

theorem iota_at (r : Fin 256) (L : Fin 128) : iota Kind.tc S256x128 32 [1] iota_S256x128_d1_w32 (ix2 r L) = BitVec.ofNat 32 L.val := by
  pointwise []

theorem pay115_at (v27 : FVec Ideal S256x128 .f32) (v29 : FVec Ideal S256x128 .f32) (v31 : FVec Ideal S256x1 .f32) (v38 : IVec S256x128 32)
    (r : Fin 256) (L : Fin 128) (c : Fin 128 → EReal) (h29 : ∀ x, v29 (ix2 r x) = c x) (h31 : v31 (ix2 r 0) = MobaPick.best c)
    (h38 : ∀ x, v38 (ix2 r x) = MobaPick.first c) :
    k0_pay115 (F := Ideal) (iota Kind.tc S256x128 32 [1] iota_S256x128_d1_w32) v27 v29 v31 v38 (ix2 r L)
      = Scalar.select (pickw (fun x => Scalar.select (pickw c x) (⊥ : EReal) (c x)) L) (1 : EReal) (Scalar.select (pickw c L) (1 : EReal) (v27 (ix2 r L))) := by
  pointwise [k0_pay115, MlaSpec.neg_inf]
  simp only [h29, h31, h38]
  rfl

/-! ## Scores and sums of an earlier block -/

theorem pay4_at (q : FVec Ideal S256x128 .bf16) (k : Vec Ideal S1x256x128 .bf16) (s : Vec Ideal S256x1 .f32) (r j : Fin 256) :
    k0_pay4 (F := Ideal) q k s (ix2 r j)
      = if (0 : EReal) < s (ix2 r 0) then dots (fun d => q (ix2 r d)) (fun d => k (ix3 0 j d)) else ⊥ := by
  have e : k0_pay4 (F := Ideal) q k s (ix2 r j)
      = Scalar.select (BitVec.ofBool (decide ((0 : EReal) < s (ix2 r 0)))) (dots (fun d => q (ix2 r d)) (fun d => k (ix3 0 j d))) (⊥ : EReal) := by
    rw [← mask_bot]
    pointwise [k0_pay4, dots, gate]
  rw [e]
  by_cases h : (0 : EReal) < s (ix2 r 0)
  · rw [if_pos h, decide_eq_true h]
    rfl
  · rw [if_neg h, decide_eq_false h]
    rfl

theorem pay5_at (q : FVec Ideal S256x128 .bf16) (k : Vec Ideal S1x256x128 .bf16) (s m : Vec Ideal S256x1 .f32) (r : Fin 256) (z : Fin 1) :
    k0_pay5 (F := Ideal) q k s m (ix2 r z) = max (m (ix2 r z)) (Finset.univ.fold max ⊥ fun j => k0_pay4 (F := Ideal) q k s (ix2 r j)) := by
  pointwise [k0_pay5, MlaSpec.neg_inf]

theorem pay8_at (q : FVec Ideal S256x128 .bf16) (k : Vec Ideal S1x256x128 .bf16) (s m : Vec Ideal S256x1 .f32) (r : Fin 256) (z : Fin 1) :
    k0_pay8 (F := Ideal) q k s m (ix2 r z) = k0_pay5 (F := Ideal) q k s m (ix2 r z) := by
  pointwise [k0_pay8]

theorem pay9_at (q : FVec Ideal S256x128 .bf16) (k : Vec Ideal S1x256x128 .bf16) (s m l : Vec Ideal S256x1 .f32) (r : Fin 256) :
    k0_pay9 (F := Ideal) q k s m l (ix2 r 0)
      = Softmax.w (m (ix2 r 0)) (k0_pay5 (F := Ideal) q k s m (ix2 r 0)) * l (ix2 r 0)
        + ∑ j, Softmax.w (k0_pay4 (F := Ideal) q k s (ix2 r j)) (k0_pay5 (F := Ideal) q k s m (ix2 r 0)) := by
  pointwise [k0_pay9, k0_pay6, k0_pay7, Softmax.w]

theorem pay1_at (q : FVec Ideal S256x128 .bf16) (k v : Vec Ideal S1x256x128 .bf16) (s m : Vec Ideal S256x1 .f32) (a : Vec Ideal S256x128 .f32)
    (r : Fin 256) (d : Fin 128) :
    k0_pay1 (F := Ideal) (k0_pay3 v) (k0_pay6 q k s m) (k0_pay7 q k s m) a (ix2 r d)
      = Softmax.w (m (ix2 r 0)) (k0_pay5 (F := Ideal) q k s m (ix2 r 0)) * a (ix2 r d)
        + ∑ j, Softmax.w (k0_pay4 (F := Ideal) q k s (ix2 r j)) (k0_pay5 (F := Ideal) q k s m (ix2 r 0)) * v (ix3 0 j d) := by
  pointwise [k0_pay1, k0_pay3, k0_pay6, k0_pay7, Softmax.w]

/-! ## The own block -/

/-- The own block's scores. -/
abbrev ownS (q : Vec Ideal S1x256x128 .bf16) (k : Vec Ideal S1x256x128 .bf16) : FVec Ideal S256x256 .f32 :=
  k0_pay119 (F := Ideal) (k0_pay117 (k0_pay108 q) k) k0_pay118 (Named.named κ "mask" 4048155338#32)

/-- The own block's maxima. -/
abbrev ownM (q : Vec Ideal S1x256x128 .bf16) (k : Vec Ideal S1x256x128 .bf16) : FVec Ideal S256x1 .f32 :=
  k0_pay120 (F := Ideal) (k0_pay117 (k0_pay108 q) k) k0_pay118 (Named.named κ "mask" 4048155338#32)

theorem ownS_at (q k : Vec Ideal S1x256x128 .bf16) (r j : Fin 256) :
    ownS q k (ix2 r j) = if j.val ≤ r.val then dots (fun d => q (ix3 0 r d)) (fun d => k (ix3 0 j d)) else ⊥ := by
  pointwise [ownS, k0_pay119, k0_pay117, k0_pay118, k0_pay108, dots, gate]
  exact MlaSpec.causal (by omega) (by omega) _ _ mask_bot

theorem ownM_at (q k : Vec Ideal S1x256x128 .bf16) (r : Fin 256) (z : Fin 1) :
    ownM q k (ix2 r z) = Finset.univ.fold max ⊥ fun j => ownS q k (ix2 r j) := by
  pointwise [ownM, k0_pay120, MlaSpec.neg_inf]

theorem pay122_at (q k : Vec Ideal S1x256x128 .bf16) (r : Fin 256) (z : Fin 1) :
    k0_pay122 (F := Ideal) (k0_pay117 (k0_pay108 q) k) k0_pay118 (Named.named κ "mask" 4048155338#32) (ix2 r z) = ownM q k (ix2 r z) := by
  pointwise [k0_pay122]

theorem pay123_at (q k : Vec Ideal S1x256x128 .bf16) (r : Fin 256) :
    k0_pay123 (F := Ideal) (k0_pay117 (k0_pay108 q) k) k0_pay118 (Named.named κ "mask" 4048155338#32) (ix2 r 0)
      = ∑ j, Softmax.w (ownS q k (ix2 r j)) (ownM q k (ix2 r 0)) := by
  pointwise [k0_pay123, k0_pay121, Softmax.w]

theorem pay124_at (q k v : Vec Ideal S1x256x128 .bf16) (r : Fin 256) (d : Fin 128) :
    k0_pay124 (F := Ideal) (k0_pay116 v) (k0_pay117 (k0_pay108 q) k) k0_pay118 (Named.named κ "mask" 4048155338#32) (ix2 r d)
      = ∑ j, Softmax.w (ownS q k (ix2 r j)) (ownM q k (ix2 r 0)) * v (ix3 0 j d) := by
  pointwise [k0_pay124, k0_pay121, k0_pay116, Softmax.w]

theorem pay2_at (a : Vec Ideal S256x128 .f32) (l : Vec Ideal S256x1 .f32) (r : Fin 256) (d : Fin 128) :
    k0_pay2 (F := Ideal) a l (ix3 0 r d) = Ideal.div (a (ix2 r d)) (l (ix2 r 0)) := by
  pointwise [k0_pay2]

end Cert.Kernel5Ideal.Moba

end
-- ==== Proof.MobaClose.lean ====
/- The row's value of the block attention: three blocks, each a slot that may be empty, and the query's own block, in one softmax. -/
module

public import proofs.«01_k».proof.Proof.Softmax

@[expose] public section

noncomputable section

namespace Cert.MobaClose

open Idealize.ShloMosaic Cert.Softmax

/-- The scores of the three slots, then the own block's. -/
def cat (P : Fin 3 → Fin 256 → EReal) (O : Fin 256 → EReal) (J : Fin 1024) : EReal :=
  if h : J.val < 768 then P ⟨J.val / 256, by omega⟩ ⟨J.val % 256, Nat.mod_lt _ (by norm_num)⟩ else O ⟨J.val - 768, by omega⟩

/-- The greatest score of a row. -/
def top (S : Fin 1024 → EReal) : EReal := Finset.univ.fold max ⊥ S

/-- The row's value in one column of the values, against the reference `M`. -/
def valueAt (P : Fin 3 → Fin 256 → EReal) (O : Fin 256 → EReal) (U : Fin 3 → Fin 256 → EReal) (W : Fin 256 → EReal) (M : EReal) : EReal :=
  (∑ a, ∑ c, Ideal.div (w (P a c) M) (∑ J, w (cat P O J) M) * U a c) + ∑ c, Ideal.div (w (O c) M) (∑ J, w (cat P O J) M) * W c

/-- The row's value in one column of the values. -/
def value (P : Fin 3 → Fin 256 → EReal) (O : Fin 256 → EReal) (U : Fin 3 → Fin 256 → EReal) (W : Fin 256 → EReal) : EReal :=
  valueAt P O U W (top (cat P O))

theorem sum_parts (f : Fin 1024 → EReal) :
    ∑ J, f J = (∑ J : Fin 768, f ⟨J.val, by omega⟩) + ∑ c : Fin 256, f ⟨768 + c.val, by omega⟩ :=
  Fin.sum_univ_add (a := 768) (b := 256) f

theorem sum_cat (P : Fin 3 → Fin 256 → EReal) (O : Fin 256 → EReal) (f : EReal → EReal) :
    ∑ J, f (cat P O J) = (∑ a, ∑ c, f (P a c)) + ∑ c, f (O c) := by
  have e := sum_parts fun J => f (cat P O J)
  rw [e]
  refine congrArg₂ (· + ·) ?_ ?_
  · rw [← Finset.sum_product']
    refine Finset.sum_nbij' (fun J : Fin 768 => ((⟨J.val / 256, by omega⟩ : Fin 3), (⟨J.val % 256, Nat.mod_lt _ (by norm_num)⟩ : Fin 256)))
      (fun p => (⟨256 * p.1.val + p.2.val, by omega⟩ : Fin 768)) (by simp) (by simp) ?_ ?_ ?_
    · intro J _
      ext
      exact Nat.div_add_mod J.val 256
    · rintro ⟨b, c⟩ _
      ext
      · show (256 * b.val + c.val) / 256 = b.val
        omega
      · show (256 * b.val + c.val) % 256 = c.val
        omega
    · intro J _
      show f (cat P O ⟨J.val, _⟩) = _
      unfold cat
      rw [dif_pos (show J.val < 768 from J.isLt)]
  · refine Finset.sum_congr rfl fun c _ => ?_
    unfold cat
    rw [dif_neg (show ¬ 768 + c.val < 768 by omega)]
    refine congrArg f (congrArg O (Fin.ext ?_))
    show 768 + c.val - 768 = c.val
    omega

/-- The blocks before `i`, the chosen ones alone counting. -/
theorem sum_chosen {i : ℕ} (g : ℕ → EReal) (σ : Fin 3 → Fin 16) (hσ : Function.Injective σ) (hlt : ∀ a, (σ a).val < i ↔ a.val < i)
    (hun : ∀ n, n < i → (∀ a, n ≠ (σ a).val) → g n = 0) :
    ∑ b ∈ Finset.range i, g b = ∑ a : Fin 3, if a.val < i then g (σ a).val else 0 := by
  rw [← Finset.sum_filter]
  have e : ∑ a ∈ Finset.univ.filter (fun a : Fin 3 => a.val < i), g (σ a).val
      = ∑ b ∈ (Finset.univ.filter (fun a : Fin 3 => a.val < i)).image (fun a => (σ a).val), g b := by
    rw [Finset.sum_image]
    intro a _ b _ hab
    exact hσ (Fin.ext hab)
  rw [e]
  symm
  refine Finset.sum_subset (fun b hb => ?_) (fun b hb hn => ?_)
  · obtain ⟨a, ha, rfl⟩ := Finset.mem_image.1 hb
    exact Finset.mem_range.2 ((hlt a).2 (Finset.mem_filter.1 ha).2)
  · have hbi := Finset.mem_range.1 hb
    refine hun b hbi fun a hab => hn (Finset.mem_image.2 ⟨a, Finset.mem_filter.2 ⟨Finset.mem_univ _, ?_⟩, hab.symm⟩)
    exact (hlt a).1 (hab ▸ hbi)

variable {S V : ℕ → Fin 256 → EReal}

/-- The row's value from the state after all its blocks. -/
theorem closeAt {i : ℕ} (σ : Fin 3 → Fin 16) (hσ : Function.Injective σ) (hlt : ∀ a, (σ a).val < i ↔ a.val < i)
    (hun : ∀ n, n < i → (∀ a, n ≠ (σ a).val) → ∀ c, S n c = ⊥) {P U : Fin 3 → Fin 256 → EReal}
    (hP : ∀ a c, P a c = if a.val < i then S (σ a).val c else ⊥) (hU : ∀ a c, U a c = V (σ a).val c)
    (h : ∀ b ∈ insert i (Finset.range i), ∀ c, S b c ≠ ⊤) {c₀ : Fin 256} (hr : S i c₀ ≠ ⊥) {m l a : EReal}
    (hI : Inv S V (insert i (Finset.range i)) m l a) (M' : ℝ) :
    Ideal.div a l = valueAt P (S i) U (V i) M' := by
  obtain ⟨M, rfl, rfl, rfl⟩ := hI
  have hi' : i ∈ insert i (Finset.range i) := Finset.mem_insert_self _ _
  have hni : i ∉ Finset.range i := by simp
  have hw : ∀ a c, w (P a c) M' = if a.val < i then w (S (σ a).val c) M' else 0 := by
    intro a c
    rw [hP]
    split
    · rfl
    · exact w_bot M'
  have hden : ∑ J, w (cat P (S i) J) M' = den S (insert i (Finset.range i)) M' := by
    rw [sum_cat P (S i) (fun s => w s M'), den, Finset.sum_insert hni, add_comm]
    refine congrArg₂ (· + ·) rfl ?_
    rw [sum_chosen (fun b => ∑ c, w (S b c) M') σ hσ hlt fun n hn hne => Finset.sum_eq_zero fun c _ => by rw [hun n hn hne c, w_bot]]
    refine Finset.sum_congr rfl fun a _ => ?_
    split
    · exact Finset.sum_congr rfl fun c _ => by rw [hw, if_pos (by assumption)]
    · exact Finset.sum_eq_zero fun c _ => by rw [hw, if_neg (by assumption)]
  have hnum : (∑ a, ∑ c, w (P a c) M' * U a c) + ∑ c, w (S i c) M' * V i c = num S V (insert i (Finset.range i)) M' := by
    rw [num, Finset.sum_insert hni, add_comm]
    refine congrArg₂ (· + ·) rfl ?_
    rw [sum_chosen (fun b => ∑ c, w (S b c) M' * V b c) σ hσ hlt
      fun n hn hne => Finset.sum_eq_zero fun c _ => by rw [hun n hn hne c, w_bot, zero_mul]]
    refine Finset.sum_congr rfl fun a _ => ?_
    split
    · exact Finset.sum_congr rfl fun c _ => by rw [hw, if_pos (by assumption), hU]
    · exact Finset.sum_eq_zero fun c _ => by rw [hw, if_neg (by assumption), zero_mul]
  rw [quot_shift h hi' hr M M', valueAt, hden, ← hnum]
  obtain ⟨x, hx, ex⟩ := den_real h hi' hr M'
  have hne : (x : EReal) ≠ 0 := by exact_mod_cast hx.ne'
  have h0 : (0 : EReal) ≤ ((x⁻¹ : ℝ) : EReal) := by exact_mod_cast (inv_pos.2 hx).le
  have hq : ∀ y z : EReal, Ideal.div y (x : EReal) * z = ((x⁻¹ : ℝ) : EReal) * (y * z) := by
    intro y z
    unfold Ideal.div
    rw [if_neg hne, ← EReal.coe_inv, ← mul_assoc, mul_comm ((x⁻¹ : ℝ) : EReal)]
  rw [ex, ← EReal.coe_inv, mul_comm, EReal.left_distrib_of_nonneg_of_ne_top h0 (EReal.coe_ne_top _)]
  simp only [hq]
  refine congrArg₂ (· + ·) ?_ ?_
  · rw [mul_sum h0 (EReal.coe_ne_top _)]
    exact Finset.sum_congr rfl fun a _ => mul_sum h0 (EReal.coe_ne_top _) _ _
  · exact mul_sum h0 (EReal.coe_ne_top _) _ _

/-- The row's value from the state after all its blocks, the greatest score as the reference. -/
theorem close {i : ℕ} (σ : Fin 3 → Fin 16) (hσ : Function.Injective σ) (hlt : ∀ a, (σ a).val < i ↔ a.val < i)
    (hun : ∀ n, n < i → (∀ a, n ≠ (σ a).val) → ∀ c, S n c = ⊥) {P U : Fin 3 → Fin 256 → EReal}
    (hP : ∀ a c, P a c = if a.val < i then S (σ a).val c else ⊥) (hU : ∀ a c, U a c = V (σ a).val c)
    (h : ∀ b ∈ insert i (Finset.range i), ∀ c, S b c ≠ ⊤) {c₀ : Fin 256} (hr : S i c₀ ≠ ⊥) {m l a : EReal}
    (hI : Inv S V (insert i (Finset.range i)) m l a) : Ideal.div a l = value P (S i) U (V i) := by
  have hc : ∀ J, cat P (S i) J ≠ ⊤ := by
    intro J
    unfold cat
    split
    · rw [hP]
      split
      · rename_i hJ hlt'
        exact h _ (Finset.mem_insert_of_mem (Finset.mem_range.2 ((hlt _).2 hlt'))) _
      · exact bot_ne_top
    · exact h i (Finset.mem_insert_self _ _) _
  have hb : cat P (S i) ⟨768 + c₀.val, by omega⟩ ≠ ⊥ := by
    unfold cat
    rw [dif_neg (show ¬ 768 + c₀.val < 768 by omega)]
    have ec : (⟨768 + c₀.val - 768, by omega⟩ : Fin 256) = c₀ := Fin.ext (by show 768 + c₀.val - 768 = c₀.val; omega)
    show S i ⟨768 + c₀.val - 768, _⟩ ≠ ⊥
    rw [ec]
    exact hr
  obtain ⟨M, hM⟩ := fold_real hc hb
  have := closeAt σ hσ hlt hun hP hU h hr hI M
  rw [this, value, top, hM]

end Cert.MobaClose

end
-- ==== Proof.MobaRow.lean ====
/- One row of the block attention, in the words in which both programs are read: the gates, the chosen blocks, the scores, the row's value. -/
module

public import proofs.«01_k».proof.Proof.MobaClose
public import proofs.«01_k».proof.Proof.MobaSpec

@[expose] public section

noncomputable section

namespace Cert.MobaRow

open Idealize.ShloMosaic Cert.MobaSpec

/-- The block in slot `a`: the first three places of the blocks sorted by the greater gate. -/
def chosen (G : Fin 16 → EReal) (a : Fin 3) : Fin 16 := sortedFrom (fun n n' => decide (G n' < G n)) ⟨a.val, by omega⟩

theorem chosen_firsts (G : Fin 16 → EReal) : MobaPick.Firsts G (chosen G) := MobaPick.firsts_sorted G _ fun _ _ => rfl

/-- The gates of a row of block `i`: the row against the mean keys of the blocks before. -/
def gates (i : ℕ) (q : Fin 128 → EReal) (g : Fin 16 → Fin 128 → EReal) : Fin 16 → EReal := past i fun n => gate q (g n)

/-- The scores in slot `a`: −∞ where fewer than `a + 1` blocks come before. -/
def slot (i : ℕ) (q : Fin 128 → EReal) (k : Fin 16 → Fin 256 → Fin 128 → EReal) (g : Fin 16 → Fin 128 → EReal) (a : Fin 3) (c : Fin 256) : EReal :=
  if a.val < i then dots q (k (chosen (gates i q g) a) c) else ⊥

/-- The scores of row `r` against its own block: −∞ past it. -/
def own (r : ℕ) (q : Fin 128 → EReal) (k : Fin 256 → Fin 128 → EReal) (c : Fin 256) : EReal := if c.val ≤ r then dots q (k c) else ⊥

/-- The value of row `r` of block `i` in one column of the values. -/
def rowval (i : Fin 16) (r : ℕ) (q : Fin 128 → EReal) (k : Fin 16 → Fin 256 → Fin 128 → EReal) (g : Fin 16 → Fin 128 → EReal)
    (v : Fin 16 → Fin 256 → EReal) : EReal :=
  MobaClose.value (slot i.val q k g) (own r q (k i)) (fun a c => v (chosen (gates i.val q g) a) c) (v i)

end Cert.MobaRow

end
-- ==== Proof.MobaSel.lean ====
/- The block attention kernel's selection, and the blocks a point reads, at an index. -/
module

public import proofs.«01_k».proof.Proof.MobaOpen
public import proofs.«01_k».proof.Proof.MobaPay
public import proofs.«01_k».proof.Proof.MobaRow
public import Idealize.ShloMosaic.Lib.StableHlo.RunRead
public import Idealize.ShloMosaic.Lib.KernelVsHost

@[expose] public section

set_option maxRecDepth 16384

noncomputable section

namespace Cert.Kernel5Ideal.Moba

open Cert.Kernel5Ideal Cert.Kernel5Ideal.Gen Cert.Kernel5Ideal.Value Idealize.ShloMosaic Idealize.ShloMosaic.TcCoe Cert.MlaSpec Cert.MobaSpec
open Cert.MobaPick Cert.MobaRow

/-- The selection's column of lane `L` is positive at the chosen blocks only. -/
theorem sel_pos (i : grid0.Coords) (q : Vec Ideal S1x256x128 .bf16) (g : Vec Ideal S1x128x128 .f32) (r : Fin 256) (G : Fin 16 → EReal)
    (hG : ∀ L, k0_pay109 (F := Ideal) i q g (ix2 r L) = lanes G L) (σ : Fin 3 → Fin 16) (hF : Firsts G σ) (L : Fin 128) :
    (0 : EReal) < k0_pay115 (F := Ideal) (iota Kind.tc S256x128 32 [1] iota_S256x128_d1_w32) (k0_pay111 i q g) (k0_pay112 i q g) (k0_pay113 i q g)
      (k0_pay114 i q g) (ix2 r L) ↔ ∃ a, L = lane (σ a) ∧ G (σ a) ≠ ⊥ := by
  have h0 : (fun x => k0_pay109 (F := Ideal) i q g (ix2 r x)) = rest G σ (0 : Fin 3).val := by
    refine Eq.trans (funext hG) ?_
    exact rest_zero.symm
  have h1 : (fun x => k0_pay112 (F := Ideal) i q g (ix2 r x)) = rest G σ (1 : Fin 3).val := by
    funext x
    rw [pay112_at, select_pickw, h0, hG]
    refine Eq.trans ?_ (rest_succ hF 0 x).symm
    refine if_congr (pick_rest hF 0 x) rfl ?_
    exact congrFun (rest_zero (G := G) (σ := σ)).symm x
  have h2 : (fun x => Scalar.select (pickw (rest G σ (1 : Fin 3).val) x) (⊥ : EReal) (rest G σ (1 : Fin 3).val x)) = rest G σ (2 : Fin 3).val := by
    funext x
    rw [select_pickw]
    refine Eq.trans ?_ (rest_succ hF 1 x).symm
    exact if_congr (pick_rest hF 1 x) rfl rfl
  have e := pay115_at (k0_pay111 (F := Ideal) i q g) (k0_pay112 i q g) (k0_pay113 i q g) (k0_pay114 i q g) r L (rest G σ (1 : Fin 3).val)
    (fun x => congrFun h1 x) ((pay113_at i q g r 0).trans (congrArg best h1)) (fun x => (pay114_at i q g r x).trans (congrArg first h1))
  rw [e, h2, pay111_at, h0]
  simp only [select_pickw, pick_rest hF]
  constructor
  · intro h
    by_cases c2 : L = lane (σ 2) ∧ G (σ 2) ≠ ⊥
    · exact ⟨2, c2⟩
    rw [if_neg c2] at h
    by_cases c1 : L = lane (σ 1) ∧ G (σ 1) ≠ ⊥
    · exact ⟨1, c1⟩
    rw [if_neg c1] at h
    by_cases c0 : L = lane (σ 0) ∧ G (σ 0) ≠ ⊥
    · exact ⟨0, c0⟩
    rw [if_neg c0] at h
    exact absurd h (lt_irrefl _)
  · rintro ⟨a, ha⟩
    rcases (by decide : ∀ a : Fin 3, a = 0 ∨ a = 1 ∨ a = 2) a with rfl | rfl | rfl
    · rw [if_pos ha]
      split
      · exact zero_lt_one
      · split <;> exact zero_lt_one
    · rw [if_pos ha]
      split <;> exact zero_lt_one
    · rw [if_pos ha]
      exact zero_lt_one

variable (m : (ℓ : Loc nD τ sig) → Buf (Elt Ideal) ℓ) (c : Dev nD)

/-- The printed index maps, at every point. -/
theorem idx : ∀ t : Fin cfg0.N, win0_0.index t = ![t.val / 128, t.val % 16, t.val / 16 % 8] ∧ win0_1.index t = ![t.val / 128, 0, t.val / 16 % 8]
    ∧ win0_2.index t = ![t.val / 128, 0, t.val / 16 % 8] ∧ win0_3.index t = ![t.val / 128, 0, t.val / 16 % 8]
    ∧ win0_4.index t = ![t.val / 128, t.val % 16, t.val / 16 % 8] :=
  (by decide +kernel : ∀ t : Fin grid0.N, _)

/-- The point's own block of queries is also the number of blocks before it. -/
theorem own_eq : ∀ t : Fin cfg0.N, ((grid0.coords t) 2).val = t.val % 16 :=
  (by decide +kernel : ∀ t : Fin grid0.N, _)

/-- The queries. -/
abbrev Q : FVec Ideal S2x4096x1024 .bf16 := m ((c : Thread nD τ).loc main_arg0)
/-- The keys. -/
abbrev K : FVec Ideal S2x4096x1024 .bf16 := m ((c : Thread nD τ).loc main_arg1)
/-- The values. -/
abbrev U : FVec Ideal S2x4096x1024 .bf16 := m ((c : Thread nD τ).loc main_arg2)
/-- The blocks' mean keys. -/
abbrev KM : FVec Ideal S32x1x1024 .f32 := m ((c : Thread nD τ).loc main_arg3)

/-- The batch entry point `t` works on. -/
def bat (t : Fin cfg0.N) : Fin 2 :=
  ⟨t.val / 128, by have := lt_of_lt_of_eq t.isLt (show cfg0.N = 256 from N_0); omega⟩

/-- The head point `t` works on. -/
def head (t : Fin cfg0.N) : Fin 8 := ⟨t.val / 16 % 8, Nat.mod_lt _ (by norm_num)⟩

/-- The block point `t` works on. -/
def blk (t : Fin cfg0.N) : Fin 16 := ⟨t.val % 16, Nat.mod_lt _ (by norm_num)⟩

/-- Row `r` of point `t`'s block of queries. -/
def pos (t : Fin cfg0.N) (r : Fin 256) : Fin 4096 := ⟨t.val % 16 * 256 + r.val, by omega⟩

/-- Key `j` of the block numbered `b`. -/
def key (b : ℕ) (j : Fin 256) : Fin 4096 := ⟨(256 * b + j.val) % 4096, Nat.mod_lt _ (by norm_num)⟩

/-- Key `j` of block `n`. -/
def place (n : Fin 16) (j : Fin 256) : Fin 4096 := ⟨n.val * 256 + j.val, by omega⟩

theorem key_place (n : Fin 16) (j : Fin 256) : key n.val j = place n j := by
  refine Fin.ext ?_
  show (256 * n.val + j.val) % 4096 = n.val * 256 + j.val
  omega

/-- The padded array of mean keys, at a block. -/
theorem means_at (b : Fin 2) (n : Fin 16) (e : Fin 1024) :
    (V m c main_v1 : FVec Ideal S2x128x1024 .f32) (ix3 b (lane n) e) = KM m c (ix3 ⟨b.val * 16 + n.val, by omega⟩ 0 e) := by
  have hn := n.isLt
  rw [V]
  after_reads_simp
  refine (pad_apply_of_inside (s := S2x16x1024) (t := S2x128x1024) ![0, 0, 0] ![0, 112, 0] ![0, 0, 0] _ _ pads_S2x16x1024_S2x128x1024_000_01120_000 h_S_ (ix3 b (lane n) e) (ix3 b n e) fun a => ?_).trans ?_
  · match a with
    | ⟨0, _⟩ => show b.val = 0 + b.val * (0 + 1); omega
    | ⟨1, _⟩ => show n.val = 0 + n.val * (0 + 1); omega
    | ⟨2, _⟩ => show e.val = 0 + e.val * (0 + 1); omega
  · pointwise
    rfl

theorem q_at (t : Fin cfg0.N) (r : Fin 256) (d : Fin 128) :
    (show FVec Ideal S1x256x128 .bf16 from iblk m c 0 t) (ix3 0 r d) = Q m c (ix3 (bat t) (pos t r) (vcol (head t) d)) := by
  blk_point [iblk, V, idx t, bat, pos, vcol, head]

theorem k_at (t : Fin cfg0.N) (R : Fin 4096) (d : Fin 128) :
    (show FVec Ideal S1x4096x128 .bf16 from iblk m c 1 t) (ix3 0 R d) = K m c (ix3 (bat t) R (vcol (head t) d)) := by
  blk_point [iblk, V, idx t, bat, vcol, head]

theorem v_at (t : Fin cfg0.N) (R : Fin 4096) (d : Fin 128) :
    (show FVec Ideal S1x4096x128 .bf16 from iblk m c 2 t) (ix3 0 R d) = U m c (ix3 (bat t) R (vcol (head t) d)) := by
  blk_point [iblk, V, idx t, bat, vcol, head]

theorem g_at (t : Fin cfg0.N) (n : Fin 16) (d : Fin 128) :
    (show FVec Ideal S1x128x128 .f32 from iblk m c 3 t) (ix3 0 (lane n) d)
      = KM m c (ix3 ⟨(bat t).val * 16 + n.val, by omega⟩ 0 (vcol (head t) d)) := by
  rw [← means_at]
  blk_point [iblk, idx t, bat, vcol, head]

theorem keys_at (t : Fin cfg0.N) (n : ℕ) (j : Fin 256) (d : Fin 128) :
    blkAt (iblk m c 1 t) (256 * n) (ix3 0 j d) = K m c (ix3 (bat t) (key n j) (vcol (head t) d)) := k_at m c t (key n j) d

theorem vals_at (t : Fin cfg0.N) (n : ℕ) (j : Fin 256) (d : Fin 128) :
    blkAt (iblk m c 2 t) (256 * n) (ix3 0 j d) = U m c (ix3 (bat t) (key n j) (vcol (head t) d)) := v_at m c t (key n j) d

theorem keys0_at (t : Fin cfg0.N) (j : Fin 256) (d : Fin 128) :
    keys0 m c t (ix3 0 j d) = K m c (ix3 (bat t) (key (t.val % 16) j) (vcol (head t) d)) := by
  refine (View.ld_unit_apply_of _ _ _ _ _ (ix3 0 (key (t.val % 16) j) d) fun a => ?_).trans (k_at m c t _ d)
  refine Eq.trans ?_ (congrArg (· + _) (congrFun (k0_off1_eq (grid0.coords t)) a).symm)
  rw [own_eq]
  match a with
  | ⟨0, _⟩ => rfl
  | ⟨1, _⟩ => exact Nat.mod_eq_of_lt (by omega)
  | ⟨2, _⟩ => exact (Nat.zero_add _).symm

theorem vals0_at (t : Fin cfg0.N) (j : Fin 256) (d : Fin 128) :
    vals0 m c t (ix3 0 j d) = U m c (ix3 (bat t) (key (t.val % 16) j) (vcol (head t) d)) := by
  refine (View.ld_unit_apply_of _ _ _ _ _ (ix3 0 (key (t.val % 16) j) d) fun a => ?_).trans (v_at m c t _ d)
  refine Eq.trans ?_ (congrArg (· + _) (congrFun (k0_off1_eq (grid0.coords t)) a).symm)
  rw [own_eq]
  match a with
  | ⟨0, _⟩ => rfl
  | ⟨1, _⟩ => exact Nat.mod_eq_of_lt (by omega)
  | ⟨2, _⟩ => exact (Nat.zero_add _).symm

/-- A query's row, over the whole arrays. -/
def qrow (b : Fin 2) (h : Fin 8) (R : Fin 4096) (d : Fin 128) : EReal := Q m c (ix3 b R (vcol h d))

/-- The keys of a batch entry and a head, block by block. -/
def krow (b : Fin 2) (h : Fin 8) (n : Fin 16) (j : Fin 256) (d : Fin 128) : EReal := K m c (ix3 b (place n j) (vcol h d))

/-- The mean keys of a batch entry and a head. -/
def mrow (b : Fin 2) (h : Fin 8) (n : Fin 16) (d : Fin 128) : EReal := KM m c (ix3 ⟨b.val * 16 + n.val, by omega⟩ 0 (vcol h d))

/-- The gates of row `r` of point `t`. -/
abbrev G (t : Fin cfg0.N) (r : Fin 256) : Fin 16 → EReal :=
  gates (t.val % 16) (qrow m c (bat t) (head t) (pos t r)) (mrow m c (bat t) (head t))

theorem gate_at (t : Fin cfg0.N) (r : Fin 256) (L : Fin 128) :
    k0_pay109 (F := Ideal) (grid0.coords t) (iblk m c 0 t) (iblk m c 3 t) (ix2 r L) = lanes (G m c t r) L := by
  rw [pay109_at, own_eq]
  unfold lanes
  by_cases h : L.val < 16
  · rw [dif_pos h]
    show _ = if L.val < t.val % 16 then _ else _
    refine if_congr Iff.rfl (congrArg₂ gate (funext fun d => q_at m c t r d) (funext fun d => ?_)) rfl
    exact g_at m c t ⟨L.val, h⟩ d
  · rw [dif_neg h, if_neg (by omega)]

/-- The selection's column of block `n` at row `r` is positive exactly at the chosen blocks. -/
theorem sel_iff (t : Fin cfg0.N) (r : Fin 256) (L : Fin 128) :
    (0 : EReal) < sel m c t (ix2 r L) ↔ ∃ a, L = lane (chosen (G m c t r) a) ∧ G m c t r (chosen (G m c t r) a) ≠ ⊥ :=
  sel_pos _ _ _ r (G m c t r) (gate_at m c t r) _ (chosen_firsts _) L

end Cert.Kernel5Ideal.Moba

end
-- ==== Proof.MobaValue.lean ====
/- The block attention kernel's array after the run: the row's state after every block of keys, and the stored quotient. -/
module

public import proofs.«01_k».proof.Proof.MobaSel

@[expose] public section

set_option maxRecDepth 16384

noncomputable section

namespace Cert.Kernel5Ideal.Moba

open Cert.Kernel5Ideal Cert.Kernel5Ideal.Gen Cert.Kernel5Ideal.Value Idealize.ShloMosaic Idealize.ShloMosaic.TcCoe Cert.MobaSpec
open Cert.MlaSpec (vcol)
open Cert.MobaPick Cert.MobaRow

variable (m : (ℓ : Loc nD τ sig) → Buf (Elt Ideal) ℓ) (c : Dev nD)

/-- The products of row `r` of point `t` with the keys of block `n`. -/
abbrev prod (t : Fin cfg0.N) (r : Fin 256) (n : ℕ) (j : Fin 256) : EReal :=
  dots (qrow m c (bat t) (head t) (pos t r)) fun d => K m c (ix3 (bat t) (key n j) (vcol (head t) d))

/-- The scores of row `r` of point `t` against block `n`: the own block causally, another where it is selected. -/
def sc (t : Fin cfg0.N) (r : Fin 256) (n : ℕ) (j : Fin 256) : EReal :=
  if n = t.val % 16 then (if j.val ≤ r.val then prod m c t r n j else ⊥)
  else if (0 : EReal) < sel m c t (ix2 r ⟨n % 128, Nat.mod_lt _ (by norm_num)⟩) then prod m c t r n j else ⊥

/-- The values of block `n`, in column `d`. -/
abbrev vl (t : Fin cfg0.N) (d : Fin 128) (n : ℕ) (j : Fin 256) : EReal := U m c (ix3 (bat t) (key n j) (vcol (head t) d))

/-- A score of the point's own block. -/
theorem own_at (t : Fin cfg0.N) (r j : Fin 256) : ownS (iblk m c 0 t) (keys0 m c t) (ix2 r j) = sc m c t r (t.val % 16) j := by
  refine (ownS_at _ _ r j).trans ?_
  rw [sc, if_pos rfl]
  exact if_congr Iff.rfl (congrArg₂ dots (funext fun d => q_at m c t r d) (funext fun d => keys0_at m c t j d)) rfl

/-- A score of an earlier block. -/
theorem past_at (t : Fin cfg0.N) (n : ℕ) (hn : n < t.val % 16) (r j : Fin 256) :
    k0_pay4 (F := Ideal) (qs m c t) (blkAt (iblk m c 1 t) (256 * n)) (colAt (sel m c t) n) (ix2 r j) = sc m c t r n j := by
  refine (pay4_at _ _ _ r j).trans ?_
  have hne : ¬ n = t.val % 16 := by omega
  rw [sc, if_neg hne]
  exact if_congr Iff.rfl (congrArg₂ dots (funext fun d => (pay108_at _ r d).trans (q_at m c t r d)) (funext fun d => keys_at m c t n j d)) rfl

/-- What the equality asks of queries, keys and mean keys: no infinity among them. -/
def Finite : Prop := (∀ i, ∃ x : ℝ, Q m c i = x) ∧ (∀ i, ∃ x : ℝ, K m c i = x) ∧ ∀ i, ∃ x : ℝ, KM m c i = x

variable {m c}

theorem prod_real (hf : Finite m c) (t : Fin cfg0.N) (r : Fin 256) (n : ℕ) (j : Fin 256) : ∃ x : ℝ, prod m c t r n j = x :=
  dots_real (fun d => hf.1 _) (fun d => hf.2.1 _)

theorem sc_top (hf : Finite m c) (t : Fin cfg0.N) (r : Fin 256) (n : ℕ) (j : Fin 256) : sc m c t r n j ≠ ⊤ := by
  obtain ⟨x, hx⟩ := prod_real hf t r n j
  unfold sc
  rw [hx]
  split <;> split <;> first | exact EReal.coe_ne_top x | exact bot_ne_top

theorem own_bot (hf : Finite m c) (t : Fin cfg0.N) (r : Fin 256) : sc m c t r (t.val % 16) 0 ≠ ⊥ := by
  obtain ⟨x, hx⟩ := prod_real hf t r (t.val % 16) 0
  rw [sc, if_pos rfl, if_pos (show (0 : Fin 256).val ≤ r.val from Nat.zero_le _), hx]
  exact EReal.coe_ne_bot x

/-- The gates of the blocks before are real numbers, the others −∞. -/
theorem gates_bot (hf : Finite m c) (t : Fin cfg0.N) (r : Fin 256) (n : Fin 16) : G m c t r n ≠ ⊥ ↔ n.val < t.val % 16 := by
  show (if n.val < t.val % 16 then gate _ _ else ⊥) ≠ ⊥ ↔ _
  obtain ⟨x, hx⟩ := gate_real (q := qrow m c (bat t) (head t) (pos t r)) (k := mrow m c (bat t) (head t) n) (fun d => hf.1 _) (fun d => hf.2.2 _)
  rw [hx]
  split
  · rename_i h
    exact ⟨fun _ => h, fun _ => EReal.coe_ne_bot x⟩
  · rename_i h
    exact ⟨fun h' => absurd rfl h', fun h' => absurd h' h⟩

/-- The row's state after the point's own block and the first `n` earlier blocks. -/
theorem state (hf : Finite m c) (t : Fin cfg0.N) (r : Fin 256) (d : Fin 128) :
    ∀ n, n ≤ t.val % 16 → Softmax.Inv (sc m c t r) (vl m c t d) (insert (t.val % 16) (Finset.range n))
      (mx m c t n (ix2 r 0)) (sm m c t n (ix2 r 0)) (nm m c t n (ix2 r d)) := by
  intro n
  induction n with
  | zero =>
    intro _
    have hm : ownM (iblk m c 0 t) (keys0 m c t) (ix2 r 0) = Finset.univ.fold max ⊥ (sc m c t r (t.val % 16)) := by
      rw [ownM_at]
      exact congrArg (Finset.univ.fold max ⊥) (funext fun j => own_at m c t r j)
    have e1 : mx m c t 0 (ix2 r 0) = ownM (iblk m c 0 t) (keys0 m c t) (ix2 r 0) := pay122_at _ _ r 0
    have e2 : sm m c t 0 (ix2 r 0) = ∑ j, Softmax.w (sc m c t r (t.val % 16) j) (mx m c t 0 (ix2 r 0)) := by
      rw [e1]
      refine (pay123_at _ _ r).trans ?_
      exact Finset.sum_congr rfl fun j _ => by rw [own_at]
    have e3 : nm m c t 0 (ix2 r d) = ∑ j, Softmax.w (sc m c t r (t.val % 16) j) (mx m c t 0 (ix2 r 0)) * vl m c t d (t.val % 16) j := by
      rw [e1]
      refine (pay124_at _ _ _ r d).trans ?_
      exact Finset.sum_congr rfl fun j _ => by rw [own_at, vals0_at]
    rw [Finset.range_zero, insert_empty_eq]
    exact Softmax.first (fun j => sc_top hf _ _ _ _) (own_bot hf t r) (e1.trans hm) e2 e3
  | succ n ih =>
    intro hn
    have hn' : n < t.val % 16 := Nat.lt_of_succ_le hn
    have e1 : mx m c t (n + 1) (ix2 r 0)
        = k0_pay5 (F := Ideal) (qs m c t) (blkAt (iblk m c 1 t) (256 * n)) (colAt (sel m c t) n) (mx m c t n) (ix2 r 0) := pay8_at _ _ _ _ r 0
    have hm : mx m c t (n + 1) (ix2 r 0) = max (mx m c t n (ix2 r 0)) (Finset.univ.fold max ⊥ (sc m c t r n)) := by
      rw [e1, pay5_at]
      exact congrArg (fun f => max _ (Finset.univ.fold max ⊥ f)) (funext fun j => past_at m c t n hn' r j)
    have e2 : sm m c t (n + 1) (ix2 r 0) = Softmax.w (mx m c t n (ix2 r 0)) (mx m c t (n + 1) (ix2 r 0)) * sm m c t n (ix2 r 0)
        + ∑ j, Softmax.w (sc m c t r n j) (mx m c t (n + 1) (ix2 r 0)) := by
      rw [e1]
      refine (pay9_at _ _ _ _ _ r).trans ?_
      exact congrArg (_ + ·) (Finset.sum_congr rfl fun j _ => by rw [past_at m c t n hn'])
    have e3 : nm m c t (n + 1) (ix2 r d) = Softmax.w (mx m c t n (ix2 r 0)) (mx m c t (n + 1) (ix2 r 0)) * nm m c t n (ix2 r d)
        + ∑ j, Softmax.w (sc m c t r n j) (mx m c t (n + 1) (ix2 r 0)) * vl m c t d n j := by
      rw [e1]
      refine (pay1_at _ _ _ _ _ _ r d).trans ?_
      exact congrArg (_ + ·) (Finset.sum_congr rfl fun j _ => by rw [past_at m c t n hn', vals_at])
    rw [Finset.range_add_one, Finset.insert_comm]
    exact Softmax.step (by simp; omega) (fun b _ j => sc_top hf _ _ _ _) (fun j => sc_top hf _ _ _ _) (ih (by omega)) hm e2 e3

theorem lane_mod (n : Fin 16) : (⟨n.val % 128, Nat.mod_lt _ (by norm_num)⟩ : Fin 128) = lane n :=
  Fin.ext (Nat.mod_eq_of_lt (by omega))

/-- A slot holds an earlier block exactly when there are enough of them. -/
theorem chosen_lt (hf : Finite m c) (t : Fin cfg0.N) (r : Fin 256) (a : Fin 3) : (chosen (G m c t r) a).val < t.val % 16 ↔ a.val < t.val % 16 :=
  valid_iff (chosen_firsts (G m c t r)) (by omega) (gates_bot hf t r) a

/-- The column of a slot's block is positive exactly when there are enough earlier blocks. -/
theorem sel_chosen (hf : Finite m c) (t : Fin cfg0.N) (r : Fin 256) (a : Fin 3) :
    (0 : EReal) < sel m c t (ix2 r ⟨(chosen (G m c t r) a).val % 128, Nat.mod_lt _ (by norm_num)⟩) ↔ a.val < t.val % 16 := by
  rw [lane_mod, sel_iff, ← chosen_lt hf t r a, ← gates_bot hf t r]
  constructor
  · rintro ⟨a', h1, h2⟩
    rw [lane_inj] at h1
    rw [h1]
    exact h2
  · exact fun h => ⟨a, rfl, h⟩

/-- No column of another earlier block is positive. -/
theorem sel_other (t : Fin cfg0.N) (r : Fin 256) (n : Fin 16) (hne : ∀ a, n.val ≠ (chosen (G m c t r) a).val) :
    ¬ (0 : EReal) < sel m c t (ix2 r ⟨n.val % 128, Nat.mod_lt _ (by norm_num)⟩) := by
  rw [lane_mod, sel_iff]
  rintro ⟨a, ha, -⟩
  rw [lane_inj] at ha
  exact hne a (congrArg Fin.val ha)

variable (m c)

/-- The value of the row at position `R` in column `d`. -/
def val (b : Fin 2) (h : Fin 8) (R : Fin 4096) (d : Fin 128) : EReal :=
  rowval ⟨R.val / 256, by omega⟩ (R.val % 256) (qrow m c b h R) (krow m c b h) (mrow m c b h) fun n j => U m c (ix3 b (place n j) (vcol h d))

variable {m c}

/-- What a point stores. -/
theorem stored (hf : Finite m c) (t : Fin cfg0.N) (r : Fin 256) (d : Fin 128) :
    outsAt0 m c t.val t.isLt (ix3 0 r d) = val m c (bat t) (head t) (pos t r) d := by
  refine (congrFun (out_open m c t) _).trans ((pay2_at _ _ r d).trans ?_)
  have hF := chosen_firsts (G m c t r)
  have hlt := chosen_lt hf t r
  have hi : (⟨(pos t r).val / 256, by have := (pos t r).isLt; omega⟩ : Fin 16) = blk t := Fin.ext (by
    show (t.val % 16 * 256 + r.val) / 256 = t.val % 16
    omega)
  have hr : (pos t r).val % 256 = r.val := by
    show (t.val % 16 * 256 + r.val) % 256 = r.val
    omega
  unfold val
  rw [hi, hr]
  unfold rowval
  have eO : sc m c t r (t.val % 16) = own r.val (qrow m c (bat t) (head t) (pos t r)) (krow m c (bat t) (head t) (blk t)) := by
    funext j
    rw [sc, if_pos rfl]
    refine if_congr Iff.rfl (congrArg (dots _) (funext fun d' => ?_)) rfl
    exact congrArg (fun R => K m c (ix3 (bat t) R (vcol (head t) d'))) (key_place (blk t) j)
  have eV : vl m c t d (t.val % 16) = fun j => U m c (ix3 (bat t) (place (blk t) j) (vcol (head t) d)) := by
    funext j
    exact congrArg (fun R => U m c (ix3 (bat t) R (vcol (head t) d))) (key_place (blk t) j)
  beta_reduce
  rw [← eO, ← eV]
  refine MobaClose.close (S := sc m c t r) (V := vl m c t d) (i := t.val % 16) (chosen (G m c t r)) hF.inj hlt ?_ ?_ ?_ (fun b _ j => sc_top hf _ _ _ _)
    (own_bot hf t r) (state hf t r d _ le_rfl)
  · intro n hn hne j
    have h1 : ¬ n = t.val % 16 := by omega
    rw [sc, if_neg h1]
    exact if_neg (sel_other t r ⟨n, by omega⟩ hne)
  · intro a j
    show (if a.val < t.val % 16 then _ else _) = _
    by_cases ha : a.val < t.val % 16
    · have h1 : ¬ (chosen (G m c t r) a).val = t.val % 16 := Nat.ne_of_lt ((hlt a).2 ha)
      rw [if_pos ha, if_pos ha, sc, if_neg h1, if_pos ((sel_chosen hf t r a).2 ha)]
      refine congrArg (dots _) (funext fun d' => ?_)
      exact congrArg (fun R => K m c (ix3 (bat t) R (vcol (head t) d'))) (key_place _ j).symm
    · rw [if_neg ha, if_neg ha]
  · intro a j
    exact congrArg (fun R => U m c (ix3 (bat t) R (vcol (head t) d))) (key_place _ j).symm

variable (m c)

/-- The result, as a function of the arguments. -/
def res : FVec Ideal S2x4096x1024 .f32 := fun i =>
  val m c (i 0) ⟨(i 2).val / 128, by have : (i 2).val < 1024 := (i 2).isLt; omega⟩ (i 1) ⟨(i 2).val % 128, Nat.mod_lt _ (by norm_num)⟩

theorem res_at (b : Fin 2) (h : Fin 8) (R : Fin 4096) (d : Fin 128) : res m c (ix3 b R (vcol h d)) = val m c b h R d := by
  have e1 : (⟨(vcol h d).val / 128, by have := (vcol h d).isLt; omega⟩ : Fin 8) = h := Fin.ext (by
    show (h.val * 128 + d.val) / 128 = h.val
    omega)
  have e2 : (⟨(vcol h d).val % 128, Nat.mod_lt _ (by norm_num)⟩ : Fin 128) = d := Fin.ext (by
    show (h.val * 128 + d.val) % 128 = d.val
    omega)
  show val m c b ⟨(vcol h d).val / 128, _⟩ R ⟨(vcol h d).val % 128, _⟩ = _
  rw [e1, e2]

/-- Where a point's block lies in the result. -/
theorem emb_at (t : Fin cfg0.N) (x : Fin 1) (r : Fin 256) (d : Fin 128) :
    (((cfg0.win 4).blk t).view.emb (ix3 x r d) : S2x4096x1024.Idx) = ix3 (bat t) (pos t r) (vcol (head t) d) := by
  blk_ext [idx t, bat, pos, vcol, head]

variable {m c}

/-- The kernel's array after the run. -/
theorem final (hf : Finite m c) : (dats m 0 c).arrAt 4 cfg0.N = res m c := by
  refine (dats m 0 c).arrAt_eq_of_covers 4 _ (by decide +kernel) fun t _ y => ?_
  blk_simp [idx t]
  rw [after0_4]
  change S1x256x128.Idx at y
  have key : ∀ (x : Fin 1) (r : Fin 256) (d : Fin 128),
      outsAt0 m c t.val t.isLt (ix3 x r d) = res m c (((cfg0.win 4).blk t).view.emb (ix3 x r d)) := by
    intro x r d
    rw [emb_at, Subsingleton.elim x 0, res_at]
    exact stored hf t r d
  idx_vars y
  exact key _ _ _

end Cert.Kernel5Ideal.Moba

end
-- ==== Proof.MobaRef.lean ====
/- The block attention reference's result, read at an index. -/
module

public import proofs.«01_k».proof.Proof.Gen.Reference5Ideal.Read
public import proofs.«01_k».proof.Proof.MlaSpec
public import proofs.«01_k».proof.Proof.MobaRow

@[expose] public section

set_option maxRecDepth 16384

noncomputable section

namespace Cert.Reference5Ideal.Moba

open Cert.Reference5Ideal Cert.Reference5Ideal.Gen Cert.Reference5Ideal.Read Idealize.ShloMosaic
open Cert.MlaSpec (vcol neg_inf)
open Cert.MobaSpec Cert.MobaRow
open Cert.MobaClose (cat top value)

variable (q k v : FVec Ideal S2x4096x1024 .bf16) (g : FVec Ideal S32x1x1024 .f32)

/-- The query row of head `h` at position `R`. -/
abbrev qrow (b : Fin 2) (h : Fin 8) (R : Fin 4096) : Fin 128 → EReal := fun d => q (ix3 b R (vcol h d))

/-- Key `c` of block `n`. -/
abbrev krow (b : Fin 2) (h : Fin 8) (n : Fin 16) (c : Fin 256) : Fin 128 → EReal :=
  fun d => k (ix3 b ⟨n.val * 256 + c.val, by omega⟩ (vcol h d))

/-- The mean key of block `n`. -/
abbrev mrow (b : Fin 2) (h : Fin 8) (n : Fin 16) : Fin 128 → EReal := fun d => g (ix3 ⟨b.val * 16 + n.val, by omega⟩ 0 (vcol h d))

/-- The gates of a row. -/
abbrev grow (b : Fin 2) (h : Fin 8) (R : Fin 4096) : Fin 16 → EReal := gates (R.val / 256) (qrow q b h R) (mrow g b h)

theorem q_at (b : Fin 2) (h : Fin 8) (R : Fin 4096) (d : Fin 128) :
    val_main_v2 (F := Ideal) q (ix4 b h R d) = q (ix3 b R (vcol h d)) := by
  pointwise [val_main_v2, val_main_v1, val_main_v0, vcol]

theorem k_at (b : Fin 2) (h : Fin 8) (n : Fin 16) (c : Fin 256) (d : Fin 128) :
    val_main_v5 (F := Ideal) k (ix5 b h n c d) = k (ix3 b ⟨n.val * 256 + c.val, by omega⟩ (vcol h d)) := by
  pointwise [val_main_v5, val_main_v4, val_main_v3, vcol]

theorem v_at (b : Fin 2) (h : Fin 8) (n : Fin 16) (c : Fin 256) (d : Fin 128) :
    val_main_v8 (F := Ideal) v (ix5 b h n c d) = v (ix3 b ⟨n.val * 256 + c.val, by omega⟩ (vcol h d)) := by
  pointwise [val_main_v8, val_main_v7, val_main_v6, vcol]

theorem g_at (b : Fin 2) (h : Fin 8) (n : Fin 16) (d : Fin 128) :
    val_main_v10 (F := Ideal) g (ix4 b h n d) = g (ix3 ⟨b.val * 16 + n.val, by omega⟩ 0 (vcol h d)) := by
  pointwise [val_main_v10, val_main_v9, vcol]

theorem block_at : ∀ R : Fin 4096, val_main_v13 (F := Ideal) (ix1 R) = BitVec.ofNat 32 (R.val / 256) := by
  decide +kernel

theorem gate_at (b : Fin 2) (h : Fin 8) (R : Fin 4096) (n : Fin 16) :
    val_main_v11 (F := Ideal) q g (ix4 b h R n) = gate (qrow q b h R) (mrow g b h n) := by
  pointwise [val_main_v11, q_at, g_at, gate]

theorem past_word {a b : ℕ} (ha : a < 4096) (hb : b < 4096) (x y : EReal) (hy : y = ⊥) :
    Scalar.select (IntOp.cmpi .slt (BitVec.ofNat 32 a) (BitVec.ofNat 32 b)) x y = if a < b then x else (⊥ : EReal) := by
  rw [WordCmp.cmpi_slt_ofNat (by norm_num; omega) (by norm_num; omega), hy]
  by_cases h : a < b
  · rw [decide_eq_true h, if_pos h]; rfl
  · rw [decide_eq_false h, if_neg h]; rfl

theorem masked_at (b : Fin 2) (h : Fin 8) (R : Fin 4096) (n : Fin 16) :
    val_main_v20 (F := Ideal) q g (ix4 b h R n) = grow q g b h R n := by
  pointwise [val_main_v20, val_main_call1_v2, val_main_call1_v1, val_main_call1_v0, val_main_cst, val_main_v19, val_main_v18, val_main_v17,
    val_main_v16, val_main_v15, val_main_v14, block_at, gate_at]
  exact past_word (by omega) (by omega) _ _ neg_inf

theorem along_at (b : Fin 2) (h : Fin 8) (R : Fin 4096) (n n' : Fin 16) :
    Shape.Idx.along (s := S2x8x4096x16) (ix4 b h R n) (3 : Fin 4) n' = ix4 b h R n' := by
  funext y
  fin_cases y <;> rfl

theorem sort_at (x : FVec Ideal S2x8x4096x16 .f32) (y : IVec S2x8x4096x16 32) (b : Fin 2) (h : Fin 8) (R : Fin 4096) (n : Fin 16) :
    (Host.sort2 S2x8x4096x16 3 (fun l r => FloatOps.cmpfTotal (F := Ideal) (φ := .f32) .gt l.1 r.1) x y).2 (ix4 b h R n)
      = y (ix4 b h R (sortedFrom (fun n n' => decide (x (ix4 b h R n') < x (ix4 b h R n))) n)) := by
  unfold Host.sort2
  rw [dif_pos (show 3 < S2x8x4096x16.rank by decide)]
  refine (congrArg y (along_at b h R n _)).trans ?_
  refine congrArg (fun B => y (ix4 b h R (sortedFrom B n))) (funext fun m => funext fun m' => ?_)
  have e : ∀ m m' : Fin 16, (BitVec.ofBool (decide (x (ix4 b h R m') < x (ix4 b h R m))) == 1#1) = decide (x (ix4 b h R m') < x (ix4 b h R m)) := by
    intro m m'
    by_cases hh : x (ix4 b h R m') < x (ix4 b h R m) <;> simp [hh]
  exact (congrArg₂ (fun u w : EReal => BitVec.ofBool (decide (u < w)) == 1#1) (congrArg x (along_at b h R n m'))
    (congrArg x (along_at b h R n m))).trans (e m m')

theorem topK_at (x : FVec Ideal S2x8x4096x16 .f32) (b : Fin 2) (h : Fin 8) (R : Fin 4096) (a : Fin 3) :
    (Host.topK S2x8x4096x3 3 (FloatOps.cmpfTotal .gt) x sliceFits_S2x8x4096x16_S2x8x4096x3).2 (ix4 b h R a)
      = BitVec.ofNat 32 (chosen (fun n => x (ix4 b h R n)) a).val := by
  dsimp only [Host.topK, extractStridedSlice]
  have ei : ∀ (z : S2x8x4096x16.Idx), (∀ y, (z y).val = ((ix4 b h R (⟨a.val, by omega⟩ : Fin 16) : S2x8x4096x16.Idx) y).val) →
      z = ix4 b h R ⟨a.val, by omega⟩ := fun z hz => funext fun y => Fin.ext (hz y)
  refine (congrArg _ (ei _ fun y => ?_)).trans ?_
  · refine (Nat.zero_add _).trans ?_
    fin_cases y <;> rfl
  · rw [sort_at]
    rfl

theorem indices_at (b : Fin 2) (h : Fin 8) (R : Fin 4096) (a : Fin 3) :
    val_main_indices (F := Ideal) q g (ix4 b h R a) = BitVec.ofNat 32 (chosen (grow q g b h R) a).val := by
  unfold val_main_indices
  rw [topK_at]
  congr 3
  funext n
  exact masked_at q g b h R n

theorem wrap_words : ∀ n : Fin 16, Scalar.select (IntOp.cmpi .slt (BitVec.ofNat 32 n.val) 0#32) (IntOp.addi (BitVec.ofNat 32 n.val) 16#32)
    (BitVec.ofNat 32 n.val) = BitVec.ofNat 32 n.val := by
  decide +kernel

theorem start_at (b : Fin 2) (h : Fin 8) (R : Fin 4096) (a : Fin 3) :
    val_main_v32 (F := Ideal) q g (ix5 b h R a 0) = BitVec.ofNat 32 (chosen (grow q g b h R) a).val := by
  refine Eq.trans ?_ (wrap_words _)
  pointwise [val_main_v32, val_main_v31, val_main_v30, val_main_v29, val_main_v28, val_main_v27, val_main_c_0, val_main_c_1, indices_at]

theorem start_at' (b : Fin 2) (h : Fin 8) (R : Fin 4096) (a : Fin 3) :
    val_main_v39 (F := Ideal) q g (ix5 b h R a 0) = BitVec.ofNat 32 (chosen (grow q g b h R) a).val := by
  refine Eq.trans ?_ (wrap_words _)
  pointwise [val_main_v39, val_main_v38, val_main_v37, val_main_v36, val_main_v35, val_main_v34, val_main_c_2, val_main_c_3, indices_at]

/-- One entry of the gathered blocks. -/
theorem gather_at {φ : FTy} (x : FVec Ideal S2x8x16x256x128 φ) (idx : IVec S2x8x4096x3x1 32) (b : Fin 2) (h : Fin 8) (R : Fin 4096) (a : Fin 3)
    (c : Fin 256) (d : Fin 128) (n : Fin 16) (hn : idx (ix5 b h R a 0) = BitVec.ofNat 32 n.val) :
    Host.gather gather_S2x8x16x256x128_S2x8x4096x3x1_S2x8x4096x3x256x128_45_2_01_01_2_4_111256128 x idx (ix6 b h R a c d)
      = x (ix5 b h n c d) := by
  unfold Host.gather
  refine congrArg x (funext fun y => Fin.ext ?_)
  show GatherDims.start _ _ idx y + GatherDims.batchCoord _ _ y + GatherDims.offCoord _ _ y = _
  have h5 : ∀ y : Fin 5, y = 0 ∨ y = 1 ∨ y = 2 ∨ y = 3 ∨ y = 4 := by decide
  rcases h5 y with rfl | rfl | rfl | rfl | rfl
  · rw [GatherDims.start_batching _ _ _ _ (by decide), GatherDims.offCoord_eq_zero _ _ _ (by decide)]
    unfold GatherDims.batchCoord
    rw [dif_pos (by decide), Nat.zero_add, Nat.add_zero]
    rfl
  · rw [GatherDims.start_batching _ _ _ _ (by decide), GatherDims.offCoord_eq_zero _ _ _ (by decide)]
    unfold GatherDims.batchCoord
    rw [dif_pos (by decide), Nat.zero_add, Nat.add_zero]
    rfl
  · rw [GatherDims.batchCoord_eq_zero _ _ _ (by decide), GatherDims.offCoord_eq_zero _ _ _ (by decide)]
    unfold GatherDims.start
    rw [dif_pos (by decide)]
    have hsi : GatherDims.siIdx gather_S2x8x16x256x128_S2x8x4096x3x1_S2x8x4096x3x256x128_45_2_01_01_2_4_111256128 (ix6 b h R a c d) ⟨0, by decide⟩
        = ix5 b h R a 0 := by
      funext z
      fin_cases z <;> rfl
    have hm : ∀ n : Fin 16, min (BitVec.ofNat 32 n.val).toInt.toNat 15 + 0 + 0 = n.val := by decide
    refine Eq.trans ?_ (hm n)
    rw [← hn, ← hsi]
    rfl
  · rw [GatherDims.batchCoord_eq_zero _ _ _ (by decide)]
    unfold GatherDims.start GatherDims.offCoord
    rw [dif_neg (by decide), dif_pos (by decide), Nat.zero_add]
    rfl
  · rw [GatherDims.batchCoord_eq_zero _ _ _ (by decide)]
    unfold GatherDims.start GatherDims.offCoord
    rw [dif_neg (by decide), dif_pos (by decide), Nat.zero_add]
    rfl

theorem keys_at (b : Fin 2) (h : Fin 8) (R : Fin 4096) (a : Fin 3) (c : Fin 256) (d : Fin 128) :
    val_main_v33 (F := Ideal) q k g (ix6 b h R a c d) = krow k b h (chosen (grow q g b h R) a) c d := by
  unfold val_main_v33
  rw [gather_at (φ := .bf16) _ _ b h R a c d _ (start_at q g b h R a)]
  exact k_at k b h _ c d

theorem vals_at (b : Fin 2) (h : Fin 8) (R : Fin 4096) (a : Fin 3) (c : Fin 256) (d : Fin 128) :
    val_main_v40 (F := Ideal) q v g (ix6 b h R a c d)
      = v (ix3 b ⟨(chosen (grow q g b h R) a).val * 256 + c.val, by omega⟩ (vcol h d)) := by
  unfold val_main_v40
  rw [gather_at (φ := .bf16) _ _ b h R a c d _ (start_at' q g b h R a)]
  exact v_at v b h _ c d

theorem dot_at (b : Fin 2) (h : Fin 8) (R : Fin 4096) (a : Fin 3) (c : Fin 256) :
    val_main_v41 (F := Ideal) q k g (ix5 b h R a c) = gate (qrow q b h R) (krow k b h (chosen (grow q g b h R) a) c) := by
  pointwise [val_main_v41, q_at, keys_at, gate]

/-- The scores in the slots. -/
abbrev srow (b : Fin 2) (h : Fin 8) (R : Fin 4096) : Fin 3 → Fin 256 → EReal := slot (R.val / 256) (qrow q b h R) (krow k b h) (mrow g b h)

theorem slot_at (b : Fin 2) (h : Fin 8) (R : Fin 4096) (a : Fin 3) (c : Fin 256) :
    val_main_v45 (F := Ideal) q k g (ix5 b h R a c) = srow q k g b h R a c := by
  pointwise [val_main_v45, val_main_call2_v2, val_main_call2_v1, val_main_call2_v0, val_main_cst_5, val_main_v44, val_main_v43, val_main_v42,
    val_main_cst_4, val_main_v26, val_main_v25, val_main_v24, val_main_v23, val_main_v22, val_main_v21, block_at, dot_at]
  exact past_word (by omega) (by omega) _ _ neg_inf

theorem slots_at (b : Fin 2) (h : Fin 8) (R : Fin 4096) (J : Fin 768) :
    val_main_v46 (F := Ideal) q k g (ix4 b h R J)
      = srow q k g b h R ⟨J.val / 256, by omega⟩ ⟨J.val % 256, Nat.mod_lt _ (by norm_num)⟩ := by
  pointwise [val_main_v46, slot_at]

theorem ownq_at (b : Fin 2) (h : Fin 8) (n : Fin 16) (r : Fin 256) (d : Fin 128) :
    val_main_v47 (F := Ideal) q (ix5 b h n r d) = qrow q b h ⟨n.val * 256 + r.val, by omega⟩ d := by
  pointwise [val_main_v47, q_at]

theorem own_at (b : Fin 2) (h : Fin 8) (n : Fin 16) (r c : Fin 256) :
    val_main_v57 (F := Ideal) q k (ix5 b h n r c) = own r.val (qrow q b h ⟨n.val * 256 + r.val, by omega⟩) (krow k b h n) c := by
  pointwise [val_main_v57, val_main_call3_v2, val_main_call3_v1, val_main_call3_v0, val_main_cst_7, val_main_v56, val_main_v55, val_main_v54,
    val_main_v53, val_main_v52, val_main_v51, val_main_v50, val_main_v49, val_main_cst_6, val_main_v48, ownq_at, k_at]
  exact Cert.MlaSpec.causal (by omega) (by omega) _ _ neg_inf

/-- The scores of the own block. -/
abbrev orow (b : Fin 2) (h : Fin 8) (R : Fin 4096) : Fin 256 → EReal :=
  own (R.val % 256) (qrow q b h R) (krow k b h ⟨R.val / 256, by omega⟩)

theorem join (R : Fin 4096) : (⟨R.val / 256 * 256 + R.val % 256, by omega⟩ : Fin 4096) = R := Fin.ext (by
  show R.val / 256 * 256 + R.val % 256 = R.val
  omega)

theorem owns_at (b : Fin 2) (h : Fin 8) (R : Fin 4096) (c : Fin 256) :
    val_main_v58 (F := Ideal) q k (ix4 b h R c) = orow q k b h R c := by
  have e : val_main_v58 (F := Ideal) q k (ix4 b h R c)
      = own (R.val % 256) (qrow q b h ⟨R.val / 256 * 256 + R.val % 256, by omega⟩) (krow k b h ⟨R.val / 256, by omega⟩) c := by
    pointwise [val_main_v58, own_at]
  rw [e, join]

/-- All the scores of a row. -/
abbrev crow (b : Fin 2) (h : Fin 8) (R : Fin 4096) : Fin 1024 → EReal := cat (srow q k g b h R) (orow q k b h R)

theorem score_at (b : Fin 2) (h : Fin 8) (R : Fin 4096) (J : Fin 1024) :
    val_main_v59 (F := Ideal) q k g (ix4 b h R J) = crow q k g b h R J := by
  pointwise [val_main_v59, slots_at, owns_at]
  rfl

/-- The maximum along a row of scores. -/
theorem max_at (x : FVec Ideal S2x8x4096x1024 .f32) (y : FVec Ideal S_ .f32) (b : Fin 2) (h : Fin 8) (R : Fin 4096) :
    Host.reduce FloatOps.maximumf x y reducesTo_S2x8x4096x1024_S2x8x4096_d3 h_S_ (ix3 b h R)
      = Finset.univ.fold max (y (Shape.Idx.first h_S_)) (fun K => x (ix4 b h R K)) := by
  pointwise []

theorem max_row (b : Fin 2) (h : Fin 8) (R : Fin 4096) :
    val_main_v60 (F := Ideal) q k g (ix3 b h R) = top (crow q k g b h R) := by
  unfold val_main_v60
  rw [max_at, val_main_cst_8_apply, show (FloatOps.ofBits .f32 0xFF800000#32 : Ideal .f32) = (⊥ : EReal) from neg_inf]
  simp only [score_at]
  rfl

theorem top_at (b : Fin 2) (h : Fin 8) (R : Fin 4096) :
    val_main_v62 (F := Ideal) q k g (ix3 b h R) = top (crow q k g b h R) := by
  rw [val_main_v62_apply, val_main_v61_apply, val_main_cst_9_apply, max_row]
  show max (Ideal.ofBits .f32 0xFF800000#32) _ = _
  rw [neg_inf, max_bot_left]

theorem weight_at (b : Fin 2) (h : Fin 8) (R : Fin 4096) (J : Fin 1024) :
    val_main_v66 (F := Ideal) q k g (ix4 b h R J) = Softmax.w (crow q k g b h R J) (top (crow q k g b h R)) := by
  pointwise [val_main_v66, val_main_v65, val_main_v64, val_main_v63, score_at, top_at, Softmax.w]

/-- The normalised weight of a score. -/
abbrev share (b : Fin 2) (h : Fin 8) (R : Fin 4096) (s : EReal) : EReal :=
  Ideal.div (Softmax.w s (top (crow q k g b h R))) (∑ J, Softmax.w (crow q k g b h R J) (top (crow q k g b h R)))

theorem share_at (b : Fin 2) (h : Fin 8) (R : Fin 4096) (J : Fin 1024) :
    val_main_v70 (F := Ideal) q k g (ix4 b h R J) = share q k g b h R (crow q k g b h R J) := by
  pointwise [val_main_v70, val_main_v69, val_main_v68, val_main_v67, val_main_cst_10, weight_at]

theorem slot_share_at (b : Fin 2) (h : Fin 8) (R : Fin 4096) (a : Fin 3) (c : Fin 256) :
    val_main_v72 (F := Ideal) q k g (ix5 b h R a c) = share q k g b h R (srow q k g b h R a c) := by
  have e : val_main_v72 (F := Ideal) q k g (ix5 b h R a c) = share q k g b h R (crow q k g b h R ⟨a.val * 256 + c.val, by omega⟩) := by
    pointwise [val_main_v72, val_main_v71, share_at]
  rw [e]
  refine congrArg (share q k g b h R) ?_
  unfold crow cat
  rw [dif_pos (show a.val * 256 + c.val < 768 by omega)]
  refine congrArg₂ (srow q k g b h R) (Fin.ext ?_) (Fin.ext ?_)
  · show (a.val * 256 + c.val) / 256 = a.val
    omega
  · show (a.val * 256 + c.val) % 256 = c.val
    omega

theorem own_share_at (b : Fin 2) (h : Fin 8) (n : Fin 16) (r c : Fin 256) :
    val_main_v74 (F := Ideal) q k g (ix5 b h n r c)
      = share q k g b h ⟨n.val * 256 + r.val, by omega⟩ (orow q k b h ⟨n.val * 256 + r.val, by omega⟩ c) := by
  have e : val_main_v74 (F := Ideal) q k g (ix5 b h n r c)
      = share q k g b h ⟨n.val * 256 + r.val, by omega⟩ (crow q k g b h ⟨n.val * 256 + r.val, by omega⟩ ⟨768 + c.val, by omega⟩) := by
    pointwise [val_main_v74, val_main_v73, share_at]
  rw [e]
  refine congrArg (share q k g b h _) ?_
  unfold crow cat
  rw [dif_neg (show ¬ 768 + c.val < 768 by omega)]
  refine congrArg (orow q k b h _) (Fin.ext ?_)
  show 768 + c.val - 768 = c.val
  omega

theorem own_value_at (b : Fin 2) (h : Fin 8) (R : Fin 4096) (d : Fin 128) :
    val_main_v76 (F := Ideal) q k v g (ix4 b h R d)
      = ∑ c : Fin 256, share q k g b h R (orow q k b h R c) * v (ix3 b ⟨R.val / 256 * 256 + c.val, by omega⟩ (vcol h d)) := by
  have e : val_main_v76 (F := Ideal) q k v g (ix4 b h R d)
      = ∑ c : Fin 256, share q k g b h ⟨R.val / 256 * 256 + R.val % 256, by omega⟩ (orow q k b h ⟨R.val / 256 * 256 + R.val % 256, by omega⟩ c)
        * v (ix3 b ⟨R.val / 256 * 256 + c.val, by omega⟩ (vcol h d)) := by
    pointwise [val_main_v76, val_main_v75, own_share_at, v_at]
  rw [e]
  simp only [join]

theorem slot_value_at (b : Fin 2) (h : Fin 8) (R : Fin 4096) (d : Fin 128) :
    val_main_v77 (F := Ideal) q k v g (ix4 b h R d)
      = ∑ a : Fin 3, ∑ c : Fin 256, share q k g b h R (srow q k g b h R a c)
        * v (ix3 b ⟨(chosen (grow q g b h R) a).val * 256 + c.val, by omega⟩ (vcol h d)) := by
  pointwise [val_main_v77, slot_share_at, vals_at]

theorem flat_at (b : Fin 2) (h : Fin 8) (R : Fin 4096) (d : Fin 128) :
    val_main_v80 (F := Ideal) q k v g (ix3 b R (vcol h d)) = val_main_v78 (F := Ideal) q k v g (ix4 b h R d) := by
  pointwise [val_main_v80, val_main_v79, vcol]

theorem sum_at (b : Fin 2) (h : Fin 8) (R : Fin 4096) (d : Fin 128) :
    val_main_v78 (F := Ideal) q k v g (ix4 b h R d)
      = (val_main_v77 (F := Ideal) q k v g (ix4 b h R d) : EReal) + val_main_v76 (F := Ideal) q k v g (ix4 b h R d) :=
  val_main_v78_apply (F := Ideal) q k v g (ix4 b h R d)

theorem out_at (b : Fin 2) (h : Fin 8) (R : Fin 4096) (d : Fin 128) :
    val_main_v80 (F := Ideal) q k v g (ix3 b R (vcol h d))
      = rowval ⟨R.val / 256, by omega⟩ (R.val % 256) (qrow q b h R) (krow k b h) (mrow g b h)
        fun n c => v (ix3 b ⟨n.val * 256 + c.val, by omega⟩ (vcol h d)) := by
  rw [flat_at, sum_at, slot_value_at, own_value_at]
  unfold rowval MobaClose.value MobaClose.valueAt
  with_reducible rfl

end Cert.Reference5Ideal.Moba

end
-- ==== Proof.MobaClaim.lean ====
/- The block attention pair's claims: the precondition read as finiteness of queries, keys and mean keys, and the equality under it. -/
module

public import proofs.«01_k».proof.Defs
public import proofs.«01_k».proof.Proof.Gen.Pre_finite_qkm
public import proofs.«01_k».proof.Proof.Gen.Reference5Ideal.Run
public import proofs.«01_k».proof.Proof.MobaValue
public import proofs.«01_k».proof.Proof.MobaRef
public import proofs.«01_k».proof.Proof.MlaClaim

@[expose] public section

set_option maxRecDepth 16384

noncomputable section

namespace Cert.MobaClaim

open Idealize.ShloMosaic Idealize.SL.Sem

instance : Cert.Kernel5Ideal.Facts := Cert.Kernel5Ideal.Gen.facts
instance : Cert.Reference5Ideal.Facts := Cert.Reference5Ideal.Gen.facts
instance : Cert.Pre_finite_qkm.Facts := Cert.Pre_finite_qkm.Gen.facts

/-- The reference runs and leaves its arguments alone. -/
theorem frame_ri : Cert.quiescent_Reference5Ideal := by
  intro m g _
  exact (θ_run Cert.Reference5Ideal.defs _ _).mono (fun r h => ⟨fun c => (h c).2, sem_eq_zero_of_no_sems (by decide) r.2⟩)
    (Cert.Reference5Ideal.Value.run (F := Ideal) m g)

/-- The same, of the arguments the equality is claimed for. -/
theorem frame_ri_pre : Cert.quiescent_Reference5Ideal_pre_finite_qkm := by
  intro m g _
  exact (θ_run Cert.Reference5Ideal.defs _ _).mono (fun r h => ⟨fun c => (h c).2, sem_eq_zero_of_no_sems (by decide) r.2⟩)
    (Cert.Reference5Ideal.Value.run (F := Ideal) m g)

/-- The precondition: every query, every key and every mean key is real. -/
theorem finite {m : (ℓ : Loc Cert.Kernel5Ideal.nD Cert.Kernel5Ideal.τ Cert.Kernel5Ideal.sig) → Buf (Elt Ideal) ℓ}
    (h : Cert.Pre_Kernel5Ideal_finite_qkm m) (c : Dev Cert.Kernel5Ideal.nD) : Cert.Kernel5Ideal.Moba.Finite m c := by
  have h0 := congrFun (h c) ix0
  obtain ⟨hqk, hg⟩ := IntOp.andi_eq_one.1 h0
  obtain ⟨hq, hk⟩ := IntOp.andi_eq_one.1 hqk
  haveI : Subsingleton Cert.Pre_finite_qkm.S_.Idx := ⟨fun a b => funext fun x => x.elim0⟩
  exact ⟨fun i => MlaClaim.real_of_lt (Host.reduce_andi_all _ _ _ _ _ hq i), fun i => MlaClaim.real_of_lt (Host.reduce_andi_all _ _ _ _ _ hk i),
    fun i => MlaClaim.real_of_lt (Host.reduce_andi_all _ _ _ _ _ hg i)⟩

/-- The reference's result is the kernel's. -/
theorem result (m : (ℓ : Loc Cert.Kernel5Ideal.nD Cert.Kernel5Ideal.τ Cert.Kernel5Ideal.sig) → Buf (Elt Ideal) ℓ) (c : Dev Cert.Kernel5Ideal.nD) :
    Cert.Reference5Ideal.Read.val_main_v80 (F := Ideal) (Cert.Kernel5Ideal.Moba.Q m c) (Cert.Kernel5Ideal.Moba.K m c) (Cert.Kernel5Ideal.Moba.U m c)
      (Cert.Kernel5Ideal.Moba.KM m c) = Cert.Kernel5Ideal.Moba.res m c := by
  have key : ∀ (b : Fin 2) (R : Fin 4096) (e : Fin 1024),
      Cert.Reference5Ideal.Read.val_main_v80 (F := Ideal) (Cert.Kernel5Ideal.Moba.Q m c) (Cert.Kernel5Ideal.Moba.K m c) (Cert.Kernel5Ideal.Moba.U m c)
        (Cert.Kernel5Ideal.Moba.KM m c) (ix3 b R e) = Cert.Kernel5Ideal.Moba.res m c (ix3 b R e) := by
    intro b R e
    have he : e = Cert.MlaSpec.vcol ⟨e.val / 128, by omega⟩ ⟨e.val % 128, by omega⟩ := Fin.ext (by
      show e.val = e.val / 128 * 128 + e.val % 128
      omega)
    rw [he, Cert.Kernel5Ideal.Moba.res_at]
    exact Cert.Reference5Ideal.Moba.out_at (Cert.Kernel5Ideal.Moba.Q m c) (Cert.Kernel5Ideal.Moba.K m c) (Cert.Kernel5Ideal.Moba.U m c)
      (Cert.Kernel5Ideal.Moba.KM m c) b ⟨e.val / 128, by omega⟩ R ⟨e.val % 128, by omega⟩
  funext i
  idx_vars i
  exact key _ _ _

/-- The kernel and the reference end equal, every operation exact. -/
theorem algebraic : Cert.algebraic_Kernel5Ideal_Reference5Ideal_pre_finite_qkm := by
  intro m g m' g' hpre hag
  refine ⟨fun c => Cert.Kernel5Ideal.Moba.res m c, ?_, ?_⟩
  · refine (θ_run _ _ _).mono (fun r h c => ?_) (Cert.Kernel5Ideal.Value.run_blocks m g)
    exact ⟨(h c).1.trans (Cert.Kernel5Ideal.Moba.final (finite hpre c)), (h c).2⟩
  · refine (θ_run _ _ _).mono (fun r h c => ?_) (Cert.Reference5Ideal.Value.run m' g')
    refine ⟨(h c).1.trans ?_, (h c).2⟩
    rw [Cert.Reference5Ideal.Read.val_main_v80_eq, (hag c).1, (hag c).2.1, (hag c).2.2.1, (hag c).2.2.2]
    exact result m c

end Cert.MobaClaim

end
-- ==== Proof.lean ====
/- The certificate: every claim of `Cert.Claim`, assembled. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite_qk
public import proofs.«01_k».proof.Proof.Gen.Pre_finite_qkm
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Reference2Ideal.Read
public import proofs.«01_k».proof.Proof.Gen.ReferenceIdeal.Read
public import proofs.«01_k».proof.Proof.FfnClaim
public import proofs.«01_k».proof.Proof.OutClaim
public import proofs.«01_k».proof.Proof.ProjClaim
public import proofs.«01_k».proof.Proof.MlaClaim
public import proofs.«01_k».proof.Proof.MobaClaim
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite_qk.Gen.facts, Cert.Pre_finite_qkm.Gen.facts,
    fun m ρ _ => Cert.Kernel.Gen.frame m ρ, fun m ρ _ => Cert.KernelIdeal.Gen.frame m ρ, fun m ρ _ => Cert.KernelIdeal.Gen.frame m ρ,
    MlaClaim.frame_ri, MlaClaim.frame_ri_pre,
    fun m ρ _ => Cert.Kernel2.Gen.frame m ρ, fun m ρ _ => Cert.Kernel2Ideal.Gen.frame m ρ, FfnClaim.frame_ri,
    fun m ρ _ => Cert.Kernel3.Gen.frame m ρ, fun m ρ _ => Cert.Kernel3Ideal.Gen.frame m ρ, OutClaim.frame_ri,
    fun m ρ _ => Cert.Kernel4.Gen.frame m ρ, fun m ρ _ => Cert.Kernel4Ideal.Gen.frame m ρ, ProjClaim.frame_ri,
    fun m ρ _ => Cert.Kernel5.Gen.frame m ρ, fun m ρ _ => Cert.Kernel5Ideal.Gen.frame m ρ, fun m ρ _ => Cert.Kernel5Ideal.Gen.frame m ρ,
    MobaClaim.frame_ri, MobaClaim.frame_ri_pre,
    IdealRules.named_const.statement Cert.KernelIdeal.κ "mask" .f32 0xF149F2CA#32 ⊥ rfl, MlaClaim.algebraic,
    trivial, FfnClaim.algebraic, trivial, OutClaim.algebraic, trivial, ProjClaim.algebraic,
    IdealRules.named_const.statement Cert.Kernel5Ideal.κ "mask" .f32 0xF149F2CA#32 ⊥ rfl, MobaClaim.algebraic⟩

end Cert.Proof

end
